-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v35)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v35) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v121) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S2x16x1024x3072 : Shape := ⟨4, ![2, 16, 1024, 3072]⟩
abbrev S2x16x1024x1024 : Shape := ⟨4, ![2, 16, 1024, 1024]⟩
abbrev S2x16x1024x128 : Shape := ⟨4, ![2, 16, 1024, 128]⟩
abbrev S1x1x512x1024 : Shape := ⟨4, ![1, 1, 512, 1024]⟩
abbrev S1x1x64x1024 : Shape := ⟨4, ![1, 1, 64, 1024]⟩
abbrev S1x1x512x128 : Shape := ⟨4, ![1, 1, 512, 128]⟩
abbrev S640x1024 : Shape := ⟨2, ![640, 1024]⟩
abbrev S64x1024 : Shape := ⟨2, ![64, 1024]⟩
abbrev S512x1024 : Shape := ⟨2, ![512, 1024]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 20
  | .smem => 0
  | _ => 0

abbrev bufTy : (tb : Table) → Fin (tcTables nBuf tb) → BufTy
  | .hbm, ⟨0, _⟩ => ⟨S2x16x1024x3072, .bf16⟩
  | .hbm, ⟨1, _⟩ => ⟨S2x16x1024x1024, .f32⟩
  | .hbm, ⟨2, _⟩ => ⟨S2x16x1024x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1x1x64x1024, .bf16⟩
  | .local _ .vmem, ⟨5, _⟩ => ⟨S1x1x64x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x64x1024, .bf16⟩
  | .local _ .vmem, ⟨11, _⟩ => ⟨S1x1x64x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S1x1x512x1024, .f32⟩
  | .local _ .vmem, ⟨15, _⟩ => ⟨S1x1x512x1024, .f32⟩
  | .local _ .vmem, ⟨16, _⟩ => ⟨S1x1x512x128, .f32⟩
  | .local _ .vmem, ⟨17, _⟩ => ⟨S1x1x512x128, .f32⟩
  | .local _ .vmem, ⟨18, _⟩ => ⟨S640x1024, .bf16⟩
  | .local _ .vmem, ⟨19, _⟩ => ⟨S640x1024, .bf16⟩
  | _, _ => ⟨S2x16x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 2], ![false, false, false]⟩

@[reducible] def k0_t1_loop : Scf.Loop 32 :=
  let c0_i32 : BitVec 32 := 0#32
  let c4_i32 : BitVec 32 := 4#32
  let v34 : BitVec 32 := Scalar.addi c0_i32 c4_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  v35
def k0_off1 (k0_t1 : Fin k0_t1_loop.trips) : Fin 4 → Nat :=
  let c0_38 : Index := 0#32
  let c0_39 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v55 : Index := Scalar.indexCast v36
  let c0_40 : Index := 0#32
  ![0, 0, v55.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v58 : Index := Scalar.indexCast v36
  let c0_41 : Index := 0#32
  ![v58.toNat, 0]
def k0_off3 (k0_t1 : Fin k0_t1_loop.trips) : Fin 4 → Nat :=
  let c0_52 : Index := 0#32
  let c0_53 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v87 : Index := Scalar.indexCast v36
  let c128 : Index := 128#32
  ![0, 0, v87.toNat, 128]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v90 : Index := Scalar.indexCast v36
  let c128_54 : Index := 128#32
  ![v90.toNat, 128]
def k0_off5 (k0_t1 : Fin k0_t1_loop.trips) : Fin 4 → Nat :=
  let c0_65 : Index := 0#32
  let c0_66 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v119 : Index := Scalar.indexCast v36
  let c256 : Index := 256#32
  ![0, 0, v119.toNat, 256]
def k0_off6 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v122 : Index := Scalar.indexCast v36
  let c256_67 : Index := 256#32
  ![v122.toNat, 256]
def k0_off7 (k0_t1 : Fin k0_t1_loop.trips) : Fin 4 → Nat :=
  let c0_77 : Index := 0#32
  let c0_78 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v151 : Index := Scalar.indexCast v36
  let c384 : Index := 384#32
  ![0, 0, v151.toNat, 384]
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v154 : Index := Scalar.indexCast v36
  let c384_79 : Index := 384#32
  ![v154.toNat, 384]
def k0_off9 (k0_t1 : Fin k0_t1_loop.trips) : Fin 4 → Nat :=
  let c0_89 : Index := 0#32
  let c0_90 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v183 : Index := Scalar.indexCast v36
  let c512 : Index := 512#32
  ![0, 0, v183.toNat, 512]
def k0_off10 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v186 : Index := Scalar.indexCast v36
  let c512_91 : Index := 512#32
  ![v186.toNat, 512]
def k0_off11 (k0_t1 : Fin k0_t1_loop.trips) : Fin 4 → Nat :=
  let c0_102 : Index := 0#32
  let c0_103 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v215 : Index := Scalar.indexCast v36
  let c640 : Index := 640#32
  ![0, 0, v215.toNat, 640]
def k0_off12 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v218 : Index := Scalar.indexCast v36
  let c640_104 : Index := 640#32
  ![v218.toNat, 640]
def k0_off13 (k0_t1 : Fin k0_t1_loop.trips) : Fin 4 → Nat :=
  let c0_114 : Index := 0#32
  let c0_115 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v247 : Index := Scalar.indexCast v36
  let c768 : Index := 768#32
  ![0, 0, v247.toNat, 768]
def k0_off14 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v250 : Index := Scalar.indexCast v36
  let c768_116 : Index := 768#32
  ![v250.toNat, 768]
def k0_off15 (k0_t1 : Fin k0_t1_loop.trips) : Fin 4 → Nat :=
  let c0_126 : Index := 0#32
  let c0_127 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v279 : Index := Scalar.indexCast v36
  let c896 : Index := 896#32
  ![0, 0, v279.toNat, 896]
def k0_off16 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v282 : Index := Scalar.indexCast v36
  let c896_128 : Index := 896#32
  ![v282.toNat, 896]
def k0_off17 (k0_t1 : Fin k0_t1_loop.trips) : Fin 4 → Nat :=
  let c0_138 : Index := 0#32
  let c0_139 : Index := 0#32
  let c0_i32 : BitVec 32 := 0#32
  let c1_i32 : BitVec 32 := 1#32
  let arg14 : BitVec 32 := Scf.iv c0_i32 c1_i32 k0_t1
  let c128_i32 : BitVec 32 := 128#32
  let v35 : BitVec 32 := Scalar.muli arg14 c128_i32
  let v36 : BitVec 32 := v35
  let v311 : Index := Scalar.indexCast v36
  let c0_140 : Index := 0#32
  ![0, 0, v311.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c15_i32 : BitVec 32 := 15#32
  let v2 : BitVec 32 := Scalar.minsi v1 c15_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c15_i32 : BitVec 32 := 15#32
  let v2 : BitVec 32 := Scalar.minsi v1 c15_i32
  let c2_i32 : BitVec 32 := 2#32
  let c0_i32 : BitVec 32 := 0#32
  ![arg0.toNat, arg1.toNat, v2.toNat, c2_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16x1024x3072 : Shape := ⟨4, ![2, 16, 1024, 3072]⟩
abbrev S2x1024x16x3072 : Shape := ⟨4, ![2, 1024, 16, 3072]⟩
abbrev S2x16384x3x8x128 : Shape := ⟨5, ![2, 16384, 3, 8, 128]⟩
abbrev S2x16384x1x8x128 : Shape := ⟨5, ![2, 16384, 1, 8, 128]⟩
abbrev S2x16384x8x128 : Shape := ⟨4, ![2, 16384, 8, 128]⟩
abbrev S2x8x16384x128 : Shape := ⟨4, ![2, 8, 16384, 128]⟩
abbrev S16384 : Shape := ⟨1, ![16384]⟩
abbrev S129 : Shape := ⟨1, ![129]⟩
abbrev S_ : Shape := ⟨0, ![]⟩
abbrev S16384x1 : Shape := ⟨2, ![16384, 1]⟩
abbrev S1x129 : Shape := ⟨2, ![1, 129]⟩
abbrev S16384x129 : Shape := ⟨2, ![16384, 129]⟩
abbrev S16384x129x1 : Shape := ⟨3, ![16384, 129, 1]⟩
abbrev S2x8x16384x129x128 : Shape := ⟨5, ![2, 8, 16384, 129, 128]⟩
abbrev S2x8x16384x129 : Shape := ⟨4, ![2, 8, 16384, 129]⟩
abbrev S2x8x16384 : Shape := ⟨3, ![2, 8, 16384]⟩
abbrev S2x8x16384x1 : Shape := ⟨4, ![2, 8, 16384, 1]⟩
abbrev S2x1024x16x1024 : Shape := ⟨4, ![2, 1024, 16, 1024]⟩
abbrev S2x16x1024x1024 : Shape := ⟨4, ![2, 16, 1024, 1024]⟩
abbrev S2x16384x8 : Shape := ⟨3, ![2, 16384, 8]⟩
abbrev S2x1024x16x8 : Shape := ⟨4, ![2, 1024, 16, 8]⟩
abbrev S2x16x1024x8 : Shape := ⟨4, ![2, 16, 1024, 8]⟩
abbrev S2x16x1024x128 : Shape := ⟨4, ![2, 16, 1024, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x16x1024x3072, .bf16⟩
  | .hbm, ⟨1, _⟩ => ⟨S2x16x1024x3072, .f32⟩
  | .hbm, ⟨2, _⟩ => ⟨S2x1024x16x3072, .f32⟩
  | .hbm, ⟨3, _⟩ => ⟨S2x16384x3x8x128, .f32⟩
  | .hbm, ⟨4, _⟩ => ⟨S2x16384x1x8x128, .f32⟩
  | .hbm, ⟨5, _⟩ => ⟨S2x16384x8x128, .f32⟩
  | .hbm, ⟨6, _⟩ => ⟨S2x8x16384x128, .f32⟩
  | .hbm, ⟨7, _⟩ => ⟨S2x16384x1x8x128, .f32⟩
  | .hbm, ⟨8, _⟩ => ⟨S2x16384x8x128, .f32⟩
  | .hbm, ⟨9, _⟩ => ⟨S2x8x16384x128, .f32⟩
  | .hbm, ⟨10, _⟩ => ⟨S2x16384x1x8x128, .f32⟩
  | .hbm, ⟨11, _⟩ => ⟨S2x16384x8x128, .f32⟩
  | .hbm, ⟨12, _⟩ => ⟨S2x8x16384x128, .f32⟩
  | .hbm, ⟨13, _⟩ => ⟨S16384, .i32⟩
  | .hbm, ⟨14, _⟩ => ⟨S129, .i32⟩
  | .hbm, ⟨15, _⟩ => ⟨S_, .i32⟩
  | .hbm, ⟨16, _⟩ => ⟨S129, .i32⟩
  | .hbm, ⟨17, _⟩ => ⟨S129, .i32⟩
  | .hbm, ⟨18, _⟩ => ⟨S_, .i32⟩
  | .hbm, ⟨19, _⟩ => ⟨S129, .i32⟩
  | .hbm, ⟨20, _⟩ => ⟨S129, .i32⟩
  | .hbm, ⟨21, _⟩ => ⟨S16384x1, .i32⟩
  | .hbm, ⟨22, _⟩ => ⟨S1x129, .i32⟩
  | .hbm, ⟨23, _⟩ => ⟨S16384x129, .i32⟩
  | .hbm, ⟨24, _⟩ => ⟨S16384x129, .i32⟩
  | .hbm, ⟨25, _⟩ => ⟨S16384x129, .i32⟩
  | .hbm, ⟨26, _⟩ => ⟨S_, .i32⟩
  | .hbm, ⟨27, _⟩ => ⟨S16384x129, .i32⟩
  | .hbm, ⟨28, _⟩ => ⟨S16384x129, .i1⟩
  | .hbm, ⟨29, _⟩ => ⟨S_, .i32⟩
  | .hbm, ⟨30, _⟩ => ⟨S16384x129, .i32⟩
  | .hbm, ⟨31, _⟩ => ⟨S16384x129, .i1⟩
  | .hbm, ⟨32, _⟩ => ⟨S16384x129, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S16384x129, .i32⟩
  | .hbm, ⟨37, _⟩ => ⟨S16384x129, .i32⟩
  | .hbm, ⟨38, _⟩ => ⟨S_, .i32⟩
  | .hbm, ⟨39, _⟩ => ⟨S16384x129, .i32⟩
  | .hbm, ⟨40, _⟩ => ⟨S16384x129, .i32⟩
  | .hbm, ⟨41, _⟩ => ⟨S16384x129x1, .i32⟩
  | .hbm, ⟨42, _⟩ => ⟨S2x8x16384x129x128, .f32⟩
  | .hbm, ⟨43, _⟩ => ⟨S16384x129x1, .i32⟩
  | .hbm, ⟨44, _⟩ => ⟨S2x8x16384x129x128, .f32⟩
  | .hbm, ⟨45, _⟩ => ⟨S2x8x16384x129, .f32⟩
  | .hbm, ⟨46, _⟩ => ⟨S_, .f32⟩
  | .hbm, ⟨47, _⟩ => ⟨S_, .f32⟩
  | .hbm, ⟨48, _⟩ => ⟨S2x8x16384x129, .i1⟩
  | .hbm, ⟨49, _⟩ => ⟨S2x8x16384x129, .f32⟩
  | .hbm, ⟨50, _⟩ => ⟨S2x8x16384x129, .f32⟩
  | .hbm, ⟨51, _⟩ => ⟨S_, .f32⟩
  | .hbm, ⟨52, _⟩ => ⟨S2x8x16384, .f32⟩
  | .hbm, ⟨53, _⟩ => ⟨S2x8x16384x1, .f32⟩
  | .hbm, ⟨54, _⟩ => ⟨S2x8x16384x129, .f32⟩
  | .hbm, ⟨55, _⟩ => ⟨S2x8x16384x129, .f32⟩
  | .hbm, ⟨56, _⟩ => ⟨S2x8x16384x129, .f32⟩
  | .hbm, ⟨57, _⟩ => ⟨S_, .f32⟩
  | .hbm, ⟨58, _⟩ => ⟨S2x8x16384, .f32⟩
  | .hbm, ⟨59, _⟩ => ⟨S2x8x16384x1, .f32⟩
  | .hbm, ⟨60, _⟩ => ⟨S2x8x16384x128, .f32⟩
  | .hbm, ⟨61, _⟩ => ⟨S2x8x16384x128, .f32⟩
  | .hbm, ⟨62, _⟩ => ⟨S2x8x16384x128, .f32⟩
  | .hbm, ⟨63, _⟩ => ⟨S2x8x16384x1, .f32⟩
  | .hbm, ⟨64, _⟩ => ⟨S2x8x16384x1, .f32⟩
  | .hbm, ⟨65, _⟩ => ⟨S2x8x16384, .f32⟩
  | .hbm, ⟨66, _⟩ => ⟨S2x16384x8x128, .f32⟩
  | .hbm, ⟨67, _⟩ => ⟨S2x1024x16x1024, .f32⟩
  | .hbm, ⟨68, _⟩ => ⟨S2x16x1024x1024, .f32⟩
  | .hbm, ⟨69, _⟩ => ⟨S2x16384x8, .f32⟩
  | .hbm, ⟨70, _⟩ => ⟨S2x1024x16x8, .f32⟩
  | .hbm, ⟨71, _⟩ => ⟨S2x16x1024x8, .f32⟩
  | .hbm, ⟨72, _⟩ => ⟨S_, .i32⟩
  | .hbm, ⟨73, _⟩ => ⟨S_, .f32⟩
  | .hbm, ⟨74, _⟩ => ⟨S2x16x1024x128, .f32⟩
  | _, _ => ⟨S2x16x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_1 : Ref sig .tc := ⟨.hbm, 26, rfl⟩
abbrev main_v23 : Ref sig .tc := ⟨.hbm, 27, rfl⟩
abbrev main_v24 : Ref sig .tc := ⟨.hbm, 28, rfl⟩
abbrev main_c_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_3 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v28 : Ref sig .tc := ⟨.hbm, 40, rfl⟩
abbrev main_call1_v0 : Ref sig .tc := ⟨.hbm, 41, rfl⟩
abbrev main_v29 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_7 : Ref sig .tc := ⟨.hbm, 72, rfl⟩
abbrev main_call4_v0 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel2.lean ====
abbrev S32768x2048 : Shape := ⟨2, ![32768, 2048]⟩
abbrev S2x9x2048 : Shape := ⟨3, ![2, 9, 2048]⟩
abbrev S1x2048 : Shape := ⟨2, ![1, 2048]⟩
abbrev S2048x11264 : Shape := ⟨2, ![2048, 11264]⟩
abbrev S32768x5632 : Shape := ⟨2, ![32768, 5632]⟩
abbrev S1024x2048 : Shape := ⟨2, ![1024, 2048]⟩
abbrev S1x9x2048 : Shape := ⟨3, ![1, 9, 2048]⟩
abbrev S2048x512 : Shape := ⟨2, ![2048, 512]⟩
abbrev S1024x512 : Shape := ⟨2, ![1024, 512]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x11264, .f32⟩
  | .hbm, ⟨4, _⟩ => ⟨S2048x11264, .bf16⟩
  | .hbm, ⟨5, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c4_i32 : BitVec 32 := 4#32
  let v22 : BitVec 32 := Scalar.addi c0_i32_17 c4_i32
  let c1_i32 : BitVec 32 := 1#32
  ⟨c0_i32_17, v22, c1_i32⟩
def k0_mult1 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c256_i32 : BitVec 32 := 256#32
  let v23 : BitVec 32 := Scalar.muli arg9 c256_i32
  v23
def k0_off1 (k0_t1 : Fin k0_t1_loop.trips) : Fin 2 → Nat :=
  let c0_i32_17 : BitVec 32 := 0#32
  let c1_i32 : BitVec 32 := 1#32
  let arg9 : BitVec 32 := Scf.iv c0_i32_17 c1_i32 k0_t1
  let c256_i32 : BitVec 32 := 256#32
  let v23 : BitVec 32 := Scalar.muli arg9 c256_i32
  let v24 : BitVec 32 := v23
  let v25 : Index := Scalar.indexCast v24
  let c0_19 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x2048 : Shape := ⟨2, ![32768, 2048]⟩
abbrev S2x9x2048 : Shape := ⟨3, ![2, 9, 2048]⟩
abbrev S1x2048 : Shape := ⟨2, ![1, 2048]⟩
abbrev S2048x11264 : Shape := ⟨2, ![2048, 11264]⟩
abbrev S2x16384x2048 : Shape := ⟨3, ![2, 16384, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048 : Shape := ⟨1, ![2048]⟩
abbrev S1x1x2048 : Shape := ⟨3, ![1, 1, 2048]⟩
abbrev S2x16384x11264 : Shape := ⟨3, ![2, 16384, 11264]⟩
abbrev S2x16384x5632 : Shape := ⟨3, ![2, 16384, 5632]⟩
abbrev S32768x5632 : Shape := ⟨2, ![32768, 5632]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x11264, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x11264, .f32⟩
  | .hbm, ⟨36, _⟩ => ⟨S2x16384x5632, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S_, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S2x16384x5632, .f32⟩
  | .hbm, ⟨48, _⟩ => ⟨S32768x5632, .f32⟩
  | .hbm, ⟨49, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel3.lean ====
abbrev S32768x5632 : Shape := ⟨2, ![32768, 5632]⟩
abbrev S5632x2048 : Shape := ⟨2, ![5632, 2048]⟩
abbrev S32768x2048 : Shape := ⟨2, ![32768, 2048]⟩
abbrev S2x9x2048 : Shape := ⟨3, ![2, 9, 2048]⟩
abbrev S1024x5632 : Shape := ⟨2, ![1024, 5632]⟩
abbrev S5632x512 : Shape := ⟨2, ![5632, 512]⟩
abbrev S1024x512 : Shape := ⟨2, ![1024, 512]⟩
abbrev S1x9x512 : Shape := ⟨3, ![1, 9, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2x9x2048, .f32⟩
  | .hbm, ⟨4, _⟩ => ⟨S5632x2048, .bf16⟩
  | .hbm, ⟨5, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x9x512, .f32⟩
  | .local _ .vmem, ⟨7, _⟩ => ⟨S1x9x512, .f32⟩
  | .local _ .vmem, ⟨8, _⟩ => ⟨S1024x512, .f32⟩
  | .local _ .vmem, ⟨9, _⟩ => ⟨S1024x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S32768x5632 : Shape := ⟨2, ![32768, 5632]⟩
abbrev S5632x2048 : Shape := ⟨2, ![5632, 2048]⟩
abbrev S32768x2048 : Shape := ⟨2, ![32768, 2048]⟩
abbrev S2x9x2048 : Shape := ⟨3, ![2, 9, 2048]⟩
abbrev S2x16384x2048 : Shape := ⟨3, ![2, 16384, 2048]⟩
abbrev S2x1x2048 : Shape := ⟨3, ![2, 1, 2048]⟩
abbrev S2x2048 : Shape := ⟨2, ![2, 2048]⟩
abbrev S2x16384x5632 : Shape := ⟨3, ![2, 16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2x9x2048, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S32768x5632, .f32⟩
  | .hbm, ⟨9, _⟩ => ⟨S2x16384x5632, .f32⟩
  | .hbm, ⟨10, _⟩ => ⟨S2x16384x2048, .f32⟩
  | .hbm, ⟨11, _⟩ => ⟨S_, .f32⟩
  | .hbm, ⟨12, _⟩ => ⟨S2x1x2048, .f32⟩
  | .hbm, ⟨13, _⟩ => ⟨S2x1x2048, .f32⟩
  | .hbm, ⟨14, _⟩ => ⟨S2x16384x2048, .f32⟩
  | .hbm, ⟨15, _⟩ => ⟨S2x16384x2048, .f32⟩
  | .hbm, ⟨16, _⟩ => ⟨S2x16384x2048, .f32⟩
  | .hbm, ⟨17, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S32768x2048 : Shape := ⟨2, ![32768, 2048]⟩
abbrev S2x9x2048 : Shape := ⟨3, ![2, 9, 2048]⟩
abbrev S1x2048 : Shape := ⟨2, ![1, 2048]⟩
abbrev S2048x11264 : Shape := ⟨2, ![2048, 11264]⟩
abbrev S32768x5632 : Shape := ⟨2, ![32768, 5632]⟩
abbrev S1024x2048 : Shape := ⟨2, ![1024, 2048]⟩
abbrev S1x9x2048 : Shape := ⟨3, ![1, 9, 2048]⟩
abbrev S2048x512 : Shape := ⟨2, ![2048, 512]⟩
abbrev S1024x512 : Shape := ⟨2, ![1024, 512]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x11264, .f32⟩
  | .hbm, ⟨4, _⟩ => ⟨S2048x11264, .bf16⟩
  | .hbm, ⟨5, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c4_i32 : BitVec 32 := 4#32
  let v22 : BitVec 32 := Scalar.addi c0_i32_16 c4_i32
  let c1_i32 : BitVec 32 := 1#32
  ⟨c0_i32_16, v22, c1_i32⟩
def k0_mult1 (k0_t1 : Fin k0_t1_loop.trips) : BitVec 32 :=
  let c0_i32_16 : BitVec 32 := 0#32
  let c1_i32 : BitVec 32 := 1#32
  let arg9 : BitVec 32 := Scf.iv c0_i32_16 c1_i32 k0_t1
  let c256_i32 : BitVec 32 := 256#32
  let v23 : BitVec 32 := Scalar.muli arg9 c256_i32
  v23
def k0_off1 (k0_t1 : Fin k0_t1_loop.trips) : Fin 2 → Nat :=
  let c0_i32_16 : BitVec 32 := 0#32
  let c1_i32 : BitVec 32 := 1#32
  let arg9 : BitVec 32 := Scf.iv c0_i32_16 c1_i32 k0_t1
  let c256_i32 : BitVec 32 := 256#32
  let v23 : BitVec 32 := Scalar.muli arg9 c256_i32
  let v24 : BitVec 32 := v23
  let v25 : Index := Scalar.indexCast v24
  let c0_18 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32768x2048 : Shape := ⟨2, ![32768, 2048]⟩
abbrev S2x9x2048 : Shape := ⟨3, ![2, 9, 2048]⟩
abbrev S1x2048 : Shape := ⟨2, ![1, 2048]⟩
abbrev S2048x11264 : Shape := ⟨2, ![2048, 11264]⟩
abbrev S2x16384x2048 : Shape := ⟨3, ![2, 16384, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048 : Shape := ⟨1, ![2048]⟩
abbrev S1x1x2048 : Shape := ⟨3, ![1, 1, 2048]⟩
abbrev S2x16384x11264 : Shape := ⟨3, ![2, 16384, 11264]⟩
abbrev S2x16384x5632 : Shape := ⟨3, ![2, 16384, 5632]⟩
abbrev S32768x5632 : Shape := ⟨2, ![32768, 5632]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x11264, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x11264, .f32⟩
  | .hbm, ⟨36, _⟩ => ⟨S2x16384x5632, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S_, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S2x16384x5632, .f32⟩
  | .hbm, ⟨48, _⟩ => ⟨S32768x5632, .f32⟩
  | .hbm, ⟨49, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel5.lean ====
abbrev S32768x5632 : Shape := ⟨2, ![32768, 5632]⟩
abbrev S5632x2048 : Shape := ⟨2, ![5632, 2048]⟩
abbrev S32768x2048 : Shape := ⟨2, ![32768, 2048]⟩
abbrev S2x9x2048 : Shape := ⟨3, ![2, 9, 2048]⟩
abbrev S1024x5632 : Shape := ⟨2, ![1024, 5632]⟩
abbrev S5632x512 : Shape := ⟨2, ![5632, 512]⟩
abbrev S1024x512 : Shape := ⟨2, ![1024, 512]⟩
abbrev S1x9x512 : Shape := ⟨3, ![1, 9, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2x9x2048, .f32⟩
  | .hbm, ⟨4, _⟩ => ⟨S5632x2048, .bf16⟩
  | .hbm, ⟨5, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x9x512, .f32⟩
  | .local _ .vmem, ⟨7, _⟩ => ⟨S1x9x512, .f32⟩
  | .local _ .vmem, ⟨8, _⟩ => ⟨S1024x512, .f32⟩
  | .local _ .vmem, ⟨9, _⟩ => ⟨S1024x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32768x5632 : Shape := ⟨2, ![32768, 5632]⟩
abbrev S5632x2048 : Shape := ⟨2, ![5632, 2048]⟩
abbrev S32768x2048 : Shape := ⟨2, ![32768, 2048]⟩
abbrev S2x9x2048 : Shape := ⟨3, ![2, 9, 2048]⟩
abbrev S2x16384x2048 : Shape := ⟨3, ![2, 16384, 2048]⟩
abbrev S2x1x2048 : Shape := ⟨3, ![2, 1, 2048]⟩
abbrev S2x2048 : Shape := ⟨2, ![2, 2048]⟩
abbrev S2x16384x5632 : Shape := ⟨3, ![2, 16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2x9x2048, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S32768x5632, .f32⟩
  | .hbm, ⟨9, _⟩ => ⟨S2x16384x5632, .f32⟩
  | .hbm, ⟨10, _⟩ => ⟨S2x16384x2048, .f32⟩
  | .hbm, ⟨11, _⟩ => ⟨S_, .f32⟩
  | .hbm, ⟨12, _⟩ => ⟨S2x1x2048, .f32⟩
  | .hbm, ⟨13, _⟩ => ⟨S2x1x2048, .f32⟩
  | .hbm, ⟨14, _⟩ => ⟨S2x16384x2048, .f32⟩
  | .hbm, ⟨15, _⟩ => ⟨S2x16384x2048, .f32⟩
  | .hbm, ⟨16, _⟩ => ⟨S2x16384x2048, .f32⟩
  | .hbm, ⟨17, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S32768x2048 : Shape := ⟨2, ![32768, 2048]⟩
abbrev S2x9x2048 : Shape := ⟨3, ![2, 9, 2048]⟩
abbrev S1x2048 : Shape := ⟨2, ![1, 2048]⟩
abbrev S2048x2048 : Shape := ⟨2, ![2048, 2048]⟩
abbrev S1024x2048 : Shape := ⟨2, ![1024, 2048]⟩
abbrev S1x9x2048 : Shape := ⟨3, ![1, 9, 2048]⟩
abbrev S2048x1024 : Shape := ⟨2, ![2048, 1024]⟩
abbrev S1024x1024 : Shape := ⟨2, ![1024, 1024]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c4_i32 : BitVec 32 := 4#32
  let v15 : BitVec 32 := Scalar.addi c0_i32_13 c4_i32
  let c1_i32 : BitVec 32 := 1#32
  ⟨c0_i32_13, v15, c1_i32⟩
def k0_mult1 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c256_i32 : BitVec 32 := 256#32
  let v16 : BitVec 32 := Scalar.muli arg8 c256_i32
  v16
def k0_off1 (k0_t1 : Fin k0_t1_loop.trips) : Fin 2 → Nat :=
  let c0_i32_13 : BitVec 32 := 0#32
  let c1_i32 : BitVec 32 := 1#32
  let arg8 : BitVec 32 := Scf.iv c0_i32_13 c1_i32 k0_t1
  let c256_i32 : BitVec 32 := 256#32
  let v16 : BitVec 32 := Scalar.muli arg8 c256_i32
  let v17 : BitVec 32 := v16
  let v18 : Index := Scalar.indexCast v17
  let c0_15 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S32768x2048 : Shape := ⟨2, ![32768, 2048]⟩
abbrev S2x9x2048 : Shape := ⟨3, ![2, 9, 2048]⟩
abbrev S1x2048 : Shape := ⟨2, ![1, 2048]⟩
abbrev S2048x2048 : Shape := ⟨2, ![2048, 2048]⟩
abbrev S2x16384x2048 : Shape := ⟨3, ![2, 16384, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048 : Shape := ⟨1, ![2048]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x2048, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel7.lean ====
abbrev S32768x2048 : Shape := ⟨2, ![32768, 2048]⟩
abbrev S2048x4096 : Shape := ⟨2, ![2048, 4096]⟩
abbrev S2x9x2048 : Shape := ⟨3, ![2, 9, 2048]⟩
abbrev S1024x2048 : Shape := ⟨2, ![1024, 2048]⟩
abbrev S2048x512 : Shape := ⟨2, ![2048, 512]⟩
abbrev S1024x512 : Shape := ⟨2, ![1024, 512]⟩
abbrev S1x9x512 : Shape := ⟨3, ![1, 9, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x4096, .f32⟩
  | .hbm, ⟨2, _⟩ => ⟨S32768x2048, .f32⟩
  | .hbm, ⟨3, _⟩ => ⟨S2x9x2048, .f32⟩
  | .hbm, ⟨4, _⟩ => ⟨S2048x4096, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1x9x512, .f32⟩
  | .local _ .vmem, ⟨9, _⟩ => ⟨S1x9x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x9x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S32768x2048 : Shape := ⟨2, ![32768, 2048]⟩
abbrev S2048x4096 : Shape := ⟨2, ![2048, 4096]⟩
abbrev S2x9x2048 : Shape := ⟨3, ![2, 9, 2048]⟩
abbrev S2x16384x2048 : Shape := ⟨3, ![2, 16384, 2048]⟩
abbrev S2x1x2048 : Shape := ⟨3, ![2, 1, 2048]⟩
abbrev S2x2048 : Shape := ⟨2, ![2, 2048]⟩
abbrev S_ : Shape := ⟨0, ![]⟩
abbrev S2x16384x4096 : Shape := ⟨3, ![2, 16384, 4096]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x4096, .f32⟩
  | .hbm, ⟨2, _⟩ => ⟨S32768x2048, .f32⟩
  | .hbm, ⟨3, _⟩ => ⟨S2x9x2048, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S_, .f32⟩
  | .hbm, ⟨12, _⟩ => ⟨S2x16384x2048, .f32⟩
  | .hbm, ⟨13, _⟩ => ⟨S2x16384x2048, .f32⟩
  | .hbm, ⟨14, _⟩ => ⟨S2x16384x2048, .f32⟩
  | .hbm, ⟨15, _⟩ => ⟨S_, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S_, .f32⟩
  | .hbm, ⟨20, _⟩ => ⟨S2x16384x2048, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S2x16384x4096, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x16384x2048, .f32⟩
  | .hbm, ⟨33, _⟩ => ⟨S2x16384x2048, .f32⟩
  | .hbm, ⟨34, _⟩ => ⟨S_, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel8.lean ====
abbrev S32768x2048 : Shape := ⟨2, ![32768, 2048]⟩
abbrev S2x9x2048 : Shape := ⟨3, ![2, 9, 2048]⟩
abbrev S1x2048 : Shape := ⟨2, ![1, 2048]⟩
abbrev S2048x6176 : Shape := ⟨2, ![2048, 6176]⟩
abbrev S2048x6144 : Shape := ⟨2, ![2048, 6144]⟩
abbrev S32768x6144 : Shape := ⟨2, ![32768, 6144]⟩
abbrev S1024x2048 : Shape := ⟨2, ![1024, 2048]⟩
abbrev S1x9x2048 : Shape := ⟨3, ![1, 9, 2048]⟩
abbrev S2048x1024 : Shape := ⟨2, ![2048, 1024]⟩
abbrev S1024x1024 : Shape := ⟨2, ![1024, 1024]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x6176, .f32⟩
  | .hbm, ⟨4, _⟩ => ⟨S2048x6144, .f32⟩
  | .hbm, ⟨5, _⟩ => ⟨S2048x6144, .bf16⟩
  | .hbm, ⟨6, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c4_i32 : BitVec 32 := 4#32
  let v16 : BitVec 32 := Scalar.addi c0_i32_13 c4_i32
  let c1_i32 : BitVec 32 := 1#32
  ⟨c0_i32_13, v16, c1_i32⟩
def k0_mult1 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c256_i32 : BitVec 32 := 256#32
  let v17 : BitVec 32 := Scalar.muli arg8 c256_i32
  v17
def k0_off1 (k0_t1 : Fin k0_t1_loop.trips) : Fin 2 → Nat :=
  let c0_i32_13 : BitVec 32 := 0#32
  let c1_i32 : BitVec 32 := 1#32
  let arg8 : BitVec 32 := Scf.iv c0_i32_13 c1_i32 k0_t1
  let c256_i32 : BitVec 32 := 256#32
  let v17 : BitVec 32 := Scalar.muli arg8 c256_i32
  let v18 : BitVec 32 := v17
  let v19 : Index := Scalar.indexCast v18
  let c0_15 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S32768x2048 : Shape := ⟨2, ![32768, 2048]⟩
abbrev S2x9x2048 : Shape := ⟨3, ![2, 9, 2048]⟩
abbrev S1x2048 : Shape := ⟨2, ![1, 2048]⟩
abbrev S2048x6176 : Shape := ⟨2, ![2048, 6176]⟩
abbrev S2x16384x2048 : Shape := ⟨3, ![2, 16384, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048 : Shape := ⟨1, ![2048]⟩
abbrev S1x1x2048 : Shape := ⟨3, ![1, 1, 2048]⟩
abbrev S2x16384x6176 : Shape := ⟨3, ![2, 16384, 6176]⟩
abbrev S2x16384x6144 : Shape := ⟨3, ![2, 16384, 6144]⟩
abbrev S32768x6144 : Shape := ⟨2, ![32768, 6144]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x6176, .f32⟩
  | .hbm, ⟨4, _⟩ => ⟨S2x16384x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x6176, .f32⟩
  | .hbm, ⟨36, _⟩ => ⟨S2x16384x6144, .f32⟩
  | .hbm, ⟨37, _⟩ => ⟨S32768x6144, .f32⟩
  | .hbm, ⟨38, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel9.lean ====
abbrev S32768x2048 : Shape := ⟨2, ![32768, 2048]⟩
abbrev S32768x6144 : Shape := ⟨2, ![32768, 6144]⟩
abbrev S2048 : Shape := ⟨1, ![2048]⟩
abbrev S2048x2048 : Shape := ⟨2, ![2048, 2048]⟩
abbrev S2x9x2048 : Shape := ⟨3, ![2, 9, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S1x9x512 : Shape := ⟨3, ![1, 9, 512]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩

abbrev nBuf : Space → Nat
  | .hbm => 10
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x6144, .bf16⟩
  | .hbm, ⟨3, _⟩ => ⟨S2048, .f32⟩
  | .hbm, ⟨4, _⟩ => ⟨S2048x2048, .f32⟩
  | .hbm, ⟨5, _⟩ => ⟨S32768x2048, .f32⟩
  | .hbm, ⟨6, _⟩ => ⟨S2x9x2048, .f32⟩
  | .hbm, ⟨7, _⟩ => ⟨S1x2048, .f32⟩
  | .hbm, ⟨8, _⟩ => ⟨S2048x2048, .bf16⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S512x512, .f32⟩
  | .local _ .vmem, ⟨10, _⟩ => ⟨S512x512, .f32⟩
  | .local _ .vmem, ⟨11, _⟩ => ⟨S1x9x512, .f32⟩
  | .local _ .vmem, ⟨12, _⟩ => ⟨S1x9x512, .f32⟩
  | .local _ .vmem, ⟨13, _⟩ => ⟨S512x512, .f32⟩
  | .local _ .vmem, ⟨14, _⟩ => ⟨S512x512, .f32⟩
  | .local _ .vmem, ⟨15, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x9x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S32768x2048 : Shape := ⟨2, ![32768, 2048]⟩
abbrev S32768x6144 : Shape := ⟨2, ![32768, 6144]⟩
abbrev S2048 : Shape := ⟨1, ![2048]⟩
abbrev S2048x2048 : Shape := ⟨2, ![2048, 2048]⟩
abbrev S2x9x2048 : Shape := ⟨3, ![2, 9, 2048]⟩
abbrev S2x16384x2048 : Shape := ⟨3, ![2, 16384, 2048]⟩
abbrev S2x1x2048 : Shape := ⟨3, ![2, 1, 2048]⟩
abbrev S2x2048 : Shape := ⟨2, ![2, 2048]⟩
abbrev S2x16384x4x512 : Shape := ⟨4, ![2, 16384, 4, 512]⟩
abbrev S_ : Shape := ⟨0, ![]⟩
abbrev S2x16384x4 : Shape := ⟨3, ![2, 16384, 4]⟩
abbrev S2x16384x4x1 : Shape := ⟨4, ![2, 16384, 4, 1]⟩
abbrev S4x512 : Shape := ⟨2, ![4, 512]⟩
abbrev S1x1x4x512 : Shape := ⟨4, ![1, 1, 4, 512]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x6144, .bf16⟩
  | .hbm, ⟨3, _⟩ => ⟨S2048, .f32⟩
  | .hbm, ⟨4, _⟩ => ⟨S2048x2048, .f32⟩
  | .hbm, ⟨5, _⟩ => ⟨S32768x2048, .f32⟩
  | .hbm, ⟨6, _⟩ => ⟨S2x9x2048, .f32⟩
  | .hbm, ⟨7, _⟩ => ⟨S2x16384x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S32768x2048, .bf16⟩
  | .hbm, ⟨12, _⟩ => ⟨S32768x2048, .f32⟩
  | .hbm, ⟨13, _⟩ => ⟨S2x16384x2048, .f32⟩
  | .hbm, ⟨14, _⟩ => ⟨S32768x2048, .f32⟩
  | .hbm, ⟨15, _⟩ => ⟨S2x16384x4x512, .f32⟩
  | .hbm, ⟨16, _⟩ => ⟨S2x16384x4x512, .f32⟩
  | .hbm, ⟨17, _⟩ => ⟨S_, .f32⟩
  | .hbm, ⟨18, _⟩ => ⟨S2x16384x4, .f32⟩
  | .hbm, ⟨19, _⟩ => ⟨S2x16384x4x1, .f32⟩
  | .hbm, ⟨20, _⟩ => ⟨S_, .f32⟩
  | .hbm, ⟨21, _⟩ => ⟨S2x16384x4x1, .f32⟩
  | .hbm, ⟨22, _⟩ => ⟨S2x16384x4x1, .f32⟩
  | .hbm, ⟨23, _⟩ => ⟨S_, .f32⟩
  | .hbm, ⟨24, _⟩ => ⟨S2x16384x4x1, .f32⟩
  | .hbm, ⟨25, _⟩ => ⟨S2x16384x4x1, .f32⟩
  | .hbm, ⟨26, _⟩ => ⟨S2x16384x4x1, .f32⟩
  | .hbm, ⟨27, _⟩ => ⟨S2x16384x4x512, .f32⟩
  | .hbm, ⟨28, _⟩ => ⟨S2x16384x4x512, .f32⟩
  | .hbm, ⟨29, _⟩ => ⟨S4x512, .f32⟩
  | .hbm, ⟨30, _⟩ => ⟨S1x1x4x512, .f32⟩
  | .hbm, ⟨31, _⟩ => ⟨S2x16384x4x512, .f32⟩
  | .hbm, ⟨32, _⟩ => ⟨S2x16384x4x512, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S_, .f32⟩
  | .hbm, ⟨37, _⟩ => ⟨S2x16384x2048, .f32⟩
  | .hbm, ⟨38, _⟩ => ⟨S2x16384x2048, .f32⟩
  | .hbm, ⟨39, _⟩ => ⟨S_, .f32⟩
  | .hbm, ⟨40, _⟩ => ⟨S2x16384x2048, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel10.lean ====
abbrev S32768x2048 : Shape := ⟨2, ![32768, 2048]⟩
abbrev S2x9x2048 : Shape := ⟨3, ![2, 9, 2048]⟩
abbrev S1x2048 : Shape := ⟨2, ![1, 2048]⟩
abbrev S2048x9216 : Shape := ⟨2, ![2048, 9216]⟩
abbrev S3x128 : Shape := ⟨2, ![3, 128]⟩
abbrev S2048x3x3x1024 : Shape := ⟨4, ![2048, 3, 3, 1024]⟩
abbrev S3x2048x3x1024 : Shape := ⟨4, ![3, 2048, 3, 1024]⟩
abbrev S3x2048x3072 : Shape := ⟨3, ![3, 2048, 3072]⟩
abbrev S_ : Shape := ⟨0, ![]⟩
abbrev S3x1x128 : Shape := ⟨3, ![3, 1, 128]⟩
abbrev S3x2x128 : Shape := ⟨3, ![3, 2, 128]⟩
abbrev S3x2x1x128 : Shape := ⟨4, ![3, 2, 1, 128]⟩
abbrev S16384 : Shape := ⟨1, ![16384]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S1x2048x3072 : Shape := ⟨3, ![1, 2048, 3072]⟩
abbrev S2048x3072 : Shape := ⟨2, ![2048, 3072]⟩
abbrev S1x2x1x128 : Shape := ⟨4, ![1, 2, 1, 128]⟩
abbrev S2x1x128 : Shape := ⟨3, ![2, 1, 128]⟩
abbrev S2x1x16384x3072 : Shape := ⟨4, ![2, 1, 16384, 3072]⟩
abbrev S1024x2048 : Shape := ⟨2, ![1024, 2048]⟩
abbrev S1x9x2048 : Shape := ⟨3, ![1, 9, 2048]⟩
abbrev S2048x1024 : Shape := ⟨2, ![2048, 1024]⟩
abbrev S1x1x128 : Shape := ⟨3, ![1, 1, 128]⟩
abbrev S1024x128 : Shape := ⟨2, ![1024, 128]⟩
abbrev S1x1x1024x1024 : Shape := ⟨4, ![1, 1, 1024, 1024]⟩
abbrev S8x1024x128 : Shape := ⟨3, ![8, 1024, 128]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1x1024x128 : Shape := ⟨3, ![1, 1024, 128]⟩
abbrev S1x128 : Shape := ⟨2, ![1, 128]⟩
abbrev S1024 : Shape := ⟨1, ![1024]⟩
abbrev S1024x1 : Shape := ⟨2, ![1024, 1]⟩
abbrev S1x1x1024x128 : Shape := ⟨4, ![1, 1, 1024, 128]⟩

abbrev nBuf : Space → Nat
  | .hbm => 47
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2x9x2048, .f32⟩
  | .hbm, ⟨2, _⟩ => ⟨S1x2048, .f32⟩
  | .hbm, ⟨3, _⟩ => ⟨S2048x9216, .f32⟩
  | .hbm, ⟨4, _⟩ => ⟨S3x128, .f32⟩
  | .hbm, ⟨5, _⟩ => ⟨S3x128, .f32⟩
  | .hbm, ⟨6, _⟩ => ⟨S2048x9216, .bf16⟩
  | .hbm, ⟨7, _⟩ => ⟨S2048x3x3x1024, .bf16⟩
  | .hbm, ⟨8, _⟩ => ⟨S3x2048x3x1024, .bf16⟩
  | .hbm, ⟨9, _⟩ => ⟨S3x2048x3072, .bf16⟩
  | .hbm, ⟨10, _⟩ => ⟨S_, .f32⟩
  | .hbm, ⟨11, _⟩ => ⟨S3x128, .f32⟩
  | .hbm, ⟨12, _⟩ => ⟨S3x128, .f32⟩
  | .hbm, ⟨13, _⟩ => ⟨S3x1x128, .f32⟩
  | .hbm, ⟨14, _⟩ => ⟨S3x1x128, .f32⟩
  | .hbm, ⟨15, _⟩ => ⟨S3x2x128, .f32⟩
  | .hbm, ⟨16, _⟩ => ⟨S3x2x1x128, .f32⟩
  | .hbm, ⟨17, _⟩ => ⟨S16384, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S16384x1, .f32⟩
  | .hbm, ⟨33, _⟩ => ⟨S1x64, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x128, .f32⟩
  | .hbm, ⟨40, _⟩ => ⟨S16384x64, .f32⟩
  | .hbm, ⟨41, _⟩ => ⟨S16384x128, .f32⟩
  | .hbm, ⟨42, _⟩ => ⟨S1x2048x3072, .bf16⟩
  | .hbm, ⟨43, _⟩ => ⟨S2048x3072, .bf16⟩
  | .hbm, ⟨44, _⟩ => ⟨S1x2x1x128, .f32⟩
  | .hbm, ⟨45, _⟩ => ⟨S2x1x128, .f32⟩
  | .hbm, ⟨46, _⟩ => ⟨S2x1x16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x1x128, .f32⟩
  | .local _ .vmem, ⟨8, _⟩ => ⟨S1x1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x1x1024x1024, .bf16⟩
  | .local _ .vmem, ⟨14, _⟩ => ⟨S1x1x1024x1024, .bf16⟩
  | .local _ .vmem, ⟨15, _⟩ => ⟨S1024x2048, .bf16⟩
  | .local _ .vmem, ⟨16, _⟩ => ⟨S8x1024x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_80 : BitVec 32 := 0#32
  let c4_i32 : BitVec 32 := 4#32
  let v97 : BitVec 32 := Scalar.addi c0_i32_80 c4_i32
  let c1_i32 : BitVec 32 := 1#32
  ⟨c0_i32_80, v97, c1_i32⟩
def k0_mult1 (k0_t1 : Fin k0_t1_loop.trips) : BitVec 32 :=
  let c0_i32_80 : BitVec 32 := 0#32
  let c1_i32 : BitVec 32 := 1#32
  let arg12 : BitVec 32 := Scf.iv c0_i32_80 c1_i32 k0_t1
  let c256_i32 : BitVec 32 := 256#32
  let v98 : BitVec 32 := Scalar.muli arg12 c256_i32
  v98
def k0_off1 (k0_t1 : Fin k0_t1_loop.trips) : Fin 2 → Nat :=
  let c0_i32_80 : BitVec 32 := 0#32
  let c1_i32 : BitVec 32 := 1#32
  let arg12 : BitVec 32 := Scf.iv c0_i32_80 c1_i32 k0_t1
  let c256_i32 : BitVec 32 := 256#32
  let v98 : BitVec 32 := Scalar.muli arg12 c256_i32
  let v99 : BitVec 32 := v98
  let v100 : Index := Scalar.indexCast v99
  let c0_82 : Index := 0#32
  ![v100.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S32768x2048 : Shape := ⟨2, ![32768, 2048]⟩
abbrev S2x9x2048 : Shape := ⟨3, ![2, 9, 2048]⟩
abbrev S1x2048 : Shape := ⟨2, ![1, 2048]⟩
abbrev S2048x9216 : Shape := ⟨2, ![2048, 9216]⟩
abbrev S3x128 : Shape := ⟨2, ![3, 128]⟩
abbrev S2x16384x2048 : Shape := ⟨3, ![2, 16384, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048 : Shape := ⟨1, ![2048]⟩
abbrev S1x1x2048 : Shape := ⟨3, ![1, 1, 2048]⟩
abbrev S2x16384x9216 : Shape := ⟨3, ![2, 16384, 9216]⟩
abbrev S2x16384x3x3x8x128 : Shape := ⟨6, ![2, 16384, 3, 3, 8, 128]⟩
abbrev S2x16384x3x1x8x128 : Shape := ⟨6, ![2, 16384, 3, 1, 8, 128]⟩
abbrev S2x16384x3x8x128 : Shape := ⟨5, ![2, 16384, 3, 8, 128]⟩
abbrev S16384 : Shape := ⟨1, ![16384]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S2x16384x1x8x128 : Shape := ⟨5, ![2, 16384, 1, 8, 128]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S1x128 : Shape := ⟨2, ![1, 128]⟩
abbrev S128 : Shape := ⟨1, ![128]⟩
abbrev S1x1x1x128 : Shape := ⟨4, ![1, 1, 1, 128]⟩
abbrev S2x16384x8x64 : Shape := ⟨4, ![2, 16384, 8, 64]⟩
abbrev S2x16384x1x3072 : Shape := ⟨4, ![2, 16384, 1, 3072]⟩
abbrev S2x1x16384x3072 : Shape := ⟨4, ![2, 1, 16384, 3072]⟩

abbrev nBuf : Space → Nat
  | .hbm => 143
  | .vmem => 0
  | .smem => 0
  | _ => 0

abbrev hbmTy0_0 (i : Nat) : BufTy := match i % 128 with
  | 0 => ⟨S32768x2048, .f32⟩
  | 1 => ⟨S2x9x2048, .f32⟩
  | 2 => ⟨S1x2048, .f32⟩
  | 3 => ⟨S2048x9216, .f32⟩
  | 4 => ⟨S3x128, .f32⟩
  | 5 => ⟨S3x128, .f32⟩
  | 6 => ⟨S2x16384x2048, .f32⟩
  | 7 => ⟨S2x1x2048, .f32⟩
  | 8 => ⟨S2x2048, .f32⟩
  | 9 => ⟨S2x1x2048, .f32⟩
  | 10 => ⟨S2x1x2048, .f32⟩
  | 11 => ⟨S2x2048, .f32⟩
  | 12 => ⟨S2x1x2048, .f32⟩
  | 13 => ⟨S2x16384x2048, .f32⟩
  | 14 => ⟨S_, .f32⟩
  | 15 => ⟨S2x16384, .f32⟩
  | 16 => ⟨S2x16384x1, .f32⟩
  | 17 => ⟨S_, .f32⟩
  | 18 => ⟨S2x16384x1, .f32⟩
  | 19 => ⟨S2x16384x1, .f32⟩
  | 20 => ⟨S_, .f32⟩
  | 21 => ⟨S2x16384x1, .f32⟩
  | 22 => ⟨S2x16384x1, .f32⟩
  | 23 => ⟨S2x16384x1, .f32⟩
  | 24 => ⟨S2x16384x2048, .f32⟩
  | 25 => ⟨S2x16384x2048, .f32⟩
  | 26 => ⟨S2048, .f32⟩
  | 27 => ⟨S1x1x2048, .f32⟩
  | 28 => ⟨S2x16384x2048, .f32⟩
  | 29 => ⟨S2x16384x2048, .f32⟩
  | 30 => ⟨S_, .f32⟩
  | 31 => ⟨S2x1x2048, .f32⟩
  | 32 => ⟨S2x1x2048, .f32⟩
  | 33 => ⟨S2x16384x2048, .f32⟩
  | 34 => ⟨S2x16384x2048, .f32⟩
  | 35 => ⟨S2x16384x2048, .f32⟩
  | 36 => ⟨S2x16384x2048, .f32⟩
  | 37 => ⟨S2x16384x9216, .f32⟩
  | 38 => ⟨S2x16384x3x3x8x128, .f32⟩
  | 39 => ⟨S2x16384x3x1x8x128, .f32⟩
  | 40 => ⟨S2x16384x3x8x128, .f32⟩
  | 41 => ⟨S16384, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S16384x1, .f32⟩
  | 57 => ⟨S1x64, .f32⟩
  | 58 => ⟨S16384x64, .f32⟩
  | 59 => ⟨S16384x64, .f32⟩
  | 60 => ⟨S16384x64, .f32⟩
  | 61 => ⟨S16384x64, .f32⟩
  | 62 => ⟨S1x16384x1x64, .f32⟩
  | 63 => ⟨S16384x64, .f32⟩
  | 64 => ⟨S1x16384x1x64, .f32⟩
  | 65 => ⟨S2x16384x1x8x128, .f32⟩
  | 66 => ⟨S2x16384x8x128, .f32⟩
  | 67 => ⟨S2x16384x8x128, .f32⟩
  | 68 => ⟨S_, .f32⟩
  | 69 => ⟨S2x16384x8, .f32⟩
  | 70 => ⟨S2x16384x8x1, .f32⟩
  | 71 => ⟨S_, .f32⟩
  | 72 => ⟨S2x16384x8x1, .f32⟩
  | 73 => ⟨S2x16384x8x1, .f32⟩
  | 74 => ⟨S_, .f32⟩
  | 75 => ⟨S2x16384x8x1, .f32⟩
  | 76 => ⟨S2x16384x8x1, .f32⟩
  | 77 => ⟨S2x16384x8x1, .f32⟩
  | 78 => ⟨S2x16384x8x128, .f32⟩
  | 79 => ⟨S2x16384x8x128, .f32⟩
  | 80 => ⟨S1x128, .f32⟩
  | 81 => ⟨S128, .f32⟩
  | 82 => ⟨S1x1x1x128, .f32⟩
  | 83 => ⟨S2x16384x8x128, .f32⟩
  | 84 => ⟨S2x16384x8x128, .f32⟩
  | 85 => ⟨S2x16384x8x64, .f32⟩
  | 86 => ⟨S2x16384x8x64, .f32⟩
  | 87 => ⟨S2x16384x8x64, .f32⟩
  | 88 => ⟨S2x16384x8x64, .f32⟩
  | 89 => ⟨S2x16384x8x64, .f32⟩
  | 90 => ⟨S2x16384x8x64, .f32⟩
  | 91 => ⟨S2x16384x8x64, .f32⟩
  | 92 => ⟨S2x16384x8x64, .f32⟩
  | 93 => ⟨S2x16384x8x64, .f32⟩
  | 94 => ⟨S2x16384x8x64, .f32⟩
  | 95 => ⟨S2x16384x8x64, .f32⟩
  | 96 => ⟨S2x16384x8x64, .f32⟩
  | 97 => ⟨S2x16384x8x128, .f32⟩
  | 98 => ⟨S_, .f32⟩
  | 99 => ⟨S2x16384x8x128, .f32⟩
  | 100 => ⟨S2x16384x8x128, .f32⟩
  | 101 => ⟨S2x16384x1x8x128, .f32⟩
  | 102 => ⟨S2x16384x8x128, .f32⟩
  | 103 => ⟨S2x16384x8x128, .f32⟩
  | 104 => ⟨S_, .f32⟩
  | 105 => ⟨S2x16384x8, .f32⟩
  | 106 => ⟨S2x16384x8x1, .f32⟩
  | 107 => ⟨S_, .f32⟩
  | 108 => ⟨S2x16384x8x1, .f32⟩
  | 109 => ⟨S2x16384x8x1, .f32⟩
  | 110 => ⟨S_, .f32⟩
  | 111 => ⟨S2x16384x8x1, .f32⟩
  | 112 => ⟨S2x16384x8x1, .f32⟩
  | 113 => ⟨S2x16384x8x1, .f32⟩
  | 114 => ⟨S2x16384x8x128, .f32⟩
  | 115 => ⟨S2x16384x8x128, .f32⟩
  | 116 => ⟨S1x128, .f32⟩
  | 117 => ⟨S128, .f32⟩
  | 118 => ⟨S1x1x1x128, .f32⟩
  | 119 => ⟨S2x16384x8x128, .f32⟩
  | 120 => ⟨S2x16384x8x128, .f32⟩
  | 121 => ⟨S2x16384x8x64, .f32⟩
  | 122 => ⟨S2x16384x8x64, .f32⟩
  | 123 => ⟨S2x16384x8x64, .f32⟩
  | 124 => ⟨S2x16384x8x64, .f32⟩
  | 125 => ⟨S2x16384x8x64, .f32⟩
  | 126 => ⟨S2x16384x8x64, .f32⟩
  | 127 => ⟨S2x16384x8x64, .f32⟩
  | _ => ⟨S32768x2048, .f32⟩

abbrev hbmTy0_1 (i : Nat) : BufTy := match i % 128 with
  | 0 => ⟨S2x16384x8x64, .f32⟩
  | 1 => ⟨S2x16384x8x64, .f32⟩
  | 2 => ⟨S2x16384x8x64, .f32⟩
  | 3 => ⟨S2x16384x8x64, .f32⟩
  | 4 => ⟨S2x16384x8x64, .f32⟩
  | 5 => ⟨S2x16384x8x128, .f32⟩
  | 6 => ⟨S2x16384x1x8x128, .f32⟩
  | 7 => ⟨S2x16384x8x128, .f32⟩
  | 8 => ⟨S2x16384x1x8x128, .f32⟩
  | 9 => ⟨S2x16384x1x8x128, .f32⟩
  | 10 => ⟨S2x16384x1x8x128, .f32⟩
  | 11 => ⟨S2x16384x3x8x128, .f32⟩
  | 12 => ⟨S2x16384x1x3072, .f32⟩
  | 13 => ⟨S2x1x16384x3072, .f32⟩
  | 14 => ⟨S2x1x16384x3072, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_cst_12 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩

abbrev nD : Nat := 1
abbrev τ : Topo := Topo.v7x

variable {F : FTy → Type} [FloatOps F]
-- ==== Proof.Attn.Softmax.lean ====
module

public import Idealize.ShloMosaic.PureOps.Ideal
public import Mathlib.Data.Finset.Fold
public import Mathlib.Algebra.BigOperators.Fin

@[expose] public section

/-!
# One row of a softmax over the extended reals

The four quantities an attention row is made of: the largest score, the sum of the exponentials, the weighted
mean of the values, and the logarithm of the sum. A key whose score is −∞ adds nothing to any of them, so a row
over a wide window of keys equals the row over the keys that count.
-/

noncomputable section

namespace Cert.Attn

open Idealize.ShloMosaic

variable {N M : ℕ}

/-- The largest of a row's scores (−∞ for none). -/
def rowMax (s : Fin N → EReal) : EReal := Finset.univ.fold max ⊥ s

/-- The softmax's denominator. -/
def rowDen (s : Fin N → EReal) : EReal := ∑ j, Ideal.exp (s j - rowMax s)

/-- The attention's result: the mean of `w` under the softmax's weights. -/
def rowOut (s w : Fin N → EReal) : EReal := Ideal.div (∑ j, Ideal.exp (s j - rowMax s) * w j) (rowDen s)

/-- The logarithm of the sum of the exponentials. -/
def rowLse (s : Fin N → EReal) : EReal := rowMax s + Ideal.log (rowDen s)

/-- The row's maximum as a supremum. -/
theorem rowMax_eq_sup (s : Fin N → EReal) : rowMax s = Finset.univ.sup s := rfl

variable {s : Fin N → EReal} {s' : Fin M → EReal} (e : Fin M → Fin N) (he : Function.Injective e)
  (hs : ∀ o, s (e o) = s' o) (hb : ∀ j, (∀ o, e o ≠ j) → s j = ⊥)

include hs hb in
/-- Keys at −∞ do not change the maximum. -/
theorem rowMax_reindex : rowMax s = rowMax s' := by
  rw [rowMax_eq_sup, rowMax_eq_sup]
  apply le_antisymm
  · refine Finset.sup_le fun j _ => ?_
    by_cases h : ∃ o, e o = j
    · obtain ⟨o, rfl⟩ := h
      rw [hs]
      exact Finset.le_sup (f := s') (Finset.mem_univ o)
    · rw [hb j fun o ho => h ⟨o, ho⟩]
      exact bot_le
  · refine Finset.sup_le fun o _ => ?_
    rw [← hs]
    exact Finset.le_sup (f := s) (Finset.mem_univ (e o))

include he in
/-- A sum over all keys is the sum over the chosen ones, when the others give nothing. -/
theorem sum_reindex (f : Fin N → EReal) (g : Fin M → EReal) (h : ∀ o, f (e o) = g o)
    (h0 : ∀ j, (∀ o, e o ≠ j) → f j = 0) : ∑ j, f j = ∑ o, g o := by
  rw [← Finset.sum_congr rfl fun o _ => h o]
  have hm := Finset.sum_map Finset.univ (⟨e, he⟩ : Fin M ↪ Fin N) f
  simp only [Function.Embedding.coeFn_mk] at hm
  rw [← hm]
  symm
  refine Finset.sum_subset (Finset.subset_univ _) fun j _ hj => h0 j fun o ho => hj ?_
  exact Finset.mem_map.mpr ⟨o, Finset.mem_univ o, ho⟩

/-- The weight of a key at −∞ is zero. -/
theorem exp_bot_sub (m : EReal) : Ideal.exp (⊥ - m) = 0 := by
  rw [sub_eq_add_neg, EReal.bot_add]
  rfl

include he hs hb in
/-- Keys at −∞ do not change the denominator. -/
theorem rowDen_reindex : rowDen s = rowDen s' := by
  unfold rowDen
  rw [rowMax_reindex e hs hb]
  refine sum_reindex e he _ _ (fun o => by rw [hs]) fun j hj => ?_
  rw [hb j hj, exp_bot_sub]

include he hs hb in
/-- Keys at −∞ do not change the result, whatever values stand beside them. -/
theorem rowOut_reindex {w : Fin N → EReal} {w' : Fin M → EReal} (hw : ∀ o, s' o ≠ ⊥ → w (e o) = w' o) :
    rowOut s w = rowOut s' w' := by
  unfold rowOut
  rw [rowDen_reindex e he hs hb, rowMax_reindex e hs hb]
  congr 1
  refine sum_reindex e he _ _ (fun o => ?_) fun j hj => ?_
  · rw [hs]
    by_cases h : s' o = ⊥
    · rw [h, exp_bot_sub, zero_mul, zero_mul]
    · rw [hw o h]
  · rw [hb j hj, exp_bot_sub, zero_mul]

include he hs hb in
/-- Keys at −∞ do not change the logarithm of the sum. -/
theorem rowLse_reindex : rowLse s = rowLse s' := by
  unfold rowLse
  rw [rowDen_reindex e he hs hb, rowMax_reindex e hs hb]

end Cert.Attn

end
-- ==== Proof.Attn.Head.lean ====
module

public import proofs.«01_k».proof.Proof.Gen.KernelIdeal.Skeleton
public import proofs.«01_k».proof.Proof.Attn.Softmax
public import Idealize.ShloMosaic.Lib.Pointwise

@[expose] public section

/-!
# One head of the kernel's body

What the body computes for one head of one group of 128 queries, from the queries, the 256 keys and values of the
window and the mask.
-/

set_option maxRecDepth 16384

noncomputable section

namespace Cert.Attn

open Idealize.ShloMosaic Cert.KernelIdeal Cert.KernelIdeal.Gen

/-- The scores of query `a`: its products with the keys the mask lets through, −∞ elsewhere. -/
def tileScore (ok : IVec S128x256 1) (q : Vec Ideal S1x1x128x128 .bf16) (kw : Vec Ideal S256x128 .bf16) (a : Fin 128)
    (j : Fin 256) : EReal :=
  Scalar.select (ok (ix2 a j)) (∑ d : Fin 128, q (ix4 0 0 a d) * kw (ix2 j d)) ⊥

/-- The mask's constant is −∞. -/
theorem mask_eq : (Named.named κ "mask" 0xF149F2CA#32 : Ideal .f32) = (⊥ : EReal) :=
  IdealRules.named_const.ideal_named_scalar _ _ _ _ rfl

/-- The maximum starts from −∞. -/
theorem neg_inf : Ideal.ofBits .f32 0xFF800000#32 = ⊥ := by
  simp [Ideal.ofBits, Ideal.ieee]

variable (ok : IVec S128x256 1)

/-- The head's result. -/
theorem head_out (q : Vec Ideal S1x1x128x128 .bf16) (kw vw : Vec Ideal S256x128 .bf16) (a d : Fin 128) :
    k0_pay18 (F := Ideal) ok q kw vw (ix4 0 0 a d)
      = rowOut (tileScore ok q kw a) fun j => vw (ix2 j d) := by
  unfold_payloads
  pointwise []
  rw [mask_eq, neg_inf]
  rfl

/-- The eight heads' logarithms of sums, one lane each, the other lanes zero. -/
theorem heads_lse (v33 : IVec S128x128 32) (q0 q1 q2 q3 q4 q5 q6 q7 : Vec Ideal S1x1x128x128 .bf16)
    (k0 k1 k2 k3 k4 k5 k6 k7 : Vec Ideal S256x128 .bf16) (v31 v32 : IVec S128x256 32) (arg2 c0 c1 : BitVec 32)
    (k : Fin k0_t1_loop.trips) (hok : k0_pay4 arg2 v31 v32 c0 c1 k = ok) (a l : Fin 128)
    (hv : v33 (ix2 a l) = BitVec.ofNat 32 l.val) :
    k0_pay58 (F := Ideal) v33 ok
        (k0_pay52 v33 ok
          (k0_pay40 v33
            (k0_pay33 v33 ok
              (k0_pay26 v33 ok
                (k0_pay13 v33 k0_pay5 (k0_pay7 arg2 v31 v32 c0 c1 k q0 k0) (k0_pay9 arg2 v31 v32 c0 c1 k q0 k0))
                (k0_pay15 ok q1 k1) (k0_pay19 v33) (k0_pay20 ok q1 k1) q2 k2)
              (k0_pay27 q3) k3)
            (k0_pay35 ok q4 k4) (k0_pay37 ok q4 k4))
          (k0_pay42 ok q5 k5) (k0_pay44 ok q5 k5) q6 k6)
        q7 k7 (ix4 0 0 a l)
      = if h : l.val < 8 then
          rowLse (tileScore ok (![q0, q1, q2, q3, q4, q5, q6, q7] ⟨l.val, h⟩)
            (![k0, k1, k2, k3, k4, k5, k6, k7] ⟨l.val, h⟩) a)
        else 0 := by
  subst hok
  generalize hk : k0_pay4 arg2 v31 v32 c0 c1 k = ok
  unfold k0_pay7 k0_pay9 k0_pay8 k0_pay7 k0_pay6
  rw [hk]
  clear hk
  have sel : ∀ (h : ℕ) (_ : h < 8) (x y : EReal),
      Scalar.select (IntOp.cmpi CmpIPredicate.eq (v33 (ix2 a l)) (BitVec.ofNat 32 h)) x y
        = if l.val = h then x else y := by
    intro h hh x y
    have hl := l.isLt
    rw [hv]
    by_cases e : l.val = h
    · rw [if_pos e, e]
      simp [IntOp.cmpi, Scalar.select]
    · rw [if_neg e]
      have ne : (BitVec.ofNat 32 l.val == BitVec.ofNat 32 h) = false := by
        rw [beq_eq_false_iff_ne]
        intro hc
        apply e
        have := congrArg BitVec.toNat hc
        simp only [BitVec.toNat_ofNat] at this
        omega
      simp [IntOp.cmpi, Scalar.select, ne]
  unfold_payloads
  pointwise []
  rw [mask_eq, neg_inf, sel 7 (by decide), sel 6 (by decide), sel 5 (by decide), sel 4 (by decide), sel 3 (by decide),
    sel 2 (by decide), sel 1 (by decide), sel 0 (by decide)]
  clear sel hv
  obtain ⟨l, hl⟩ := l
  by_cases h : l < 8
  · rw [dif_pos h]

    interval_cases l <;> rfl
  · rw [dif_neg h]
    rw [if_neg (by show l ≠ _; omega), if_neg (by show l ≠ _; omega), if_neg (by show l ≠ _; omega),
      if_neg (by show l ≠ _; omega), if_neg (by show l ≠ _; omega), if_neg (by show l ≠ _; omega),
      if_neg (by show l ≠ _; omega), if_neg (by show l ≠ _; omega)]

end Cert.Attn

end
-- ==== Proof.Attn.Mask.lean ====
module

public import proofs.«01_k».proof.Proof.Gen.KernelIdeal.Skeleton
public import Idealize.ShloMosaic.Lib.Pointwise
public import Idealize.ShloMosaic.Lib.Affine

@[expose] public section

/-!
# The mask of the kernel's window

Query `a` of group `k` of block `n` sees key `j` of its window when the key lies within 64 rows of the query and
inside the sequence.
-/

set_option maxRecDepth 16384

noncomputable section

namespace Cert.Attn

open Idealize.ShloMosaic Cert.KernelIdeal Cert.KernelIdeal.Gen

/-- The lane numbers of the window. -/
abbrev laneK : IVec S128x256 32 := iota .tc S128x256 32 [1] iota_S128x256_d1_w32

/-- Key minus query, as a signed number. -/
theorem diff_toInt (a : Fin 128) (j : Fin 256) :
    (IntOp.subi (BitVec.ofNat 32 j.val) (BitVec.ofNat 32 a.val)).toInt = (j.val : ℤ) - a.val := by
  have := a.isLt
  have := j.isLt
  unfold IntOp.subi
  rw [BitVec.toInt_sub, BitVec.toInt_eq_toNat_of_lt (by simp; omega), BitVec.toInt_eq_toNat_of_lt (by simp; omega)]
  simp only [BitVec.toNat_ofNat]
  rw [Nat.mod_eq_of_lt (by omega), Nat.mod_eq_of_lt (by omega)]
  exact Int.bmod_eq_of_le (by omega) (by omega)

/-- The key's row in the sequence, as a signed number. -/
theorem pos_toInt (n : Fin 2) (k : Fin k0_t1_loop.trips) (j : Fin 256) :
    (IntOp.addi (Scalar.subi (Scalar.addi (Scalar.muli (BitVec.ofNat 32 n.val) 512#32)
        (Scalar.muli (Scf.iv 0#32 1#32 k.val) 128#32)) 64#32) (BitVec.ofNat 32 j.val)).toInt
      = (512 * n.val + 128 * k.val + j.val : ℤ) - 64 := by
  have base : ∀ (n : Fin 2) (k : Fin k0_t1_loop.trips),
      Scalar.subi (Scalar.addi (Scalar.muli (BitVec.ofNat 32 n.val) 512#32)
        (Scalar.muli (Scf.iv 0#32 1#32 k.val) 128#32)) 64#32
        = BitVec.ofInt 32 ((512 * n.val + 128 * k.val : ℤ) - 64) := by decide +kernel
  have hk : k.val < 4 := k.isLt
  have := n.isLt
  have := j.isLt
  rw [base]
  unfold IntOp.addi
  rw [BitVec.toInt_add, BitVec.toInt_ofInt, BitVec.toInt_eq_toNat_of_lt (by simp; omega)]
  simp only [BitVec.toNat_ofNat]
  rw [Nat.mod_eq_of_lt (by omega), Int.bmod_eq_of_le (n := (512 * n.val + 128 * k.val : ℤ) - 64) (by omega) (by omega)]
  rw [Int.bmod_eq_of_le (by omega) (by omega)]
  ring

/-- When the mask lets key `j` through. -/
theorem mask_iff (n : Fin 2) (k : Fin k0_t1_loop.trips) (a : Fin 128) (j : Fin 256) :
    k0_pay4 (BitVec.ofNat 32 n.val) laneK k0_pay3 0#32 1#32 k (ix2 a j) = 1#1
      ↔ (a.val ≤ j.val ∧ j.val ≤ a.val + 128)
        ∧ (64 ≤ 512 * n.val + 128 * k.val + j.val ∧ 512 * n.val + 128 * k.val + j.val < 1088) := by
  have h1 : (0#32 : BitVec 32).toInt = 0 := by decide
  have h2 : (128#32 : BitVec 32).toInt = 128 := by decide
  have h3 : (1024#32 : BitVec 32).toInt = 1024 := by decide
  unfold_payloads
  pointwise []
  rw [IntOp.andi_eq_one, IntOp.andi_eq_one, IntOp.andi_eq_one, IntOp.cmpi_sge, IntOp.cmpi_sle, IntOp.cmpi_sge,
    IntOp.cmpi_slt, diff_toInt, pos_toInt, h1, h2, h3]
  omega

end Cert.Attn

end
-- ==== Proof.Attn.Window.lean ====
module

public import proofs.«01_k».proof.Proof.Attn.Head
public import proofs.«01_k».proof.Proof.Attn.Mask

@[expose] public section

/-!
# From a window of 256 keys to the 129 offsets of a query

A group of 128 queries shares a window of 256 keys, of which a query sees 129. This module states the block's result
by query and offset and shows that each head of each group computes it.
-/

set_option maxRecDepth 16384

noncomputable section

namespace Cert.Attn

open Idealize.ShloMosaic Cert.KernelIdeal Cert.KernelIdeal.Gen

/-- Column `d` of head `h`. -/
def col (h : Fin 8) (d : Fin 128) : Fin 1024 := ⟨128 * h.val + d.val, by omega⟩

/-- Row `a` of group `k`. -/
def grow (k : Fin k0_t1_loop.trips) (a : Fin 128) : Fin 512 :=
  ⟨128 * k.val + a.val, by have : k.val < 4 := k.isLt; omega⟩

/-- Row `j` of group `k`'s window, in the buffer of 640 keys. -/
def krow (k : Fin k0_t1_loop.trips) (j : Fin 256) : Fin 640 :=
  ⟨128 * k.val + j.val, by have : k.val < 4 := k.isLt; omega⟩

/-- The key of query `y` at offset `o`, in the buffer of 640 keys. -/
def orow (y : Fin 512) (o : Fin 129) : Fin 640 := ⟨y.val + o.val, by omega⟩

/-- The head of a column. -/
def headOf (c : Fin 1024) : Fin 8 := ⟨c.val / 128, by omega⟩

/-- The score of query `y` of block `n` at offset `o` in head `h`: −∞ when the key lies outside the sequence. -/
def winScore (n : ℕ) (Q : Vec Ideal S1x1x512x1024 .bf16) (K : Vec Ideal S640x1024 .bf16) (y : Fin 512) (h : Fin 8)
    (o : Fin 129) : EReal :=
  if 64 ≤ 512 * n + y.val + o.val ∧ 512 * n + y.val + o.val < 1088 then
    ∑ d : Fin 128, Q (ix4 0 0 y (col h d)) * K (ix2 (orow y o) (col h d))
  else ⊥

/-- The block's result at query `y` and column `c`. -/
def outAt (n : ℕ) (Q : Vec Ideal S1x1x512x1024 .bf16) (K V : Vec Ideal S640x1024 .bf16) (y : Fin 512) (c : Fin 1024) :
    EReal :=
  rowOut (winScore n Q K y (headOf c)) fun o => V (ix2 (orow y o) c)

/-- The block's logarithms of sums at query `y` and lane `l`. -/
def lseAt (n : ℕ) (Q : Vec Ideal S1x1x512x1024 .bf16) (K : Vec Ideal S640x1024 .bf16) (y : Fin 512) (l : Fin 128) :
    EReal :=
  if h : l.val < 8 then rowLse (winScore n Q K y ⟨l.val, h⟩) else 0

variable {n : Fin 2} {k : Fin k0_t1_loop.trips} {ok : IVec S128x256 1}
  (hok : k0_pay4 (BitVec.ofNat 32 n.val) laneK k0_pay3 0#32 1#32 k = ok)
  {Q : Vec Ideal S1x1x512x1024 .bf16} {K V : Vec Ideal S640x1024 .bf16} {h : Fin 8}
  {q : Vec Ideal S1x1x128x128 .bf16} {kw vw : Vec Ideal S256x128 .bf16}
  (hq : ∀ a d, q (ix4 0 0 a d) = Q (ix4 0 0 (grow k a) (col h d)))
  (hk : ∀ j d, kw (ix2 j d) = K (ix2 (krow k j) (col h d)))
  (hv : ∀ j d, vw (ix2 j d) = V (ix2 (krow k j) (col h d)))

/-- The window's key at offset `o` of query `a`. -/
def shift (a : Fin 128) (o : Fin 129) : Fin 256 := ⟨a.val + o.val, by omega⟩

theorem shift_inj (a : Fin 128) : Function.Injective (shift a) := fun o o' e => by
  have := congrArg Fin.val e
  simp only [shift] at this
  exact Fin.ext (by omega)

theorem krow_shift (a : Fin 128) (o : Fin 129) : krow k (shift a o) = orow (grow k a) o :=
  Fin.ext (by simp only [krow, shift, orow, grow]; omega)

include hok hq hk in
/-- The window's score at an offset is the query's score there. -/
theorem tileScore_shift (a : Fin 128) (o : Fin 129) :
    tileScore ok q kw a (shift a o) = winScore n.val Q K (grow k a) h o := by
  unfold tileScore winScore
  subst hok
  have ho := o.isLt
  have hm := mask_iff n k a (shift a o)
  have hs : (shift a o).val = a.val + o.val := rfl
  have hg : (grow k a).val = 128 * k.val + a.val := rfl
  by_cases e : 64 ≤ 512 * n.val + (grow k a).val + o.val ∧ 512 * n.val + (grow k a).val + o.val < 1088
  · rw [if_pos e, show Scalar.select _ _ (⊥ : EReal) = _ from if_pos (hm.mpr ⟨by omega, by omega⟩)]
    refine Finset.sum_congr rfl fun d _ => ?_
    rw [hq, hk, krow_shift]
  · rw [if_neg e, show Scalar.select _ _ (⊥ : EReal) = _ from if_neg fun hc => e (by
      have := hm.mp hc
      omega)]

include hok in
/-- The window's other keys are masked. -/
theorem tileScore_off (a : Fin 128) (j : Fin 256) (hj : ∀ o, shift a o ≠ j) : tileScore ok q kw a j = ⊥ := by
  unfold tileScore
  subst hok
  refine if_neg fun hc => ?_
  have := (mask_iff n k a j).mp hc
  refine hj ⟨j.val - a.val, by omega⟩ (Fin.ext ?_)
  simp only [shift]
  omega

include hok hq hk hv in
/-- One head of one group computes the block's result. -/
theorem tile_out (a d : Fin 128) :
    rowOut (tileScore ok q kw a) (fun j => vw (ix2 j d)) = outAt n.val Q K V (grow k a) (col h d) := by
  have hh : headOf (col h d) = h := Fin.ext (by simp only [headOf, col]; omega)
  unfold outAt
  rw [hh]
  refine rowOut_reindex (shift a) (shift_inj a) (tileScore_shift hok hq hk a) (tileScore_off hok a) fun o _ => ?_
  rw [hv, krow_shift]

include hok hq hk in
/-- One head of one group computes the block's logarithm of the sum. -/
theorem tile_lse (a : Fin 128) :
    rowLse (tileScore ok q kw a) = rowLse (winScore n.val Q K (grow k a) h) :=
  rowLse_reindex (shift a) (shift_inj a) (tileScore_shift hok hq hk a) (tileScore_off hok a)

end Cert.Attn

end
-- ==== Proof.Attn.Trip.lean ====
module

public import proofs.«01_k».proof.Proof.Gen.KernelIdeal.Value
public import proofs.«01_k».proof.Proof.Attn.Window

@[expose] public section

/-!
# One trip of the kernel's loop

Every piece that a trip stores holds the block's result on its rectangle.
-/

set_option maxRecDepth 16384

noncomputable section

namespace Cert.Attn

open Idealize.ShloMosaic Cert.KernelIdeal Cert.KernelIdeal.Gen

/-- The block's result. -/
def outBlk (n : ℕ) (Q : Vec Ideal S1x1x512x1024 .bf16) (K V : Vec Ideal S640x1024 .bf16) : Vec Ideal S1x1x512x1024 .f32 :=
  fun y => outAt n Q K V (y 2) (y 3)

/-- The block's logarithms of sums. -/
def lseBlk (n : ℕ) (Q : Vec Ideal S1x1x512x1024 .bf16) (K : Vec Ideal S640x1024 .bf16) : Vec Ideal S1x1x512x128 .f32 :=
  fun y => lseAt n Q K (y 2) (y 3)

/-- Where a trip stores and loads in the blocks. -/
theorem offs_block : ∀ k : Fin k0_t1_loop.trips,
    k0_off1 k = ![0, 0, 128 * k.val, 128 * 0] ∧ k0_off3 k = ![0, 0, 128 * k.val, 128 * 1]
    ∧ k0_off5 k = ![0, 0, 128 * k.val, 128 * 2] ∧ k0_off7 k = ![0, 0, 128 * k.val, 128 * 3]
    ∧ k0_off9 k = ![0, 0, 128 * k.val, 128 * 4] ∧ k0_off11 k = ![0, 0, 128 * k.val, 128 * 5]
    ∧ k0_off13 k = ![0, 0, 128 * k.val, 128 * 6] ∧ k0_off15 k = ![0, 0, 128 * k.val, 128 * 7]
    ∧ k0_off17 k = ![0, 0, 128 * k.val, 0] := by decide +kernel

/-- Where a trip loads in the buffers of keys and values. -/
theorem offs_window : ∀ k : Fin k0_t1_loop.trips,
    k0_off2 k = ![128 * k.val, 128 * 0] ∧ k0_off4 k = ![128 * k.val, 128 * 1]
    ∧ k0_off6 k = ![128 * k.val, 128 * 2] ∧ k0_off8 k = ![128 * k.val, 128 * 3]
    ∧ k0_off10 k = ![128 * k.val, 128 * 4] ∧ k0_off12 k = ![128 * k.val, 128 * 5]
    ∧ k0_off14 k = ![128 * k.val, 128 * 6] ∧ k0_off16 k = ![128 * k.val, 128 * 7] := by decide +kernel

/-- A load of one head's queries of one group. -/
theorem load_q (X : Vec Ideal S1x1x512x1024 .bf16) (k : Fin k0_t1_loop.trips) (h : Fin 8) {off : Fin 4 → ℕ}
    (ho : off = ![0, 0, 128 * k.val, 128 * h.val]) (inb) (a d : Fin 128) :
    View.ld X (Rect.unit (s := S1x1x512x1024) off ![1, 1, 128, 128] inb) (ix4 0 0 a d)
      = X (ix4 0 0 (grow k a) (col h d)) := by
  subst ho
  pointwise []
  rfl

/-- A load of one head's keys or values of one group's window. -/
theorem load_k (X : Vec Ideal S640x1024 .bf16) (k : Fin k0_t1_loop.trips) (h : Fin 8) {off : Fin 2 → ℕ}
    (ho : off = ![128 * k.val, 128 * h.val]) (inb) (j : Fin 256) (d : Fin 128) :
    View.ld X (Rect.unit (s := S640x1024) off ![256, 128] inb) (ix2 j d) = X (ix2 (krow k j) (col h d)) := by
  subst ho
  pointwise []
  rfl

/-- One head's piece of one group holds the block's result. -/
theorem piece_out {n : Fin 2} {k : Fin k0_t1_loop.trips} (h : Fin 8) (Q : Vec Ideal S1x1x512x1024 .bf16)
    (K V : Vec Ideal S640x1024 .bf16) {off4 : Fin 4 → ℕ} (h4 : off4 = ![0, 0, 128 * k.val, 128 * h.val])
    {off2 : Fin 2 → ℕ} (h2 : off2 = ![128 * k.val, 128 * h.val]) (inb inb2)
    (x : (Rect.unit (s := S1x1x512x1024) off4 ![1, 1, 128, 128] inb).shape.Idx) :
    k0_pay18 (F := Ideal) (k0_pay4 (BitVec.ofNat 32 n.val) laneK k0_pay3 0#32 1#32 k)
        (View.ld Q (Rect.unit (s := S1x1x512x1024) off4 ![1, 1, 128, 128] inb))
        (View.ld K (Rect.unit (s := S640x1024) off2 ![256, 128] inb2))
        (View.ld V (Rect.unit (s := S640x1024) off2 ![256, 128] inb2)) x
      = outBlk n.val Q K V ((Rect.unit (s := S1x1x512x1024) off4 ![1, 1, 128, 128] inb).emb x) := by
  obtain ⟨x0, x1, a, d, rfl⟩ : ∃ (x0 x1 : Fin 1) (a d : Fin 128), x = ix4 x0 x1 a d :=
    ⟨x 0, x 1, x 2, x 3, eq_ix4 x⟩
  obtain rfl : x0 = 0 := Subsingleton.elim _ _
  obtain rfl : x1 = 0 := Subsingleton.elim _ _
  refine (head_out _ _ _ _ a d).trans ?_
  rw [tile_out rfl (load_q Q k h h4 inb) (load_k K k h h2 inb2) (load_k V k h h2 inb2) a d]
  subst h4
  unfold outBlk
  congr 1
  · exact Fin.ext (by simp [grow, Rect.emb_apply])
  · exact Fin.ext (by simp [col, Rect.emb_apply])

/-- A group's logarithms of sums hold the block's. -/
theorem piece_lse {k : Fin k0_t1_loop.trips} {n : ℕ} {Q : Vec Ideal S1x1x512x1024 .bf16} {K : Vec Ideal S640x1024 .bf16}
    {off : Fin 4 → ℕ} (ho : off = ![0, 0, 128 * k.val, 0]) (inb) {P : Vec Ideal S1x1x128x128 .f32}
    (hP : ∀ a l : Fin 128, P (ix4 0 0 a l) = lseAt n Q K (grow k a) l)
    (x : (Rect.unit (s := S1x1x512x128) off ![1, 1, 128, 128] inb).shape.Idx) :
    P x = lseBlk n Q K ((Rect.unit (s := S1x1x512x128) off ![1, 1, 128, 128] inb).emb x) := by
  obtain ⟨x0, x1, a, l, rfl⟩ : ∃ (x0 x1 : Fin 1) (a l : Fin 128), x = ix4 x0 x1 a l :=
    ⟨x 0, x 1, x 2, x 3, eq_ix4 x⟩
  obtain rfl : x0 = 0 := Subsingleton.elim _ _
  obtain rfl : x1 = 0 := Subsingleton.elim _ _
  subst ho
  refine (hP a l).trans ?_
  unfold lseBlk
  congr 1
  · exact Fin.ext (by simp [grow, Rect.emb_apply])
  · exact Fin.ext (by simp [Rect.emb_apply])

/-- The eight heads' lanes hold the block's logarithms of sums. -/
theorem lanes_lse {n : Fin 2} {k : Fin k0_t1_loop.trips} {ok : IVec S128x256 1}
    (hok : k0_pay4 (BitVec.ofNat 32 n.val) laneK k0_pay3 0#32 1#32 k = ok)
    {Q : Vec Ideal S1x1x512x1024 .bf16} {K : Vec Ideal S640x1024 .bf16}
    {q0 q1 q2 q3 q4 q5 q6 q7 : Vec Ideal S1x1x128x128 .bf16} {k0 k1 k2 k3 k4 k5 k6 k7 : Vec Ideal S256x128 .bf16}
    (hq0 : ∀ a d, q0 (ix4 0 0 a d) = Q (ix4 0 0 (grow k a) (col 0 d)))
    (hk0 : ∀ j d, k0 (ix2 j d) = K (ix2 (krow k j) (col 0 d)))
    (hq1 : ∀ a d, q1 (ix4 0 0 a d) = Q (ix4 0 0 (grow k a) (col 1 d)))
    (hk1 : ∀ j d, k1 (ix2 j d) = K (ix2 (krow k j) (col 1 d)))
    (hq2 : ∀ a d, q2 (ix4 0 0 a d) = Q (ix4 0 0 (grow k a) (col 2 d)))
    (hk2 : ∀ j d, k2 (ix2 j d) = K (ix2 (krow k j) (col 2 d)))
    (hq3 : ∀ a d, q3 (ix4 0 0 a d) = Q (ix4 0 0 (grow k a) (col 3 d)))
    (hk3 : ∀ j d, k3 (ix2 j d) = K (ix2 (krow k j) (col 3 d)))
    (hq4 : ∀ a d, q4 (ix4 0 0 a d) = Q (ix4 0 0 (grow k a) (col 4 d)))
    (hk4 : ∀ j d, k4 (ix2 j d) = K (ix2 (krow k j) (col 4 d)))
    (hq5 : ∀ a d, q5 (ix4 0 0 a d) = Q (ix4 0 0 (grow k a) (col 5 d)))
    (hk5 : ∀ j d, k5 (ix2 j d) = K (ix2 (krow k j) (col 5 d)))
    (hq6 : ∀ a d, q6 (ix4 0 0 a d) = Q (ix4 0 0 (grow k a) (col 6 d)))
    (hk6 : ∀ j d, k6 (ix2 j d) = K (ix2 (krow k j) (col 6 d)))
    (hq7 : ∀ a d, q7 (ix4 0 0 a d) = Q (ix4 0 0 (grow k a) (col 7 d)))
    (hk7 : ∀ j d, k7 (ix2 j d) = K (ix2 (krow k j) (col 7 d)))
    (a l : Fin 128) :
    (if h : l.val < 8 then
        rowLse (tileScore ok (![q0, q1, q2, q3, q4, q5, q6, q7] ⟨l.val, h⟩)
          (![k0, k1, k2, k3, k4, k5, k6, k7] ⟨l.val, h⟩) a)
      else 0) = lseAt n.val Q K (grow k a) l := by
  unfold lseAt
  obtain ⟨l, hl⟩ := l
  by_cases h : l < 8
  · rw [dif_pos h, dif_pos h]
    interval_cases l
    · exact tile_lse (h := 0) hok hq0 hk0 a
    · exact tile_lse (h := 1) hok hq1 hk1 a
    · exact tile_lse (h := 2) hok hq2 hk2 a
    · exact tile_lse (h := 3) hok hq3 hk3 a
    · exact tile_lse (h := 4) hok hq4 hk4 a
    · exact tile_lse (h := 5) hok hq5 hk5 a
    · exact tile_lse (h := 6) hok hq6 hk6 a
    · exact tile_lse (h := 7) hok hq7 hk7 a
  · rw [dif_neg h, dif_neg h]

variable (𝒱 : Variants) (c : Dev nD) (bd : Option 𝒱.V) (i : grid0.Coords)
  (arg3 : Memref sig .tc .vmem S1x1x512x1024 .bf16) (harg3 : arg3.IsWhole)
  (arg4 : Memref sig .tc .vmem S1x1x512x1024 .bf16) (harg4 : arg4.IsWhole)
  (arg5 : Memref sig .tc .vmem S1x1x64x1024 .bf16) (harg5 : arg5.IsWhole)
  (arg6 : Memref sig .tc .vmem S1x1x64x1024 .bf16) (harg6 : arg6.IsWhole)
  (arg7 : Memref sig .tc .vmem S1x1x512x1024 .bf16) (harg7 : arg7.IsWhole)
  (arg8 : Memref sig .tc .vmem S1x1x64x1024 .bf16) (harg8 : arg8.IsWhole)
  (arg9 : Memref sig .tc .vmem S1x1x64x1024 .bf16) (harg9 : arg9.IsWhole)
  (arg10 : Memref sig .tc .vmem S1x1x512x1024 .f32) (harg10 : arg10.IsWhole)
  (arg11 : Memref sig .tc .vmem S1x1x512x128 .f32) (harg11 : arg11.IsWhole)
  (arg12 : Memref sig .tc .vmem S640x1024 .bf16) (harg12 : arg12.IsWhole)
  (arg13 : Memref sig .tc .vmem S640x1024 .bf16) (harg13 : arg13.IsWhole)
  (n : Fin 2)
  (X3 : BufTy.Contents (Elt Ideal) arg3.view.ty) (X12 : BufTy.Contents (Elt Ideal) arg12.view.ty)
  (X13 : BufTy.Contents (Elt Ideal) arg13.view.ty) (k : Fin k0_t1_loop.trips)

/-- The lanes of the logarithms of sums. -/
abbrev lanes : IVec S128x128 32 := iota .tc S128x128 32 [1] iota_S128x128_d1_w32

theorem lanes_apply (a l : Fin 128) : lanes (ix2 a l) = BitVec.ofNat 32 l.val := by
  pointwise []

/-- Every piece of a trip's results holds the block's result. -/
theorem trip_out : ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13
      (BitVec.ofNat 32 n.val) laneK lanes X3 X12 X13 k).1,
    ∀ x, p.2 x = outBlk n.val (arg3.view.read (Elt Ideal) X3) (arg12.view.read (Elt Ideal) X12)
      (arg13.view.read (Elt Ideal) X13) (p.1.emb x) := by
  obtain ⟨b0, b1, b2, b3, b4, b5, b6, b7, -⟩ := offs_block k
  obtain ⟨w0, w1, w2, w3, w4, w5, w6, w7⟩ := offs_window k
  unfold tripL_k0_t1 trip_k0_t1
  dsimp only
  delta trip_k0_t1.sl.r trip_k0_t1.sl.r_1 trip_k0_t1.sl.r_2 trip_k0_t1.sl.r_3 trip_k0_t1.sl.r_4 trip_k0_t1.sl.r_5 trip_k0_t1.sl.r_6 trip_k0_t1.sl.r_7 trip_k0_t1.sl.r_8 trip_k0_t1.sl.r_9 trip_k0_t1.sl.r_10 trip_k0_t1.sl.r_11 trip_k0_t1.sl.r_12 trip_k0_t1.sl.r_13 trip_k0_t1.sl.r_14 trip_k0_t1.sl.r_15 trip_k0_t1.sl.r_16 trip_k0_t1.sl.r_17 trip_k0_t1.sl.r_18 trip_k0_t1.sl.r_19
  intro p hp
  simp only [List.mem_cons, List.not_mem_nil, or_false] at hp
  rcases hp with rfl | rfl | rfl | rfl | rfl | rfl | rfl | rfl
  · exact fun x => piece_out 7 _ _ _ b7 w7 _ _ x
  · exact fun x => piece_out 6 _ _ _ b6 w6 _ _ x
  · exact fun x => piece_out 5 _ _ _ b5 w5 _ _ x
  · exact fun x => piece_out 4 _ _ _ b4 w4 _ _ x
  · exact fun x => piece_out 3 _ _ _ b3 w3 _ _ x
  · exact fun x => piece_out 2 _ _ _ b2 w2 _ _ x
  · exact fun x => piece_out 1 _ _ _ b1 w1 _ _ x
  · exact fun x => piece_out 0 _ _ _ b0 w0 _ _ x

/-- The one piece of a trip's logarithms of sums holds the block's. -/
theorem trip_lse : ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13
      (BitVec.ofNat 32 n.val) laneK lanes X3 X12 X13 k).2,
    ∀ x, p.2 x = lseBlk n.val (arg3.view.read (Elt Ideal) X3) (arg12.view.read (Elt Ideal) X12) (p.1.emb x) := by
  obtain ⟨b0, b1, b2, b3, b4, b5, b6, b7, b8⟩ := offs_block k
  obtain ⟨w0, w1, w2, w3, w4, w5, w6, w7⟩ := offs_window k
  unfold tripL_k0_t1 trip_k0_t1
  dsimp only
  delta trip_k0_t1.sl.r trip_k0_t1.sl.r_1 trip_k0_t1.sl.r_2 trip_k0_t1.sl.r_3 trip_k0_t1.sl.r_4 trip_k0_t1.sl.r_5 trip_k0_t1.sl.r_6 trip_k0_t1.sl.r_7 trip_k0_t1.sl.r_8 trip_k0_t1.sl.r_9 trip_k0_t1.sl.r_10 trip_k0_t1.sl.r_11 trip_k0_t1.sl.r_12 trip_k0_t1.sl.r_13 trip_k0_t1.sl.r_14 trip_k0_t1.sl.r_15 trip_k0_t1.sl.r_16 trip_k0_t1.sl.r_17 trip_k0_t1.sl.r_18 trip_k0_t1.sl.r_19
  intro p hp
  simp only [List.mem_cons, List.not_mem_nil, or_false] at hp
  subst hp
  dsimp only
  intro x
  refine piece_lse b8 _ ?_ x
  intro a l
  refine (heads_lse _ _ _ _ _ _ _ _ _ _ _ _ _ _ _ _ _ _ _ _ _ _ _ _ rfl a l (lanes_apply a l)).trans ?_
  exact lanes_lse rfl (load_q _ k 0 b0 _) (load_k _ k 0 w0 _) (load_q _ k 1 b1 _) (load_k _ k 1 w1 _)
    (load_q _ k 2 b2 _) (load_k _ k 2 w2 _) (load_q _ k 3 b3 _) (load_k _ k 3 w3 _)
    (load_q _ k 4 b4 _) (load_k _ k 4 w4 _) (load_q _ k 5 b5 _) (load_k _ k 5 w5 _)
    (load_q _ k 6 b6 _) (load_k _ k 6 w6 _) (load_q _ k 7 b7 _) (load_k _ k 7 w7 _) a l

end Cert.Attn

end
-- ==== Proof.Attn.Run.lean ====
module

public import proofs.«01_k».proof.Proof.Attn.Trip

@[expose] public section

/-!
# One run of the kernel's body

The run copies the block's keys and values and their neighbours into two buffers of 640 rows, and its loop leaves the
block's results.
-/

set_option maxRecDepth 16384

noncomputable section

namespace Cert.Attn

open Idealize.ShloMosaic Cert.KernelIdeal Cert.KernelIdeal.Gen

/-- The buffer of 640 rows: the last 64 rows of the block before, the block, the first 64 of the block after. -/
def bufAt (cur : Vec Ideal S1x1x512x1024 .bf16) (left right : Vec Ideal S1x1x64x1024 .bf16) :
    Vec Ideal S640x1024 .bf16 := fun y =>
  if h : (y 0).val < 64 then left (ix4 0 0 ⟨(y 0).val, h⟩ (y 1))
  else if h' : (y 0).val < 576 then cur (ix4 0 0 ⟨(y 0).val - 64, by omega⟩ (y 1))
  else right (ix4 0 0 ⟨(y 0).val - 576, by have : (y 0).val < 640 := (y 0).isLt; omega⟩ (y 1))

variable {cur : Vec Ideal S1x1x512x1024 .bf16} {left right : Vec Ideal S1x1x64x1024 .bf16}

theorem bufAt_left (y : S640x1024.Idx) {a : Fin 64} {d : Fin 1024} (h0 : (y 0).val = a.val) (h1 : y 1 = d) :
    bufAt cur left right y = left (ix4 0 0 a d) := by
  subst h1
  have := a.isLt
  unfold bufAt
  rw [dif_pos (by omega)]
  congr 2
  exact Fin.ext h0

theorem bufAt_cur (y : S640x1024.Idx) {a : Fin 512} {d : Fin 1024} (h0 : (y 0).val = 64 + a.val) (h1 : y 1 = d) :
    bufAt cur left right y = cur (ix4 0 0 a d) := by
  subst h1
  have := a.isLt
  unfold bufAt
  rw [dif_neg (by omega), dif_pos (by omega)]
  congr 2
  exact Fin.ext (by show (y 0).val - 64 = a.val; omega)

theorem bufAt_right (y : S640x1024.Idx) {a : Fin 64} {d : Fin 1024} (h0 : (y 0).val = 576 + a.val) (h1 : y 1 = d) :
    bufAt cur left right y = right (ix4 0 0 a d) := by
  subst h1
  have := a.isLt
  unfold bufAt
  rw [dif_neg (by omega), dif_neg (by omega)]
  congr 2
  exact Fin.ext (by show (y 0).val - 576 = a.val; omega)

/-- Three pieces that hold the neighbours and the block fill the buffer. -/
theorem canon_buf {P0 P2 : Vec Ideal S64x1024 .bf16} {P1 : Vec Ideal S512x1024 .bf16} (i0 i1 i2)
    (h0 : ∀ a d, P0 (ix2 a d) = left (ix4 0 0 a d)) (h1 : ∀ a d, P1 (ix2 a d) = cur (ix4 0 0 a d))
    (h2 : ∀ a d, P2 (ix2 a d) = right (ix4 0 0 a d)) :
    View.canon (Val := Elt Ideal) (s := S640x1024) (e := .bf16)
      [⟨Rect.unit ![576, 0] S64x1024.size i2, P2⟩, ⟨Rect.unit ![64, 0] S512x1024.size i1, P1⟩,
        ⟨Rect.unit ![0, 0] S64x1024.size i0, P0⟩] = bufAt cur left right := by
  funext y
  refine View.canon_apply_of_pieces (bufAt cur left right) _ ?_ y ?_
  · intro p hp
    simp only [List.mem_cons, List.not_mem_nil, or_false] at hp
    rcases hp with rfl | rfl | rfl
    · intro x
      obtain ⟨a, d, rfl⟩ : ∃ (a : Fin 64) (d : Fin 1024), x = ix2 a d := ⟨x 0, x 1, eq_ix2 x⟩
      exact (h2 a d).trans (bufAt_right _ (by simp [Rect.emb_apply]) (Fin.ext (by simp [Rect.emb_apply]))).symm
    · intro x
      obtain ⟨a, d, rfl⟩ : ∃ (a : Fin 512) (d : Fin 1024), x = ix2 a d := ⟨x 0, x 1, eq_ix2 x⟩
      exact (h1 a d).trans (bufAt_cur _ (by simp [Rect.emb_apply]) (Fin.ext (by simp [Rect.emb_apply]))).symm
    · intro x
      obtain ⟨a, d, rfl⟩ : ∃ (a : Fin 64) (d : Fin 1024), x = ix2 a d := ⟨x 0, x 1, eq_ix2 x⟩
      exact (h0 a d).trans (bufAt_left _ (by simp [Rect.emb_apply]) (Fin.ext (by simp [Rect.emb_apply]))).symm
  · obtain ⟨a, d, rfl⟩ : ∃ (a : Fin 640) (d : Fin 1024), y = ix2 a d := ⟨y 0, y 1, eq_ix2 y⟩
    have ha := a.isLt
    have hd := d.isLt
    by_cases h : a.val < 64
    · refine ⟨_, List.mem_cons_of_mem _ (List.mem_cons_of_mem _ List.mem_cons_self), ?_⟩
      rw [Rect.mem_set_unit]
      intro b
      fin_cases b
      · exact ⟨Nat.zero_le _, by show a.val < 0 + 64; omega⟩
      · exact ⟨Nat.zero_le _, by show d.val < 0 + 1024; omega⟩
    · by_cases h' : a.val < 576
      · refine ⟨_, List.mem_cons_of_mem _ List.mem_cons_self, ?_⟩
        rw [Rect.mem_set_unit]
        intro b
        fin_cases b
        · exact ⟨by show 64 ≤ a.val; omega, by show a.val < 64 + 512; omega⟩
        · exact ⟨Nat.zero_le _, by show d.val < 0 + 1024; omega⟩
      · refine ⟨_, List.mem_cons_self, ?_⟩
        rw [Rect.mem_set_unit]
        intro b
        fin_cases b
        · exact ⟨by show 576 ≤ a.val; omega, by show a.val < 576 + 64; omega⟩
        · exact ⟨Nat.zero_le _, by show d.val < 0 + 1024; omega⟩

/-- A load of a whole neighbour block, as two axes. -/
theorem flat64 (x : Vec Ideal S1x1x64x1024 .bf16) (inb) (a : Fin 64) (d : Fin 1024) :
    k0_pay59 (F := Ideal) (View.ld x (Rect.unit (s := S1x1x64x1024) ![0, 0, 0, 0] S1x1x64x1024.size inb)) (ix2 a d)
      = x (ix4 0 0 a d) := by
  unfold_payloads
  pointwise []

/-- A load of the whole block, as two axes. -/
theorem flat512 (x : Vec Ideal S1x1x512x1024 .bf16) (inb) (a : Fin 512) (d : Fin 1024) :
    k0_pay60 (F := Ideal) (View.ld x (Rect.unit (s := S1x1x512x1024) ![0, 0, 0, 0] S1x1x512x1024.size inb)) (ix2 a d)
      = x (ix4 0 0 a d) := by
  unfold_payloads
  pointwise []

variable (𝒱 : Variants) (c : Dev nD) (bd : Option 𝒱.V) (i : grid0.Coords)
  (arg3 : Memref sig .tc .vmem S1x1x512x1024 .bf16) (harg3 : arg3.IsWhole)
  (arg4 : Memref sig .tc .vmem S1x1x512x1024 .bf16) (harg4 : arg4.IsWhole)
  (arg5 : Memref sig .tc .vmem S1x1x64x1024 .bf16) (harg5 : arg5.IsWhole)
  (arg6 : Memref sig .tc .vmem S1x1x64x1024 .bf16) (harg6 : arg6.IsWhole)
  (arg7 : Memref sig .tc .vmem S1x1x512x1024 .bf16) (harg7 : arg7.IsWhole)
  (arg8 : Memref sig .tc .vmem S1x1x64x1024 .bf16) (harg8 : arg8.IsWhole)
  (arg9 : Memref sig .tc .vmem S1x1x64x1024 .bf16) (harg9 : arg9.IsWhole)
  (arg10 : Memref sig .tc .vmem S1x1x512x1024 .f32) (harg10 : arg10.IsWhole)
  (arg11 : Memref sig .tc .vmem S1x1x512x128 .f32) (harg11 : arg11.IsWhole)
  (arg12 : Memref sig .tc .vmem S640x1024 .bf16) (harg12 : arg12.IsWhole)
  (arg13 : Memref sig .tc .vmem S640x1024 .bf16) (harg13 : arg13.IsWhole)
  (x0 x1 : Vec Ideal S1x1x512x1024 .bf16) (x2 x3 : Vec Ideal S1x1x64x1024 .bf16)
  (x4 : Vec Ideal S1x1x512x1024 .bf16) (x5 x6 : Vec Ideal S1x1x64x1024 .bf16)

/-- The buffer of keys. -/
theorem keys_buf : arg12.view.read (Elt Ideal) (arg12.view.writes (Elt Ideal) arg12.view.junk
    (kernelRun0_A.sl.HS0_3 (F := Ideal) c arg4 harg4 arg5 harg5 arg6 harg6 x1 x2 x3)) = bufAt x1 x2 x3 := by
  rw [View.read_writes_junk_eq_canon]
  sl_unfold_words
  simp only [View.readAt_eq_ld, Memref.IsWhole.read_unread]
  exact canon_buf _ _ _ (flat64 x2 _) (flat512 x1 _) (flat64 x3 _)

/-- The buffer of values. -/
theorem values_buf : arg13.view.read (Elt Ideal) (arg13.view.writes (Elt Ideal) arg13.view.junk
    (kernelRun0_A.sl.HS1_3 (F := Ideal) c arg7 harg7 arg8 harg8 arg9 harg9 x4 x5 x6)) = bufAt x4 x5 x6 := by
  rw [View.read_writes_junk_eq_canon]
  sl_unfold_words
  simp only [View.readAt_eq_ld, Memref.IsWhole.read_unread]
  exact canon_buf _ _ _ (flat64 x5 _) (flat512 x4 _) (flat64 x6 _)

section
variable (n : Fin 2) (X3 : BufTy.Contents (Elt Ideal) arg3.view.ty) (X12 : BufTy.Contents (Elt Ideal) arg12.view.ty)
  (X13 : BufTy.Contents (Elt Ideal) arg13.view.ty)

/-- Every piece of the loop's first `t` trips holds the block's results. -/
theorem loop_pieces : ∀ t : ℕ, t ≤ k0_t1_loop.trips →
    (∀ p ∈ (pb_k0_t1 (F := Ideal) 𝒱 c bd i arg3 harg3 arg4 harg4 arg5 harg5 arg6 harg6 arg7 harg7 arg8 harg8 arg9 harg9 arg10 harg10 arg11 harg11 arg12 harg12 arg13 harg13
        (BitVec.ofNat 32 n.val) laneK lanes X3 X12 X13 t).1,
      ∀ x, p.2 x = outBlk n.val (arg3.view.read (Elt Ideal) X3) (arg12.view.read (Elt Ideal) X12)
        (arg13.view.read (Elt Ideal) X13) (p.1.emb x))
    ∧ (∀ p ∈ (pb_k0_t1 (F := Ideal) 𝒱 c bd i arg3 harg3 arg4 harg4 arg5 harg5 arg6 harg6 arg7 harg7 arg8 harg8 arg9 harg9 arg10 harg10 arg11 harg11 arg12 harg12 arg13 harg13
        (BitVec.ofNat 32 n.val) laneK lanes X3 X12 X13 t).2,
      ∀ x, p.2 x = lseBlk n.val (arg3.view.read (Elt Ideal) X3) (arg12.view.read (Elt Ideal) X12) (p.1.emb x))
  | 0, _ => by
    unfold pb_k0_t1
    exact ⟨fun p hp => absurd hp List.not_mem_nil, fun p hp => absurd hp List.not_mem_nil⟩
  | t + 1, ht => by
    have ih := loop_pieces t (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13
      (BitVec.ofNat 32 n.val) laneK lanes X3 X12 X13 ⟨t, ht⟩
    rw [show t + 1 = (⟨t, ht⟩ : Fin k0_t1_loop.trips).val + 1 from rfl, e]
    refine ⟨fun p hp => ?_, fun p hp => ?_⟩
    · rcases List.mem_append.mp hp with h | h
      · exact trip_out 𝒱 c bd i arg3 harg3 arg4 harg4 arg5 harg5 arg6 harg6 arg7 harg7 arg8 harg8 arg9 harg9 arg10 harg10 arg11 harg11 arg12 harg12 arg13 harg13 n X3 X12 X13 ⟨t, ht⟩ p h
      · exact ih.1 p h
    · rcases List.mem_append.mp hp with h | h
      · exact trip_lse 𝒱 c bd i arg3 harg3 arg4 harg4 arg5 harg5 arg6 harg6 arg7 harg7 arg8 harg8 arg9 harg9 arg10 harg10 arg11 harg11 arg12 harg12 arg13 harg13 n X3 X12 X13 ⟨t, ht⟩ p h
      · exact ih.2 p h

end

/-- The run leaves the block's result. -/
theorem out_block : out0_A_7 (F := Ideal) c i arg3 harg3 arg4 harg4 arg5 harg5 arg6 harg6 arg7 harg7 arg8 harg8 arg9 harg9 arg10 harg10 arg11 harg11 arg12 harg12 arg13 harg13 x0 x1 x2 x3 x4 x5 x6
    = outBlk (i 2).val x0 (bufAt x1 x2 x3) (bufAt x4 x5 x6) := by
  unfold out0_A_7
  rw [View.read_writes_junk_eq_canon]
  funext y
  refine View.canon_apply_of_pieces _ _ ?_ y (cover0_A_7 (F := Ideal) c i arg3 harg3 arg4 harg4 arg5 harg5 arg6 harg6 arg7 harg7 arg8 harg8 arg9 harg9 arg10 harg10 arg11 harg11 arg12 harg12 arg13 harg13 x0 x1 x2 x3 x4 x5 x6 y)
  have h := (loop_pieces Variants.none c none i arg3 harg3 arg4 harg4 arg5 harg5 arg6 harg6 arg7 harg7 arg8 harg8 arg9 harg9 arg10 harg10 arg11 harg11 arg12 harg12 arg13 harg13 (i 2) (harg3.unread x0)
    (arg12.view.writes (Elt Ideal) arg12.view.junk
      (kernelRun0_A.sl.HS0_3 (F := Ideal) c arg4 harg4 arg5 harg5 arg6 harg6 x1 x2 x3))
    (arg13.view.writes (Elt Ideal) arg13.view.junk
      (kernelRun0_A.sl.HS1_3 (F := Ideal) c arg7 harg7 arg8 harg8 arg9 harg9 x4 x5 x6)) _ le_rfl).1
  rw [harg3.read_unread, keys_buf, values_buf] at h
  unfold kernelRun0_A
  exact h

/-- The run leaves the block's logarithms of sums. -/
theorem lse_block : out0_A_8 (F := Ideal) c i arg3 harg3 arg4 harg4 arg5 harg5 arg6 harg6 arg7 harg7 arg8 harg8 arg9 harg9 arg10 harg10 arg11 harg11 arg12 harg12 arg13 harg13 x0 x1 x2 x3 x4 x5 x6
    = lseBlk (i 2).val x0 (bufAt x1 x2 x3) := by
  unfold out0_A_8
  rw [View.read_writes_junk_eq_canon]
  funext y
  refine View.canon_apply_of_pieces _ _ ?_ y (cover0_A_8 (F := Ideal) c i arg3 harg3 arg4 harg4 arg5 harg5 arg6 harg6 arg7 harg7 arg8 harg8 arg9 harg9 arg10 harg10 arg11 harg11 arg12 harg12 arg13 harg13 x0 x1 x2 x3 x4 x5 x6 y)
  have h := (loop_pieces Variants.none c none i arg3 harg3 arg4 harg4 arg5 harg5 arg6 harg6 arg7 harg7 arg8 harg8 arg9 harg9 arg10 harg10 arg11 harg11 arg12 harg12 arg13 harg13 (i 2) (harg3.unread x0)
    (arg12.view.writes (Elt Ideal) arg12.view.junk
      (kernelRun0_A.sl.HS0_3 (F := Ideal) c arg4 harg4 arg5 harg5 arg6 harg6 x1 x2 x3))
    (arg13.view.writes (Elt Ideal) arg13.view.junk
      (kernelRun0_A.sl.HS1_3 (F := Ideal) c arg7 harg7 arg8 harg8 arg9 harg9 x4 x5 x6)) _ le_rfl).2
  rw [harg3.read_unread, keys_buf] at h
  unfold kernelRun0_A
  exact h

end Cert.Attn

end
-- ==== Proof.Attn.Spec.lean ====
module

public import proofs.«01_k».proof.Proof.Attn.Run

@[expose] public section

/-!
# The attention by query and offset

Queries, keys and values are the three column thirds of one array of 2 × 16 sequences of 1024 rows. Query `n` sees the
keys `n - 64 … n + 64` of its own sequence.
-/

set_option maxRecDepth 16384

noncomputable section

namespace Cert.Attn

open Idealize.ShloMosaic Cert.KernelIdeal Cert.KernelIdeal.Gen

/-- The queries', keys' and values' column `c`. -/
def qcol (c : Fin 1024) : Fin 3072 := ⟨c.val, by omega⟩
def kcol (c : Fin 1024) : Fin 3072 := ⟨1024 + c.val, by omega⟩
def vcol (c : Fin 1024) : Fin 3072 := ⟨2048 + c.val, by omega⟩

/-- The key of query `n` at offset `o`, held inside the sequence. -/
def srow (n : Fin 1024) (o : Fin 129) : Fin 1024 := ⟨min (n.val + o.val - 64) 1023, by omega⟩

/-- The score of query `n` at offset `o` in head `h`: −∞ when the key lies outside the sequence. -/
def seqScore (X : Vec Ideal S2x16x1024x3072 .bf16) (b : Fin 2) (r : Fin 16) (n : Fin 1024) (h : Fin 8) (o : Fin 129) :
    EReal :=
  if 64 ≤ n.val + o.val ∧ n.val + o.val < 1088 then
    ∑ d : Fin 128, X (ix4 b r n (qcol (col h d))) * X (ix4 b r (srow n o) (kcol (col h d)))
  else ⊥

/-- The attention's result. -/
def seqOut (X : Vec Ideal S2x16x1024x3072 .bf16) : Vec Ideal S2x16x1024x1024 .f32 := fun i =>
  rowOut (seqScore X (i 0) (i 1) (i 2) (headOf (i 3))) fun o => X (ix4 (i 0) (i 1) (srow (i 2) o) (vcol (i 3)))

/-- The attention's logarithms of sums: eight lanes, the others zero. -/
def seqLse (X : Vec Ideal S2x16x1024x3072 .bf16) : Vec Ideal S2x16x1024x128 .f32 := fun i =>
  if h : (i 3).val < 8 then rowLse (seqScore X (i 0) (i 1) (i 2) ⟨(i 3).val, h⟩) else 0

/-- A block's row in the sequence. -/
def srowOf (nq : Fin 2) (y : Fin 512) : Fin 1024 := ⟨512 * nq.val + y.val, by omega⟩

variable {X : Vec Ideal S2x16x1024x3072 .bf16} {b : Fin 2} {r : Fin 16} {nq : Fin 2}

/-- A buffer that holds a column third's rows around the block reads the sequence wherever the key is inside it. -/
theorem buf_row {f : Fin 1024 → Fin 3072} {cur : Vec Ideal S1x1x512x1024 .bf16}
    {left right : Vec Ideal S1x1x64x1024 .bf16}
    (hc : ∀ y d, cur (ix4 0 0 y d) = X (ix4 b r (srowOf nq y) (f d)))
    (hl : ∀ (y : Fin 64) d, left (ix4 0 0 y d) = X (ix4 b r ⟨64 * (nq.val * 8 - 1) + y.val, by omega⟩ (f d)))
    (hr : ∀ (y : Fin 64) d, right (ix4 0 0 y d) = X (ix4 b r ⟨64 * min (nq.val * 8 + 8) 15 + y.val, by omega⟩ (f d)))
    (y : Fin 512) (o : Fin 129) (d : Fin 1024)
    (hv : 64 ≤ (srowOf nq y).val + o.val ∧ (srowOf nq y).val + o.val < 1088) :
    bufAt cur left right (ix2 (orow y o) d) = X (ix4 b r (srow (srowOf nq y) o) (f d)) := by
  have e : (srowOf nq y).val = 512 * nq.val + y.val := rfl
  have ho : (orow y o).val = y.val + o.val := rfl
  have := nq.isLt
  by_cases h : y.val + o.val < 64
  · rw [bufAt_left _ (a := ⟨y.val + o.val, h⟩) (d := d) rfl rfl, hl]
    congr 2
    exact Fin.ext (by show _ = min ((srowOf nq y).val + o.val - 64) 1023; simp only []; omega)
  · by_cases h' : y.val + o.val < 576
    · rw [bufAt_cur _ (a := ⟨y.val + o.val - 64, by omega⟩) (d := d) (by show (orow y o).val = 64 + (_ - 64); omega) rfl, hc]
      congr 2
      exact Fin.ext (by
        show 512 * nq.val + (y.val + o.val - 64) = min ((srowOf nq y).val + o.val - 64) 1023
        omega)
    · rw [bufAt_right _ (a := ⟨y.val + o.val - 576, by omega⟩) (d := d)
        (by show (orow y o).val = 576 + (_ - 576); omega) rfl, hr]
      congr 2
      exact Fin.ext (by
        show 64 * min (nq.val * 8 + 8) 15 + (y.val + o.val - 576) = min ((srowOf nq y).val + o.val - 64) 1023
        omega)

section
variable {Q kc : Vec Ideal S1x1x512x1024 .bf16} {kl kr : Vec Ideal S1x1x64x1024 .bf16}
    (hq : ∀ y d, Q (ix4 0 0 y d) = X (ix4 b r (srowOf nq y) (qcol d)))
    (hc : ∀ y d, kc (ix4 0 0 y d) = X (ix4 b r (srowOf nq y) (kcol d)))
    (hl : ∀ (y : Fin 64) d, kl (ix4 0 0 y d) = X (ix4 b r ⟨64 * (nq.val * 8 - 1) + y.val, by omega⟩ (kcol d)))
    (hr : ∀ (y : Fin 64) d, kr (ix4 0 0 y d) = X (ix4 b r ⟨64 * min (nq.val * 8 + 8) 15 + y.val, by omega⟩ (kcol d)))

include hq hc hl hr in
/-- A block's score is the sequence's. -/
theorem winScore_eq (y : Fin 512) (h : Fin 8) :
    winScore nq.val Q (bufAt kc kl kr) y h = seqScore X b r (srowOf nq y) h := by
  funext o
  unfold winScore seqScore
  have e : (srowOf nq y).val = 512 * nq.val + y.val := rfl
  by_cases hv : 64 ≤ (srowOf nq y).val + o.val ∧ (srowOf nq y).val + o.val < 1088
  · rw [if_pos hv, if_pos (by omega)]
    refine Finset.sum_congr rfl fun d _ => ?_
    rw [hq, buf_row (f := kcol) hc hl hr y o _ hv]
  · rw [if_neg hv, if_neg (by omega)]

include hq hc hl hr in
/-- A block's logarithm of the sum is the sequence's. -/
theorem lseAt_eq (y : Fin 512) (l : Fin 128) :
    lseAt nq.val Q (bufAt kc kl kr) y l = seqLse X (ix4 b r (srowOf nq y) l) := by
  unfold lseAt seqLse
  simp only [winScore_eq hq hc hl hr]
  rfl

include hq hc hl hr in
/-- A block's result is the sequence's. -/
theorem outAt_eq {vc : Vec Ideal S1x1x512x1024 .bf16} {vl vr : Vec Ideal S1x1x64x1024 .bf16}
    (hc' : ∀ y d, vc (ix4 0 0 y d) = X (ix4 b r (srowOf nq y) (vcol d)))
    (hl' : ∀ (y : Fin 64) d, vl (ix4 0 0 y d) = X (ix4 b r ⟨64 * (nq.val * 8 - 1) + y.val, by omega⟩ (vcol d)))
    (hr' : ∀ (y : Fin 64) d, vr (ix4 0 0 y d) = X (ix4 b r ⟨64 * min (nq.val * 8 + 8) 15 + y.val, by omega⟩ (vcol d)))
    (y : Fin 512) (c : Fin 1024) :
    outAt nq.val Q (bufAt kc kl kr) (bufAt vc vl vr) y c = seqOut X (ix4 b r (srowOf nq y) c) := by
  unfold outAt seqOut
  rw [winScore_eq hq hc hl hr]
  refine rowOut_reindex id Function.injective_id (fun _ => rfl) (fun o h => absurd rfl (h o)) fun o ho => ?_
  refine buf_row (f := vcol) hc' hl' hr' y o c ?_
  by_contra hv
  exact ho (if_neg hv)
end

end Cert.Attn

end
-- ==== Proof.Attn.Array.lean ====
module

public import proofs.«01_k».proof.Proof.Attn.Spec
public import Idealize.ShloMosaic.Lib.Pipeline.ValueKit

@[expose] public section

/-!
# What the kernel's arrays hold

Every point's blocks hold the sequence's results, and the blocks cover the arrays.
-/

set_option maxRecDepth 16384

noncomputable section

namespace Cert.Attn

open Idealize.ShloMosaic Idealize.ShloMosaic.TcCoe Cert.KernelIdeal Cert.KernelIdeal.Gen Cert.KernelIdeal.Value

/-- Which block each window takes. -/
theorem index0 : ∀ t : Fin cfg0.N, win0_0.index t
    = ![(grid0.coords t 0).val, (grid0.coords t 1).val, (grid0.coords t 2).val, 0] :=
  (by decide +kernel : ∀ t : Fin grid0.N, _)
theorem index1 : ∀ t : Fin cfg0.N, win0_1.index t
    = ![(grid0.coords t 0).val, (grid0.coords t 1).val, (grid0.coords t 2).val, 1] :=
  (by decide +kernel : ∀ t : Fin grid0.N, _)
theorem index2 : ∀ t : Fin cfg0.N, win0_2.index t
    = ![(grid0.coords t 0).val, (grid0.coords t 1).val, (grid0.coords t 2).val * 8 - 1, 1] :=
  (by decide +kernel : ∀ t : Fin grid0.N, _)
theorem index3 : ∀ t : Fin cfg0.N, win0_3.index t
    = ![(grid0.coords t 0).val, (grid0.coords t 1).val, min ((grid0.coords t 2).val * 8 + 8) 15, 1] :=
  (by decide +kernel : ∀ t : Fin grid0.N, _)
theorem index4 : ∀ t : Fin cfg0.N, win0_4.index t
    = ![(grid0.coords t 0).val, (grid0.coords t 1).val, (grid0.coords t 2).val, 2] :=
  (by decide +kernel : ∀ t : Fin grid0.N, _)
theorem index5 : ∀ t : Fin cfg0.N, win0_5.index t
    = ![(grid0.coords t 0).val, (grid0.coords t 1).val, (grid0.coords t 2).val * 8 - 1, 2] :=
  (by decide +kernel : ∀ t : Fin grid0.N, _)
theorem index6 : ∀ t : Fin cfg0.N, win0_6.index t
    = ![(grid0.coords t 0).val, (grid0.coords t 1).val, min ((grid0.coords t 2).val * 8 + 8) 15, 2] :=
  (by decide +kernel : ∀ t : Fin grid0.N, _)
theorem index7 : ∀ t : Fin cfg0.N, win0_7.index t
    = ![(grid0.coords t 0).val, (grid0.coords t 1).val, (grid0.coords t 2).val, 0] :=
  (by decide +kernel : ∀ t : Fin grid0.N, _)
theorem index8 : ∀ t : Fin cfg0.N, win0_8.index t
    = ![(grid0.coords t 0).val, (grid0.coords t 1).val, (grid0.coords t 2).val, 0] :=
  (by decide +kernel : ∀ t : Fin grid0.N, _)

variable (m : (ℓ : Loc nD τ sig) → Buf (Elt Ideal) ℓ) (c : Dev nD) (t : Fin cfg0.N)

/-- The argument array. -/
abbrev arg : Vec Ideal S2x16x1024x3072 .bf16 := m ((c : Thread nD τ).loc main_arg0)

/-- Each input block, in the argument array. -/
theorem blk0 (y : Fin 512) (d : Fin 1024) : iblk m c 0 t (ix4 0 0 y d)
    = arg m c (ix4 (grid0.coords t 0) (grid0.coords t 1) (srowOf (grid0.coords t 2) y) (qcol d)) := by
  blk_simp [iblk]
  rw [V_main_arg0]
  refine congrArg _ ?_
  blk_ext [index0] <;> simp only [srowOf, qcol] <;> omega

theorem blk1 (y : Fin 512) (d : Fin 1024) : iblk m c 1 t (ix4 0 0 y d)
    = arg m c (ix4 (grid0.coords t 0) (grid0.coords t 1) (srowOf (grid0.coords t 2) y) (kcol d)) := by
  blk_simp [iblk]
  rw [V_main_arg0]
  refine congrArg _ ?_
  blk_ext [index1] <;> simp only [srowOf, kcol] <;> omega

theorem blk2 (y : Fin 64) (d : Fin 1024) : iblk m c 2 t (ix4 0 0 y d)
    = arg m c (ix4 (grid0.coords t 0) (grid0.coords t 1) ⟨64 * ((grid0.coords t 2).val * 8 - 1) + y.val, by have : (grid0.coords t 2).val < 2 := (grid0.coords t 2).isLt; omega⟩ (kcol d)) := by
  blk_simp [iblk]
  rw [V_main_arg0]
  refine congrArg _ ?_
  blk_ext [index2] <;> simp only [srowOf, kcol] <;> omega

theorem blk3 (y : Fin 64) (d : Fin 1024) : iblk m c 3 t (ix4 0 0 y d)
    = arg m c (ix4 (grid0.coords t 0) (grid0.coords t 1) ⟨64 * min ((grid0.coords t 2).val * 8 + 8) 15 + y.val, by have : (grid0.coords t 2).val < 2 := (grid0.coords t 2).isLt; omega⟩ (kcol d)) := by
  blk_simp [iblk]
  rw [V_main_arg0]
  refine congrArg _ ?_
  blk_ext [index3] <;> simp only [srowOf, kcol] <;> omega

theorem blk4 (y : Fin 512) (d : Fin 1024) : iblk m c 4 t (ix4 0 0 y d)
    = arg m c (ix4 (grid0.coords t 0) (grid0.coords t 1) (srowOf (grid0.coords t 2) y) (vcol d)) := by
  blk_simp [iblk]
  rw [V_main_arg0]
  refine congrArg _ ?_
  blk_ext [index4] <;> simp only [srowOf, vcol] <;> omega

theorem blk5 (y : Fin 64) (d : Fin 1024) : iblk m c 5 t (ix4 0 0 y d)
    = arg m c (ix4 (grid0.coords t 0) (grid0.coords t 1) ⟨64 * ((grid0.coords t 2).val * 8 - 1) + y.val, by have : (grid0.coords t 2).val < 2 := (grid0.coords t 2).isLt; omega⟩ (vcol d)) := by
  blk_simp [iblk]
  rw [V_main_arg0]
  refine congrArg _ ?_
  blk_ext [index5] <;> simp only [srowOf, vcol] <;> omega

theorem blk6 (y : Fin 64) (d : Fin 1024) : iblk m c 6 t (ix4 0 0 y d)
    = arg m c (ix4 (grid0.coords t 0) (grid0.coords t 1) ⟨64 * min ((grid0.coords t 2).val * 8 + 8) 15 + y.val, by have : (grid0.coords t 2).val < 2 := (grid0.coords t 2).isLt; omega⟩ (vcol d)) := by
  blk_simp [iblk]
  rw [V_main_arg0]
  refine congrArg _ ?_
  blk_ext [index6] <;> simp only [srowOf, vcol] <;> omega

/-- The first result array. -/
theorem array_out : (dats m 0 c).arrAt 7 cfg0.N = seqOut (arg m c) := by
  refine (dats m 0 c).arrAt_eq_of_covers 7 _ (by decide +kernel) fun t hf y => ?_
  obtain ⟨y0, y1, a, d, rfl⟩ : ∃ (y0 y1 : Fin 1) (a : Fin 512) (d : Fin 1024), y = ix4 y0 y1 a d :=
    ⟨y 0, y 1, y 2, y 3, eq_ix4 y⟩
  blk_simp
  rw [after0_7]
  unfold outsAt0
  rw [out_block]
  refine (outAt_eq (blk0 m c t) (blk1 m c t) (blk2 m c t) (blk3 m c t) (blk4 m c t) (blk5 m c t) (blk6 m c t)
    a d).trans ?_
  refine congrArg _ ?_
  blk_ext [index7] <;> simp only [srowOf] <;> omega

/-- The second result array. -/
theorem array_lse : (dats m 0 c).arrAt 8 cfg0.N = seqLse (arg m c) := by
  refine (dats m 0 c).arrAt_eq_of_covers 8 _ (by decide +kernel) fun t hf y => ?_
  obtain ⟨y0, y1, a, d, rfl⟩ : ∃ (y0 y1 : Fin 1) (a : Fin 512) (d : Fin 128), y = ix4 y0 y1 a d :=
    ⟨y 0, y 1, y 2, y 3, eq_ix4 y⟩
  blk_simp
  rw [after0_8]
  unfold outsAt0
  rw [lse_block]
  refine (lseAt_eq (blk0 m c t) (blk1 m c t) (blk2 m c t) (blk3 m c t) a d).trans ?_
  refine congrArg _ ?_
  blk_ext [index8] <;> simp only [srowOf] <;> omega

end Cert.Attn

end
-- ==== Proof.Attn.Gather.lean ====
module

public import proofs.«01_k».proof.Proof.Gen.ReferenceIdeal.Read
public import Idealize.ShloMosaic.Lib.Pointwise

@[expose] public section

/-!
# The reference's gather

A gather of rows by an array of positions, read at an index.
-/

set_option maxRecDepth 16384

noncomputable section

namespace Cert.Attn

open Idealize.ShloMosaic Cert.ReferenceIdeal Cert.ReferenceIdeal.Gen

/-- The reference's dimension numbers. -/
abbrev dims : GatherDims S2x8x16384x128 S16384x129x1 S2x8x16384x129x128 :=
  gather_S2x8x16384x128_S16384x129x1_S2x8x16384x129x128_014_2_n_n_2_2_281128

variable (y : S2x8x16384x129x128.Idx) (idx : IVec S16384x129x1 32)

/-- An axis that the positions don't index keeps the result's coordinate. -/
theorem kept_axis (a : Fin 4) (h1 : a ∉ dims.startIndexMap) (h2 : a ∈ dims.sKept) (k : Fin 5)
    (hk : dims.offsetDims[dims.sKept.idxOf a]'(by
      rw [dims.offset_length]; exact List.idxOf_lt_length_iff.2 h2) = k) :
    (dims.operandIdx y idx a).val = (y k).val := by
  subst hk
  show dims.start y idx a + dims.batchCoord y a + dims.offCoord y a = _
  rw [GatherDims.batchCoord_eq_zero _ _ _ List.not_mem_nil]
  unfold GatherDims.start GatherDims.offCoord
  rw [dif_neg h1, dif_pos h2]
  simp only [Nat.zero_add]

/-- The axis that the positions index. -/
theorem taken_axis : (dims.operandIdx y idx 2).val = min (idx (ix3 (y 2) (y 3) 0)).toInt.toNat 16383 := by
  have h1 : (2 : Fin 4) ∈ dims.startIndexMap := List.mem_singleton.mpr rfl
  show dims.start y idx 2 + dims.batchCoord y 2 + dims.offCoord y 2 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos h1]
  have e : dims.siIdx y ⟨List.idxOf (2 : Fin 4) dims.startIndexMap, List.idxOf_lt_length_iff.2 h1⟩
      = ix3 (y 2) (y 3) 0 := by
    funext q
    refine Fin.ext ?_
    match q with
    | ⟨0, _⟩ => rfl
    | ⟨1, _⟩ => rfl
    | ⟨2, _⟩ => rfl
  rw [e]
  rfl

/-- The gathered row is the one at the position read from the indices. -/
theorem gather_rows (x : Vec Ideal S2x8x16384x128 .f32) (b : Fin 2) (h : Fin 8)
    (t : Fin 16384) (o : Fin 129) (d : Fin 128) :
    Host.gather dims x idx (ix5 b h t o d) = x (ix4 b h ⟨min (idx (ix3 t o 0)).toInt.toNat 16383, by omega⟩ d) := by
  unfold Host.gather
  congr 1
  funext a
  refine Fin.ext ?_
  match a with
  | ⟨0, _⟩ => exact kept_axis _ idx 0 (by decide) (by decide) 0 rfl
  | ⟨1, _⟩ => exact kept_axis _ idx 1 (by decide) (by decide) 1 rfl
  | ⟨2, _⟩ => exact taken_axis _ idx
  | ⟨3, _⟩ => exact kept_axis _ idx 3 (by decide) (by decide) 4 rfl

end Cert.Attn

end
-- ==== Proof.Attn.Ref.lean ====
module

public import proofs.«01_k».proof.Proof.Attn.Gather
public import proofs.«01_k».proof.Proof.Attn.Spec

@[expose] public section

/-!
# What the reference computes

The reference's results at an index are the attention by query and offset.
-/

set_option maxRecDepth 16384

noncomputable section

namespace Cert.Attn

open Idealize.ShloMosaic Cert.ReferenceIdeal Cert.ReferenceIdeal.Gen Cert.ReferenceIdeal.Read

/-- The position in the sequence of row `n` of class `r`. -/
def tpos (n : Fin 1024) (r : Fin 16) : Fin 16384 := ⟨16 * n.val + r.val, by omega⟩

variable (X : Vec Ideal S2x16x1024x3072 .bf16) (b : Fin 2) (r : Fin 16) (n : Fin 1024) (h : Fin 8)

/-- The argument as positions, thirds, heads and columns. -/
theorem ref_split (s : Fin 3) (d : Fin 128) : val_main_v2 (F := Ideal) X (ix5 b (tpos n r) s h d)
    = X (ix4 b r n ⟨1024 * s.val + 128 * h.val + d.val, by omega⟩) := by
  have hb := b.isLt
  have hr := r.isLt
  have hn := n.isLt
  have hh := h.isLt
  have hd := d.isLt
  have hs := s.isLt
  rw [val_main_v2_apply, val_main_v1_apply, val_main_v0_apply]
  refine congrArg X (funext fun a => Fin.ext ?_)
  match a with
  | ⟨0, _⟩ =>
    show ((((b.val * 16384 + (16 * n.val + r.val)) * 3 + s.val) * 8 + h.val) * 128 + d.val) / 50331648 = b.val
    omega
  | ⟨1, _⟩ =>
    show ((((b.val * 16384 + (16 * n.val + r.val)) * 3 + s.val) * 8 + h.val) * 128 + d.val) / 3072 % 16 = r.val
    omega
  | ⟨2, _⟩ =>
    show ((((b.val * 16384 + (16 * n.val + r.val)) * 3 + s.val) * 8 + h.val) * 128 + d.val) / 49152 % 1024 = n.val
    omega
  | ⟨3, _⟩ =>
    show ((((b.val * 16384 + (16 * n.val + r.val)) * 3 + s.val) * 8 + h.val) * 128 + d.val) % 3072
      = 1024 * s.val + 128 * h.val + d.val
    omega

/-- The queries. -/
theorem ref_q (d : Fin 128) : val_main_v5 (F := Ideal) X (ix4 b h (tpos n r) d) = X (ix4 b r n (qcol (col h d))) := by
  have hb := b.isLt
  have hr := r.isLt
  have hn := n.isLt
  have hh := h.isLt
  have hd := d.isLt
  rw [val_main_v5_apply, val_main_v4_apply, val_main_v3_apply]
  have e : idx_main_v3 (idx_main_v4 (idx_main_v5 (ix4 b h (tpos n r) d))) = ix5 b (tpos n r) 0 h d := by
    refine funext fun a => Fin.ext ?_
    match a with
    | ⟨0, _⟩ =>
      show (((b.val * 16384 + (16 * n.val + r.val)) * 8 + h.val) * 128 + d.val) / 16777216 = b.val
      omega
    | ⟨1, _⟩ =>
      show (((b.val * 16384 + (16 * n.val + r.val)) * 8 + h.val) * 128 + d.val) / 1024 % 16384 = 16 * n.val + r.val
      omega
    | ⟨2, _⟩ => rfl
    | ⟨3, _⟩ =>
      show (((b.val * 16384 + (16 * n.val + r.val)) * 8 + h.val) * 128 + d.val) / 128 % 8 = h.val
      omega
    | ⟨4, _⟩ =>
      show (((b.val * 16384 + (16 * n.val + r.val)) * 8 + h.val) * 128 + d.val) % 128 = d.val
      omega
  rw [e, ref_split]
  refine congrArg (fun q => X (ix4 b r n q)) (Fin.ext ?_)
  show 1024 * 0 + 128 * h.val + d.val = 128 * h.val + d.val
  omega

/-- The keys. -/
theorem ref_k (d : Fin 128) : val_main_v8 (F := Ideal) X (ix4 b h (tpos n r) d) = X (ix4 b r n (kcol (col h d))) := by
  have hb := b.isLt
  have hr := r.isLt
  have hn := n.isLt
  have hh := h.isLt
  have hd := d.isLt
  rw [val_main_v8_apply, val_main_v7_apply, val_main_v6_apply]
  have e : idx_main_v6 (idx_main_v7 (idx_main_v8 (ix4 b h (tpos n r) d))) = ix5 b (tpos n r) 1 h d := by
    refine funext fun a => Fin.ext ?_
    match a with
    | ⟨0, _⟩ =>
      show (((b.val * 16384 + (16 * n.val + r.val)) * 8 + h.val) * 128 + d.val) / 16777216 = b.val
      omega
    | ⟨1, _⟩ =>
      show (((b.val * 16384 + (16 * n.val + r.val)) * 8 + h.val) * 128 + d.val) / 1024 % 16384 = 16 * n.val + r.val
      omega
    | ⟨2, _⟩ => rfl
    | ⟨3, _⟩ =>
      show (((b.val * 16384 + (16 * n.val + r.val)) * 8 + h.val) * 128 + d.val) / 128 % 8 = h.val
      omega
    | ⟨4, _⟩ =>
      show (((b.val * 16384 + (16 * n.val + r.val)) * 8 + h.val) * 128 + d.val) % 128 = d.val
      omega
  rw [e, ref_split]
  refine congrArg (fun q => X (ix4 b r n q)) (Fin.ext ?_)
  show 1024 * 1 + 128 * h.val + d.val = 1024 + (128 * h.val + d.val)
  omega

/-- The values. -/
theorem ref_v (d : Fin 128) : val_main_v11 (F := Ideal) X (ix4 b h (tpos n r) d) = X (ix4 b r n (vcol (col h d))) := by
  have hb := b.isLt
  have hr := r.isLt
  have hn := n.isLt
  have hh := h.isLt
  have hd := d.isLt
  rw [val_main_v11_apply, val_main_v10_apply, val_main_v9_apply]
  have e : idx_main_v9 (idx_main_v10 (idx_main_v11 (ix4 b h (tpos n r) d))) = ix5 b (tpos n r) 2 h d := by
    refine funext fun a => Fin.ext ?_
    match a with
    | ⟨0, _⟩ =>
      show (((b.val * 16384 + (16 * n.val + r.val)) * 8 + h.val) * 128 + d.val) / 16777216 = b.val
      omega
    | ⟨1, _⟩ =>
      show (((b.val * 16384 + (16 * n.val + r.val)) * 8 + h.val) * 128 + d.val) / 1024 % 16384 = 16 * n.val + r.val
      omega
    | ⟨2, _⟩ => rfl
    | ⟨3, _⟩ =>
      show (((b.val * 16384 + (16 * n.val + r.val)) * 8 + h.val) * 128 + d.val) / 128 % 8 = h.val
      omega
    | ⟨4, _⟩ =>
      show (((b.val * 16384 + (16 * n.val + r.val)) * 8 + h.val) * 128 + d.val) % 128 = d.val
      omega
  rw [e, ref_split]
  refine congrArg (fun q => X (ix4 b r n q)) (Fin.ext ?_)
  show 1024 * 2 + 128 * h.val + d.val = 2048 + (128 * h.val + d.val)
  omega

/-- The position of the key at an offset, as a signed number. -/
theorem ref_pos (t : Fin 16384) (o : Fin 129) :
    (val_main_v22 (F := Ideal) (ix2 t o)).toInt = (t.val : ℤ) + 16 * (o.val - 64) := by
  have ht := t.isLt
  have ho := o.isLt
  have base : ∀ o : Fin 129, IntOp.muli 16#32 (IntOp.addi 4294967232#32 (BitVec.ofNat 32 o.val))
      = BitVec.ofInt 32 (16 * ((o.val : ℤ) - 64)) := by decide +kernel
  rw [val_main_v22_apply, val_main_v20_apply, val_main_v18_apply, val_main_v12_apply, val_main_v21_apply,
    val_main_v19_apply, val_main_v17_apply, val_main_v16_apply, val_main_c_0_apply, val_main_v15_apply,
    val_main_v14_apply, val_main_c_apply, val_main_v13_apply]
  show (IntOp.addi (BitVec.ofNat 32 t.val) (IntOp.muli 16#32 (IntOp.addi 4294967232#32 (BitVec.ofNat 32 o.val)))).toInt = _
  rw [base]
  unfold IntOp.addi
  rw [BitVec.toInt_add, BitVec.toInt_ofInt, BitVec.toInt_eq_toNat_of_lt (by simp; omega)]
  simp only [BitVec.toNat_ofNat]
  rw [Nat.mod_eq_of_lt (by omega), Int.bmod_eq_of_le (n := 16 * ((o.val : ℤ) - 64)) (by omega) (by omega),
    Int.bmod_eq_of_le (by omega) (by omega)]

/-- When the reference lets a key through. -/
theorem ref_valid (o : Fin 129) : val_main_v27 (F := Ideal) (ix2 (tpos n r) o) = 1#1
    ↔ 64 ≤ n.val + o.val ∧ n.val + o.val < 1088 := by
  have hr := r.isLt
  have hp : (tpos n r).val = 16 * n.val + r.val := rfl
  have h0 : (0#32 : BitVec 32).toInt = 0 := by decide
  have h1 : (16384#32 : BitVec 32).toInt = 16384 := by decide
  rw [val_main_v27_apply, IntOp.andi_eq_one, val_main_v24_apply, val_main_v26_apply, val_main_v23_apply,
    val_main_c_1_apply, val_main_v25_apply, val_main_c_2_apply, IntOp.cmpi_sge, IntOp.cmpi_slt, ref_pos, h0, h1]
  omega

/-- Where the reference's gather reads when it lets the key through. -/
theorem ref_clip (o : Fin 129) (hv : 64 ≤ n.val + o.val ∧ n.val + o.val < 1088) :
    min (val_main_v28 (F := Ideal) (ix2 (tpos n r) o)).toInt.toNat 16383 = (tpos (srow n o) r).val := by
  have hr := r.isLt
  have hp : (tpos n r).val = 16 * n.val + r.val := rfl
  have h0 : (0#32 : BitVec 32).toInt = 0 := by decide
  have h1 : (16383#32 : BitVec 32).toInt = 16383 := by decide
  have e := ref_pos (tpos n r) o
  rw [val_main_v28_apply, val_main_call0_v2_apply, val_main_call0_v1_apply, val_main_call0_v0_apply, val_main_c_3_apply,
    val_main_call0_v4_apply, val_main_call0_v3_apply, val_main_c_4_apply]
  have e1 : IntOp.maxsi 0#32 (val_main_v22 (F := Ideal) (ix2 (tpos n r) o)) = val_main_v22 (F := Ideal) (ix2 (tpos n r) o) := by
    unfold IntOp.maxsi
    rw [BitVec.slt, e, h0]
    refine if_neg ?_
    rw [decide_eq_true_eq]
    omega
  have e2 : IntOp.minsi 16383#32 (val_main_v22 (F := Ideal) (ix2 (tpos n r) o)) = val_main_v22 (F := Ideal) (ix2 (tpos n r) o) := by
    unfold IntOp.minsi
    rw [BitVec.slt, e, h1]
    by_cases hc : decide ((16383 : ℤ) < ((tpos n r).val : ℤ) + 16 * (o.val - 64)) = true
    · rw [decide_eq_true_eq] at hc
      omega
    · rw [if_neg hc]
  rw [e1, e2, e]
  show _ = 16 * min (n.val + o.val - 64) 1023 + r.val
  omega

/-- Where the reference's layout operations read. -/
theorem at_valid (t : Fin 16384) (o : Fin 129) : idx_main_call3_v1 (ix4 b h t o) = ix2 t o :=
  funext fun a => match a with | ⟨0, _⟩ => rfl | ⟨1, _⟩ => rfl
theorem at_gather1 (t : Fin 16384) (o : Fin 129) : idx_main_call1_v0 (ix3 t o 0) = ix2 t o :=
  funext fun a => match a with | ⟨0, _⟩ => rfl | ⟨1, _⟩ => rfl
theorem at_gather2 (t : Fin 16384) (o : Fin 129) : idx_main_call2_v0 (ix3 t o 0) = ix2 t o :=
  funext fun a => match a with | ⟨0, _⟩ => rfl | ⟨1, _⟩ => rfl
theorem at_score_l (t : Fin 16384) (o : Fin 129) (d : Fin 128) : lidx_main_v31 (ix4 b h t o) d = ix4 b h t d :=
  funext fun a => match a with | ⟨0, _⟩ => rfl | ⟨1, _⟩ => rfl | ⟨2, _⟩ => rfl | ⟨3, _⟩ => rfl
theorem at_score_r (t : Fin 16384) (o : Fin 129) (d : Fin 128) : ridx_main_v31 (ix4 b h t o) d = ix5 b h t o d :=
  funext fun a => match a with | ⟨0, _⟩ => rfl | ⟨1, _⟩ => rfl | ⟨2, _⟩ => rfl | ⟨3, _⟩ => rfl | ⟨4, _⟩ => rfl
theorem at_sum_l (t : Fin 16384) (d : Fin 128) (o : Fin 129) : lidx_main_v40 (ix4 b h t d) o = ix4 b h t o :=
  funext fun a => match a with | ⟨0, _⟩ => rfl | ⟨1, _⟩ => rfl | ⟨2, _⟩ => rfl | ⟨3, _⟩ => rfl
theorem at_sum_r (t : Fin 16384) (d : Fin 128) (o : Fin 129) : ridx_main_v40 (ix4 b h t d) o = ix5 b h t o d :=
  funext fun a => match a with | ⟨0, _⟩ => rfl | ⟨1, _⟩ => rfl | ⟨2, _⟩ => rfl | ⟨3, _⟩ => rfl | ⟨4, _⟩ => rfl
theorem at_max (t : Fin 16384) (o : Fin 129) : idx_main_v34 (idx_main_v35 (ix4 b h t o)) = ix3 b h t :=
  funext fun a => match a with | ⟨0, _⟩ => rfl | ⟨1, _⟩ => rfl | ⟨2, _⟩ => rfl
theorem at_max' (t : Fin 16384) : idx_main_v34 (ix4 b h t 0) = ix3 b h t :=
  funext fun a => match a with | ⟨0, _⟩ => rfl | ⟨1, _⟩ => rfl | ⟨2, _⟩ => rfl
theorem at_den (t : Fin 16384) (o : Fin 129) : idx_main_v38 (ix3 b h t) o = ix4 b h t o :=
  funext fun a => match a with | ⟨0, _⟩ => rfl | ⟨1, _⟩ => rfl | ⟨2, _⟩ => rfl | ⟨3, _⟩ => rfl
theorem at_den' (t : Fin 16384) (d : Fin 128) : idx_main_v39 (idx_main_v41 (ix4 b h t d)) = ix3 b h t :=
  funext fun a => match a with | ⟨0, _⟩ => rfl | ⟨1, _⟩ => rfl | ⟨2, _⟩ => rfl
theorem at_den'' (t : Fin 16384) : idx_main_v39 (ix4 b h t 0) = ix3 b h t :=
  funext fun a => match a with | ⟨0, _⟩ => rfl | ⟨1, _⟩ => rfl | ⟨2, _⟩ => rfl

/-- The gathered keys. -/
theorem ref_kg (o : Fin 129) (hv : 64 ≤ n.val + o.val ∧ n.val + o.val < 1088) (d : Fin 128) :
    val_main_v29 (F := Ideal) X (ix5 b h (tpos n r) o d) = X (ix4 b r (srow n o) (kcol (col h d))) := by
  unfold val_main_v29
  rw [gather_rows]
  refine Eq.trans ?_ (ref_k X b r (srow n o) h d)
  refine congrArg (fun q => val_main_v8 (F := Ideal) X (ix4 b h q d)) (Fin.ext ?_)
  have e : val_main_call1_v0 (F := Ideal) (ix3 (tpos n r) o 0) = val_main_v28 (F := Ideal) (ix2 (tpos n r) o) := by
    rw [val_main_call1_v0_apply, at_gather1]
  exact (congrArg (fun w : BitVec 32 => min w.toInt.toNat 16383) e).trans (ref_clip r n o hv)

/-- The gathered values. -/
theorem ref_vg (o : Fin 129) (hv : 64 ≤ n.val + o.val ∧ n.val + o.val < 1088) (d : Fin 128) :
    val_main_v30 (F := Ideal) X (ix5 b h (tpos n r) o d) = X (ix4 b r (srow n o) (vcol (col h d))) := by
  unfold val_main_v30
  rw [gather_rows]
  refine Eq.trans ?_ (ref_v X b r (srow n o) h d)
  refine congrArg (fun q => val_main_v11 (F := Ideal) X (ix4 b h q d)) (Fin.ext ?_)
  have e : val_main_call2_v0 (F := Ideal) (ix3 (tpos n r) o 0) = val_main_v28 (F := Ideal) (ix2 (tpos n r) o) := by
    rw [val_main_call2_v0_apply, at_gather2]
  exact (congrArg (fun w : BitVec 32 => min w.toInt.toNat 16383) e).trans (ref_clip r n o hv)

/-- The scores. -/
theorem ref_score (o : Fin 129) :
    val_main_v32 (F := Ideal) X (ix4 b h (tpos n r) o) = seqScore X b r n h o := by
  rw [val_main_v32_apply, val_main_call3_v1_apply, at_valid]
  unfold seqScore
  by_cases hv : 64 ≤ n.val + o.val ∧ n.val + o.val < 1088
  · rw [if_pos hv, (ref_valid r n o).mpr hv, ValueIdx.select_one, val_main_v31_apply]
    refine Finset.sum_congr rfl fun d _ => ?_
    rw [at_score_l, at_score_r, ref_q, ref_kg X b r n h o hv d]
  · rw [if_neg hv, ValueIdx.eq_zero_of_ne_one fun hc => hv ((ref_valid r n o).mp hc), ValueIdx.select_zero,
      val_main_call3_v2_apply, val_main_call3_v0_apply, val_main_cst_apply]
    exact neg_inf

/-- The largest score. -/
theorem ref_max : val_main_v33 (F := Ideal) X (ix3 b h (tpos n r)) = rowMax (seqScore X b r n h) := by
  have e : (fun o => val_main_v32 (F := Ideal) X (ix4 b h (tpos n r) o)) = seqScore X b r n h :=
    funext (ref_score X b r n h)
  rw [← e]
  unfold val_main_v33
  generalize val_main_v32 (F := Ideal) X = s
  pointwise []
  rw [val_main_cst_5_apply]
  show Finset.fold max (Ideal.ofBits .f32 0xFF800000#32) _ _ = _
  rw [neg_inf]
  rfl

/-- The weights. -/
theorem ref_exp (o : Fin 129) : val_main_v37 (F := Ideal) X (ix4 b h (tpos n r) o)
    = Ideal.exp (seqScore X b r n h o - rowMax (seqScore X b r n h)) := by
  rw [val_main_v37_apply, val_main_v36_apply, ref_score, val_main_v35_apply, val_main_v34_apply, at_max, ref_max]
  rfl

/-- The denominator. -/
theorem ref_den : val_main_v38 (F := Ideal) X (ix3 b h (tpos n r)) = rowDen (seqScore X b r n h) := by
  rw [val_main_v38_apply, val_main_cst_6_apply]
  unfold rowDen
  simp only [at_den, ref_exp]
  refine (congrArg (fun z : EReal => z + _) ?_).trans (zero_add _)
  exact Ideal.ofBits_zero_f32

/-- The mean of the values. -/
theorem ref_mean (d : Fin 128) : val_main_v42 (F := Ideal) X (ix4 b h (tpos n r) d)
    = rowOut (seqScore X b r n h) fun o => X (ix4 b r (srow n o) (vcol (col h d))) := by
  rw [val_main_v42_apply, val_main_v40_apply, val_main_v41_apply, val_main_v39_apply, at_den', ref_den]
  unfold rowOut
  refine congrArg (fun z : EReal => Ideal.div z _) (Finset.sum_congr rfl fun o _ => ?_)
  rw [at_sum_l, at_sum_r, ref_exp]
  by_cases hv : 64 ≤ n.val + o.val ∧ n.val + o.val < 1088
  · rw [ref_vg X b r n h o hv d]
  · rw [show seqScore X b r n h o = ⊥ from if_neg hv, exp_bot_sub, zero_mul, zero_mul]

/-- The logarithm of the denominator. -/
theorem ref_lse : val_main_v44 (F := Ideal) X (ix4 b h (tpos n r) 0) = rowLse (seqScore X b r n h) := by
  rw [val_main_v44_apply, val_main_v43_apply, val_main_v39_apply, val_main_v34_apply, at_max', at_den'', ref_max, ref_den]
  rfl

/-- The first result. -/
theorem ref_out : val_main_v48 (F := Ideal) X = seqOut X := by
  funext i
  obtain ⟨b, r, n, c, rfl⟩ : ∃ (b : Fin 2) (r : Fin 16) (n : Fin 1024) (c : Fin 1024), i = ix4 b r n c :=
    ⟨i 0, i 1, i 2, i 3, eq_ix4 i⟩
  have hb := b.isLt
  have hr := r.isLt
  have hn := n.isLt
  have hc := c.isLt
  rw [val_main_v48_apply, val_main_v47_apply, val_main_v46_apply]
  have e : idx_main_v46 (idx_main_v47 (idx_main_v48 (ix4 b r n c)))
      = ix4 b (headOf c) (tpos n r) ⟨c.val % 128, by omega⟩ := by
    refine funext fun a => Fin.ext ?_
    match a with
    | ⟨0, _⟩ =>
      show (((b.val * 1024 + n.val) * 16 + r.val) * 1024 + c.val) / 16777216 = b.val
      omega
    | ⟨1, _⟩ =>
      show (((b.val * 1024 + n.val) * 16 + r.val) * 1024 + c.val) / 128 % 8 = c.val / 128
      omega
    | ⟨2, _⟩ =>
      show (((b.val * 1024 + n.val) * 16 + r.val) * 1024 + c.val) / 1024 % 16384 = 16 * n.val + r.val
      omega
    | ⟨3, _⟩ =>
      show (((b.val * 1024 + n.val) * 16 + r.val) * 1024 + c.val) % 128 = c.val % 128
      omega
  rw [e, ref_mean]
  have ec : col (headOf c) ⟨c.val % 128, by omega⟩ = c := Fin.ext (by
    show 128 * (c.val / 128) + c.val % 128 = c.val
    omega)
  rw [ec]
  rfl

/-- The second result. -/
theorem ref_lses : val_main_v52 (F := Ideal) X = seqLse X := by
  funext i
  obtain ⟨b, r, n, l, rfl⟩ : ∃ (b : Fin 2) (r : Fin 16) (n : Fin 1024) (l : Fin 128), i = ix4 b r n l :=
    ⟨i 0, i 1, i 2, i 3, eq_ix4 i⟩
  have hb := b.isLt
  have hr := r.isLt
  have hn := n.isLt
  unfold val_main_v52
  have hin : ∀ h : Fin 8, val_main_v51 (F := Ideal) X (ix4 b r n h) = rowLse (seqScore X b r n h) := by
    intro h
    have hh := h.isLt
    rw [val_main_v51_apply, val_main_v50_apply, val_main_v49_apply, val_main_v45_apply]
    have e : idx_main_v49 (idx_main_v50 (idx_main_v51 (ix4 b r n h))) = ix3 b h (tpos n r) := by
      refine funext fun a => Fin.ext ?_
      match a with
      | ⟨0, _⟩ =>
        show (((b.val * 1024 + n.val) * 16 + r.val) * 8 + h.val) / 131072 = b.val
        omega
      | ⟨1, _⟩ =>
        show (((b.val * 1024 + n.val) * 16 + r.val) * 8 + h.val) % 8 = h.val
        omega
      | ⟨2, _⟩ =>
        show (((b.val * 1024 + n.val) * 16 + r.val) * 8 + h.val) / 8 % 16384 = 16 * n.val + r.val
        omega
    have e' : idx_main_v45 (ix3 b h (tpos n r)) = ix4 b h (tpos n r) 0 := by
      refine funext fun a => Fin.ext ?_
      match a with
      | ⟨0, _⟩ =>
        show ((b.val * 8 + h.val) * 16384 + (16 * n.val + r.val)) / 131072 = b.val
        omega
      | ⟨1, _⟩ =>
        show ((b.val * 8 + h.val) * 16384 + (16 * n.val + r.val)) / 16384 % 8 = h.val
        omega
      | ⟨2, _⟩ =>
        show ((b.val * 8 + h.val) * 16384 + (16 * n.val + r.val)) / 1 % 16384 = 16 * n.val + r.val
        omega
      | ⟨3, _⟩ => rfl
    rw [e, e', ref_lse]
  generalize val_main_v51 (F := Ideal) X = z at hin
  pointwise []
  show _ = if h : l.val < 8 then rowLse (seqScore X b r n ⟨l.val, h⟩) else 0
  by_cases hl : l.val < 8
  · rw [dif_pos hl, dif_pos hl, hin]
  · rw [dif_neg hl, dif_neg hl, val_main_call4_v0_apply, val_main_c_7_apply]
    show (((0#32 : BitVec 32).toInt : ℝ) : EReal) = 0
    simp

end Cert.Attn

end
-- ==== Proof.Ffn.Spec.lean ====
module

public import proofs.«01_k».proof.Proof.Gen.Kernel2Ideal.Value
public import proofs.«01_k».proof.Proof.Gen.Kernel3Ideal.Value
public import Idealize.ShloMosaic.Lib.Pipeline.ValueKit
public import Idealize.ShloMosaic.Lib.Pointwise

@[expose] public section

/-!
# The feed-forward half-step, entry by entry

Rows are the 32768 positions of both sequences. The input side normalizes and modulates each row, multiplies it by the
gate's and the value's weights, and gates. The output side multiplies the activations by the output weights and adds
them, under half the gate of the modulation, to the residual.
-/

noncomputable section

namespace Cert.Ffn

open Idealize.ShloMosaic

/-- The sequence of a row. -/
def seqOf (r : Fin 32768) : Fin 2 := ⟨r.val / 16384, by omega⟩

/-- The output side; the gate is row `g` of the modulation. -/
def ffnOut (g : Fin 9) (A : Vec Ideal Kernel3Ideal.S32768x5632 .bf16) (W : Vec Ideal Kernel3Ideal.S5632x2048 .f32)
    (X : Vec Ideal Kernel3Ideal.S32768x2048 .f32) (M : Vec Ideal Kernel3Ideal.S2x9x2048 .f32) :
    Vec Ideal Kernel3Ideal.S32768x2048 .f32 := fun i =>
  X i + (Ideal.ofBits .f32 0x3F000000#32 * M (ix3 (seqOf (i 0)) g (i 1))) * ∑ k : Fin 5632, A (ix2 (i 0) k) * W (ix2 k (i 1))

/-- An entry `x` of a row whose squares sum to `q`, normalized and modulated. -/
def normEntry (q x gain scale shift : EReal) : EReal :=
  x * Ideal.rsqrt (Ideal.div q (Ideal.ofBits .f32 0x45000000#32) + Ideal.ofBits .f32 0x358637BD#32) * gain * (1 + scale) + shift

/-- The gated product of two numbers. -/
def gated (g u : EReal) : EReal := g * Ideal.logistic g * u

section
variable (sh sc : Fin 9) (X : Vec Ideal Kernel2Ideal.S32768x2048 .f32) (M : Vec Ideal Kernel2Ideal.S2x9x2048 .f32)
  (G : Vec Ideal Kernel2Ideal.S1x2048 .f32) (W : Vec Ideal Kernel2Ideal.S2048x11264 .f32)

/-- A row normalized and modulated; the shift is row `sh` of the modulation, the scale row `sc`. -/
def normMod (r : Fin 32768) (d : Fin 2048) : EReal :=
  normEntry (∑ k : Fin 2048, X (ix2 r k) * X (ix2 r k)) (X (ix2 r d)) (G (ix2 0 d)) (M (ix3 (seqOf r) sc d))
    (M (ix3 (seqOf r) sh d))

/-- A normalized row times a column of the weights. -/
def normDot (r : Fin 32768) (j : Fin 11264) : EReal := ∑ k : Fin 2048, normMod sh sc X M G r k * W (ix2 k j)

/-- The columns of the gate and of the value. -/
def gcol (j : Fin 5632) : Fin 11264 := ⟨j.val, by omega⟩
def ucol (j : Fin 5632) : Fin 11264 := ⟨5632 + j.val, by omega⟩

/-- The input side. -/
def ffnIn : Vec Ideal Kernel2Ideal.S32768x5632 .bf16 := fun i =>
  gated (normDot sh sc X M G W (i 0) (gcol (i 1))) (normDot sh sc X M G W (i 0) (ucol (i 1)))

end

end Cert.Ffn

end
-- ==== Proof.Ffn.InRun.lean ====
module

public import proofs.«01_k».proof.Proof.Ffn.Spec

@[expose] public section

/-!
# One run of the input side's body

The first run of a block of rows leaves the normalized and modulated rows in a buffer of 1024 rows; every run multiplies
the buffer by a block of columns of both weights.
-/

set_option maxRecDepth 16384

noncomputable section

namespace Cert.Ffn

open Idealize.ShloMosaic Cert.Kernel2Ideal Cert.Kernel2Ideal.Gen

/-- A block's rows, normalized and modulated. -/
def normBlk (x : Vec Ideal S1024x2048 .f32) (sh sc : Vec Ideal S1x1x2048 .f32) (g : Vec Ideal S1x2048 .f32) :
    Vec Ideal S1024x2048 .bf16 := fun y =>
  normEntry (∑ k : Fin 2048, x (ix2 (y 0) k) * x (ix2 (y 0) k)) (x (ix2 (y 0) (y 1))) (g (ix2 0 (y 1))) (sc (ix3 0 0 (y 1)))
    (sh (ix3 0 0 (y 1)))

theorem normBlk_apply (x : Vec Ideal S1024x2048 .f32) (sh sc : Vec Ideal S1x1x2048 .f32) (g : Vec Ideal S1x2048 .f32)
    (a : Fin 1024) (d : Fin 2048) : normBlk x sh sc g (ix2 a d)
      = normEntry (∑ k : Fin 2048, x (ix2 a k) * x (ix2 a k)) (x (ix2 a d)) (g (ix2 0 d)) (sc (ix3 0 0 d)) (sh (ix3 0 0 d)) := rfl

/-- A block of the result, from the normalized rows. -/
def actBlk (h : Vec Ideal S1024x2048 .bf16) (wg wu : Vec Ideal S2048x512 .bf16) : Vec Ideal S1024x512 .bf16 := fun y =>
  gated (∑ k : Fin 2048, h (ix2 (y 0) k) * wg (ix2 k (y 1))) (∑ k : Fin 2048, h (ix2 (y 0) k) * wu (ix2 k (y 1)))

theorem norm_pay (sh sc : Vec Ideal S1x1x2048 .f32) (g : Vec Ideal S1x2048 .f32) (x : Vec Ideal S256x2048 .f32)
    (r : Fin 256) (d : Fin 2048) :
    k0_pay1 (F := Ideal) sh sc g x (ix2 r d)
      = normEntry (∑ k : Fin 2048, x (ix2 r k) * x (ix2 r k)) (x (ix2 r d)) (g (ix2 0 d)) (sc (ix3 0 0 d)) (sh (ix3 0 0 d)) := by
  unfold_payloads
  pointwise [normEntry]

theorem act_pay (h : Vec Ideal S1024x2048 .bf16) (wg wu : Vec Ideal S2048x512 .bf16) :
    k0_pay2 (F := Ideal) h wg wu = actBlk h wg wu := by
  funext y
  obtain ⟨r, d, rfl⟩ : ∃ (r : Fin 1024) (d : Fin 512), y = ix2 r d := ⟨y 0, y 1, eq_ix2 y⟩
  unfold_payloads
  pointwise [actBlk, gated]

/-- Where a trip stores and loads. -/
theorem offs : ∀ k : Fin k0_t1_loop.trips, k0_off1 k = ![256 * k.val, 0] := by decide +kernel

/-- A row of a trip's group, among the block's rows. -/
def grow (k : Fin k0_t1_loop.trips) (a : Fin 256) : Fin 1024 :=
  ⟨256 * k.val + a.val, by have : k.val < 4 := Nat.lt_of_lt_of_le k.isLt k0_t1_abs.2.1; omega⟩

theorem load_x (X : Vec Ideal S1024x2048 .f32) (k : Fin k0_t1_loop.trips) {off : Fin 2 → ℕ}
    (ho : off = ![256 * k.val, 0]) (inb) (a : Fin 256) (d : Fin 2048) :
    View.ld X (Rect.unit (s := S1024x2048) off ![256, 2048] inb) (ix2 a d) = X (ix2 (grow k a) d) := by
  subst ho
  pointwise []
  rfl

/-- One group's piece holds the block's rows. -/
theorem piece_norm {k : Fin k0_t1_loop.trips} (X : Vec Ideal S1024x2048 .f32) (sh sc : Vec Ideal S1x1x2048 .f32)
    (g : Vec Ideal S1x2048 .f32) {off : Fin 2 → ℕ} (ho : off = ![256 * k.val, 0]) (inb)
    (x : (Rect.unit (s := S1024x2048) off ![256, 2048] inb).shape.Idx) :
    k0_pay1 (F := Ideal) sh sc g (View.ld X (Rect.unit (s := S1024x2048) off ![256, 2048] inb)) x
      = normBlk X sh sc g ((Rect.unit (s := S1024x2048) off ![256, 2048] inb).emb x) := by
  obtain ⟨a, d, rfl⟩ : ∃ (a : Fin 256) (d : Fin 2048), x = ix2 a d := ⟨x 0, x 1, eq_ix2 x⟩
  refine (norm_pay _ _ _ _ a d).trans ?_
  simp only [load_x X k ho inb]
  subst ho
  have e : (Rect.unit (s := S1024x2048) ![256 * k.val, 0] ![256, 2048] inb).emb (ix2 a d) = ix2 (grow k a) d := by
    refine funext fun b => Fin.ext ?_
    match b with
    | ⟨0, _⟩ => simp [grow, Rect.emb_apply]
    | ⟨1, _⟩ => simp [Rect.emb_apply]
  rw [e]
  rfl

variable (𝒱 : Variants) (c : Dev nD) (bd : Option 𝒱.V) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S1024x512 .bf16) (harg7 : arg7.IsWhole)
  (arg8 : Memref sig .tc .vmem S1024x2048 .bf16) (harg8 : arg8.IsWhole)

section
variable (hc : k0_cond1 i = 1#1) (sh sc : Vec Ideal S1x1x2048 .f32) (g : Vec Ideal S1x2048 .f32)
  (X2 : BufTy.Contents (Elt Ideal) arg2.view.ty)

/-- The one piece of a trip holds the block's rows. -/
theorem trip_norm (k : Fin k0_t1_loop.trips) :
    ∀ p ∈ tripL_k0_t1 (F := Ideal) 𝒱 c bd i arg2 harg2 arg3 harg3 arg4 harg4 arg5 harg5 arg6 harg6 arg7 harg7 arg8 harg8
      hc sh sc g X2 k, ∀ x, p.2 x = normBlk (arg2.view.read (Elt Ideal) X2) sh sc g (p.1.emb x) := by
  unfold tripL_k0_t1 trip_k0_t1
  dsimp only
  intro p hp
  simp only [List.mem_cons, List.not_mem_nil, or_false] at hp
  subst hp
  exact fun x => piece_norm _ _ _ _ (offs k) _ x

/-- Every piece of the loop's first `t` trips holds the block's rows. -/
theorem loop_norm : ∀ t : ℕ, t ≤ k0_t1_loop.trips →
    ∀ p ∈ pb_k0_t1 (F := Ideal) 𝒱 c bd i arg2 harg2 arg3 harg3 arg4 harg4 arg5 harg5 arg6 harg6 arg7 harg7 arg8 harg8
      hc sh sc g X2 t, ∀ x, p.2 x = normBlk (arg2.view.read (Elt Ideal) X2) sh sc g (p.1.emb x)
  | 0, _ => by
    unfold pb_k0_t1
    exact fun p hp => absurd hp List.not_mem_nil
  | t + 1, ht => by
    have ih := loop_norm t (by omega)
    have e := pb_k0_t1_succ (F := Ideal) 𝒱 c bd i arg2 harg2 arg3 harg3 arg4 harg4 arg5 harg5 arg6 harg6 arg7 harg7
      arg8 harg8 hc sh sc g X2 ⟨t, ht⟩
    rw [show t + 1 = (⟨t, ht⟩ : Fin k0_t1_loop.trips).val + 1 from rfl, e]
    intro p hp
    rcases List.mem_append.mp hp with h | h
    · exact trip_norm 𝒱 c bd i arg2 harg2 arg3 harg3 arg4 harg4 arg5 harg5 arg6 harg6 arg7 harg7 arg8 harg8 hc sh sc g X2 ⟨t, ht⟩ p h
    · exact ih p h

end

variable (hc : cond0_0 i) (x0 : Vec Ideal S1024x2048 .f32) (x1 : Vec Ideal S1x9x2048 .f32) (x2 : Vec Ideal S1x2048 .f32)
  (x3 x4 : Vec Ideal S2048x512 .bf16)

/-- Row `n` of the modulation's block. -/
def modRow (n : Fin 9) (x : Vec Ideal S1x9x2048 .f32) : Vec Ideal S1x1x2048 .f32 := fun y => x (ix3 0 n (y 2))

theorem modRow_apply (n : Fin 9) (x : Vec Ideal S1x9x2048 .f32) (d : Fin 2048) :
    modRow n x (ix3 0 0 d) = x (ix3 0 n d) := rfl

theorem load_mod (n : Fin 9) (x : Vec Ideal S1x9x2048 .f32) {off : Fin 3 → ℕ} (ho : off = ![0, n.val, 0]) (inb) :
    View.ld x (Rect.unit (s := S1x9x2048) off ![1, 1, 2048] inb) = modRow n x := by
  subst ho
  funext y
  obtain ⟨a, b, d, rfl⟩ : ∃ (a b : Fin 1) (d : Fin 2048), y = ix3 a b d := ⟨y 0, y 1, y 2, eq_ix3 y⟩
  obtain rfl : a = 0 := Subsingleton.elim _ _
  obtain rfl : b = 0 := Subsingleton.elim _ _
  pointwise [modRow]

/-- Every piece that the loop stores, when it is given rows `n` and `n'` of the modulation as shift and scale, holds the
normalized rows. -/
theorem loop_pieces (n n' : Fin 9) {off off' : Fin 3 → ℕ} (ho : off = ![0, n.val, 0]) (ho' : off' = ![0, n'.val, 0])
    (inb inb') : ∀ p ∈ pb_k0_t1 (F := Ideal) Variants.none c none i arg2 harg2 arg3 harg3 arg4 harg4 arg5 harg5 arg6 harg6 arg7
      harg7 arg8 harg8 hc
      (View.readAt (Elt Ideal) arg3.view (Rect.unit (s := S1x9x2048) off S1x1x2048.size inb).toLoadRect (harg3.unread x1))
      (View.readAt (Elt Ideal) arg3.view (Rect.unit (s := S1x9x2048) off' S1x1x2048.size inb').toLoadRect (harg3.unread x1))
      (View.readAt (Elt Ideal) arg4.view
        (Rect.unit (s := S1x2048) ![0, 0] S1x2048.size inb_S1x2048_S1x2048_0_0).toLoadRect (harg4.unread x2))
      (harg2.unread x0) k0_t1_loop.trips,
    ∀ x, p.2 x = normBlk x0 (modRow n x1) (modRow n' x1) x2 (p.1.emb x) := by
  intro p hp x
  refine (loop_norm Variants.none c none i arg2 harg2 arg3 harg3 arg4 harg4 arg5 harg5 arg6 harg6 arg7 harg7 arg8 harg8 hc
    _ _ _ (harg2.unread x0) _ le_rfl p hp x).trans ?_
  simp only [View.readAt_eq_ld, Memref.IsWhole.read_unread]
  rw [load_mod n x1 ho, load_mod n' x1 ho']
  exact congrArg (fun z => normBlk x0 (modRow n x1) (modRow n' x1) z (p.1.emb x)) (View.ld_unit_lit _ x2 (by decide))

/-- The pieces that the first run leaves in the buffer hold the normalized rows. -/
theorem norm_pieces : View.canon (kernelRun0_A (F := Ideal) c i arg2 harg2 arg3 harg3 arg4 harg4 arg5 harg5 arg6 harg6 arg7
    harg7 arg8 harg8 hc x0 x1 x2 x3 x4).2.1 = normBlk x0 (modRow 0 x1) (modRow 1 x1) x2 := by
  funext y
  refine View.canon_apply_of_pieces _ _ ?_ y (scover0_A_0 (F := Ideal) c i arg2 harg2 arg3 harg3 arg4 harg4 arg5 harg5 arg6
    harg6 arg7 harg7 arg8 harg8 hc x0 x1 x2 x3 x4 y)
  unfold kernelRun0_A
  exact loop_pieces c i arg2 harg2 arg3 harg3 arg4 harg4 arg5 harg5 arg6 harg6 arg7 harg7 arg8 harg8 hc x0 x1 x2 0 1 rfl rfl _ _

/-- The first run leaves the normalized rows in the buffer. -/
theorem norm_block : sout0_A_0 (F := Ideal) c i arg2 harg2 arg3 harg3 arg4 harg4 arg5 harg5 arg6 harg6 arg7 harg7 arg8 harg8
    hc x0 x1 x2 x3 x4 = normBlk x0 (modRow 0 x1) (modRow 1 x1) x2 := by
  unfold sout0_A_0
  rw [View.read_writes_junk_eq_canon, norm_pieces]

/-- A load of the whole buffer after the first run's stores. -/
theorem load_norm (inb) : arg8.view.readCov (kernelRun0_A (F := Ideal) c i arg2 harg2 arg3 harg3 arg4 harg4 arg5 harg5 arg6
    harg6 arg7 harg7 arg8 harg8 hc x0 x1 x2 x3 x4).2.1 (Rect.unit (s := S1024x2048) ![0, 0] S1024x2048.size inb).toLoadRect
      = normBlk x0 (modRow 0 x1) (modRow 1 x1) x2 := by
  rw [View.readCov_eq_canon_ld _ _ _ (scover0_A_0 (F := Ideal) c i arg2 harg2 arg3 harg3 arg4 harg4 arg5 harg5 arg6
    harg6 arg7 harg7 arg8 harg8 hc x0 x1 x2 x3 x4), norm_pieces]
  exact View.ld_unit_lit _ _ (by decide)

/-- The first run leaves the block's result. -/
theorem act_block_A : out0_A_5 (F := Ideal) c i arg2 harg2 arg3 harg3 arg4 harg4 arg5 harg5 arg6 harg6 arg7 harg7 arg8 harg8
    hc x0 x1 x2 x3 x4 = actBlk (normBlk x0 (modRow 0 x1) (modRow 1 x1) x2) x3 x4 := by
  have h := load_norm c i arg2 harg2 arg3 harg3 arg4 harg4 arg5 harg5 arg6 harg6 arg7 harg7 arg8 harg8 hc x0 x1 x2 x3 x4
    inb_S1024x2048_S1024x2048_0_0
  unfold kernelRun0_A at h
  simp (disch := decide) only [View.readAt_eq_ld, View.ld_unit_lit', Memref.IsWhole.read_unread] at h
  frame_out
  refine Eq.trans ?_ (act_pay _ _ _)
  exact congrArg (fun z => k0_pay2 (F := Ideal) z x3 x4) h

/-- A later run leaves the block's result. -/
theorem act_block_B (hc' : ¬cond0_0 i) (xs : Vec Ideal S1024x2048 .bf16) :
    out0_B_5 (F := Ideal) c i arg2 harg2 arg3 harg3 arg4 harg4 arg5 harg5 arg6 harg6 arg7 harg7 arg8 harg8
    hc' x0 x1 x2 x3 x4 xs = actBlk xs x3 x4 := by
  frame_out
  exact act_pay _ _ _

end Cert.Ffn

end
-- ==== Proof.Ffn.In.lean ====
module

public import proofs.«01_k».proof.Proof.Ffn.InRun

@[expose] public section

/-!
# The input side, over all blocks

Step `t` of the grid computes block `(t / 11, t % 11)` of the result. The normalized rows of row block `t / 11` are in the
buffer after every step.
-/

set_option maxRecDepth 16384

noncomputable section

namespace Cert.FfnIn

open Idealize.ShloMosaic Idealize.ShloMosaic.TcCoe Cert.Ffn Cert.Kernel2Ideal Cert.Kernel2Ideal.Gen Cert.Kernel2Ideal.Value

theorem index0 : ∀ t : Fin cfg0.N, win0_0.index t = ![(grid0.coords t 0).val, 0] :=
  (by decide +kernel : ∀ t : Fin grid0.N, _)
theorem index1 : ∀ t : Fin cfg0.N, win0_1.index t = ![(grid0.coords t 0).val / 16, 0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, (grid0.coords t 1).val] :=
  (by decide +kernel : ∀ t : Fin grid0.N, _)
theorem index4 : ∀ t : Fin cfg0.N, win0_4.index t = ![0, (grid0.coords t 1).val + 11] :=
  (by decide +kernel : ∀ t : Fin grid0.N, _)
theorem index5 : ∀ t : Fin cfg0.N, win0_5.index t = ![(grid0.coords t 0).val, (grid0.coords t 1).val] :=
  (by decide +kernel : ∀ t : Fin grid0.N, _)

variable (m : (ℓ : Loc nD τ sig) → Buf (Elt Ideal) ℓ) (c : Dev nD) (t : Fin cfg0.N)

/-- The arguments: residual, modulation, gain and weights. -/
abbrev argX : Vec Ideal S32768x2048 .f32 := m ((c : Thread nD τ).loc main_arg0)
abbrev argM : Vec Ideal S2x9x2048 .f32 := m ((c : Thread nD τ).loc main_arg1)
abbrev argG : Vec Ideal S1x2048 .f32 := m ((c : Thread nD τ).loc main_arg2)
abbrev argW : Vec Ideal S2048x11264 .f32 := m ((c : Thread nD τ).loc main_arg3)

/-- The weights that the kernel is given are the argument's. -/
theorem V_main_v0 : V m c main_v0 = argW m c := rfl

/-- The grid's coordinates of a step. -/
theorem coord0 : (grid0.coords t 0).val = t.val / 11 % 32 := Pipeline.Grid.coords_val t 0 (by decide) rfl

/-- A block's row among all rows, and its column among the result's columns. -/
def row (a : Fin 1024) : Fin 32768 :=
  ⟨1024 * (grid0.coords t 0).val + a.val, by have : (grid0.coords t 0).val < 32 := (grid0.coords t 0).isLt; omega⟩
def col (d : Fin 512) : Fin 5632 :=
  ⟨512 * (grid0.coords t 1).val + d.val, by have : (grid0.coords t 1).val < 11 := (grid0.coords t 1).isLt; omega⟩

/-- Each input block, in its array. -/
theorem blk0 (a : Fin 1024) (k : Fin 2048) : iblk m c 0 t (ix2 a k) = argX m c (ix2 (row t a) k) := by
  blk_simp [iblk]
  rw [V_main_arg0]
  refine congrArg _ ?_
  blk_ext [index0] <;> simp only [row] <;> omega

theorem blk1 (n : Fin 9) (a : Fin 1024) (d : Fin 2048) :
    iblk m c 1 t (ix3 0 n d) = argM m c (ix3 (seqOf (row t a)) n d) := by
  blk_simp [iblk]
  rw [V_main_arg1]
  refine congrArg _ ?_
  blk_ext [index1] <;> simp only [row, seqOf] <;> omega

theorem blk2 (d : Fin 2048) : iblk m c 2 t (ix2 0 d) = argG m c (ix2 0 d) := by
  blk_simp [iblk]
  rw [V_main_arg2]
  refine congrArg _ ?_
  blk_ext [index2] <;> omega

theorem blk3 (k : Fin 2048) (d : Fin 512) : iblk m c 3 t (ix2 k d) = argW m c (ix2 k (gcol (col t d))) := by
  blk_simp [iblk]
  rw [V_main_v0]
  refine congrArg _ ?_
  blk_ext [index3] <;> simp only [col, gcol] <;> omega

theorem blk4 (k : Fin 2048) (d : Fin 512) : iblk m c 4 t (ix2 k d) = argW m c (ix2 k (ucol (col t d))) := by
  blk_simp [iblk]
  rw [V_main_v0]
  refine congrArg _ ?_
  blk_ext [index4] <;> simp only [col, ucol] <;> omega

/-- The normalized rows of a step's row block; the shift is row `sh` of the modulation, the scale row `sc`. -/
def normRows (sh sc : Fin 9) : Vec Ideal S1024x2048 .bf16 := fun y =>
  normMod sh sc (argX m c) (argM m c) (argG m c) (row t (y 0)) (y 1)

theorem normBlk_eq (sh sc : Fin 9) :
    normBlk (iblk m c 0 t) (modRow sh (iblk m c 1 t)) (modRow sc (iblk m c 1 t)) (iblk m c 2 t) = normRows m c t sh sc := by
  funext y
  obtain ⟨a, d, rfl⟩ : ∃ (a : Fin 1024) (d : Fin 2048), y = ix2 a d := ⟨y 0, y 1, eq_ix2 y⟩
  rw [normBlk_apply, modRow_apply, modRow_apply, blk2, blk1 m c t sh a, blk1 m c t sc a]
  simp only [blk0]
  rfl

/-- Steps of one row block have the same normalized rows. -/
theorem normRows_congr (sh sc : Fin 9) {t t' : Fin cfg0.N} (h : t.val / 11 = t'.val / 11) :
    normRows m c t sh sc = normRows m c t' sh sc := by
  have e : ∀ a, row t a = row t' a := fun a => Fin.ext (by simp only [row, coord0, h])
  exact funext fun y => congrArg (fun r => normMod sh sc (argX m c) (argM m c) (argG m c) r (y 1)) (e (y 0))

/-- A buffer that every first step of a row block fills with the block's normalized rows, and that the other steps keep. -/
theorem steps (sh sc : Fin 9) (o : (n : ℕ) → n < cfg0.N → Vec Ideal S1024x2048 .bf16)
    (hA : ∀ t : Fin cfg0.N, t.val % 11 = 0 → o t.val t.isLt = normRows m c t sh sc)
    (hB : ∀ (n : ℕ) (hn : n + 1 < cfg0.N), (n + 1) % 11 ≠ 0 → o (n + 1) hn = o n (Nat.lt_of_succ_lt hn)) (n : ℕ) :
    ∀ hn : n < cfg0.N, o n hn = normRows m c ⟨n, hn⟩ sh sc := by
  induction n with
  | zero => exact fun hn => hA ⟨0, hn⟩ rfl
  | succ n ih =>
    intro hn
    by_cases h0 : (n + 1) % 11 = 0
    · exact hA ⟨n + 1, hn⟩ h0
    · exact (hB n hn h0).trans ((ih (Nat.lt_of_succ_lt hn)).trans (normRows_congr m c sh sc (by simp only; omega)))

/-- A block of the result, in the whole. -/
theorem entry (sh sc : Fin 9) (a : Fin 1024) (d : Fin 512) :
    actBlk (normRows m c t sh sc) (iblk m c 3 t) (iblk m c 4 t) (ix2 a d)
      = ffnIn sh sc (argX m c) (argM m c) (argG m c) (argW m c) (ix2 (row t a) (col t d)) := by
  show gated (∑ k : Fin 2048, normRows m c t sh sc (ix2 a k) * iblk m c 3 t (ix2 k d))
    (∑ k : Fin 2048, normRows m c t sh sc (ix2 a k) * iblk m c 4 t (ix2 k d)) = _
  simp only [blk3, blk4]
  rfl

/-- Where a block lies in the result. -/
theorem place (a : Fin 1024) (d : Fin 512) :
    ((View.whole main_v1).slice (win0_5.rect t)).emb (ix2 a d) = ix2 (row t a) (col t d) := by
  blk_ext [index5] <;> simp only [row, col] <;> omega

/-- After every step the buffer holds the normalized rows of the step's row block. -/
theorem buffer (n : ℕ) (hn : n < cfg0.N) : (outsAt0 m c n hn).2 = normRows m c ⟨n, hn⟩ 0 1 := by
  refine steps m c 0 1 (fun n hn => (outsAt0 m c n hn).2) (fun t h0 => ?_) (fun n hn h0 => ?_) n hn
  · rw [outsAt0_A m c t h0]
    exact (norm_block ..).trans (normBlk_eq m c t 0 1)
  · rw [outsAt0_B m c ⟨n + 1, hn⟩ h0]
    rfl

/-- What every step leaves in the result's block. -/
theorem block : (outsAt0 m c t.val t.isLt).1 = actBlk (normRows m c t 0 1) (iblk m c 3 t) (iblk m c 4 t) := by
  by_cases h0 : t.val % 11 = 0
  · rw [outsAt0_A m c t h0]
    dsimp only
    rw [act_block_A, normBlk_eq]
  · rw [outsAt0_B m c t h0]
    dsimp only
    rw [act_block_B, buffer m c (t.val - 1), normRows_congr m c 0 1 (t := ⟨t.val - 1, _⟩) (t' := t) (by simp only; omega)]

/-- The array after the run. -/
theorem array_ffnIn : (dats m 0 c).arrAt 5 cfg0.N = ffnIn 0 1 (argX m c) (argM m c) (argG m c) (argW m c) := by
  refine (dats m 0 c).arrAt_eq_of_covers 5 _ (by decide +kernel) fun t hf y => ?_
  obtain ⟨a, d, rfl⟩ : ∃ (a : Fin 1024) (d : Fin 512), y = ix2 a d := ⟨y 0, y 1, eq_ix2 y⟩
  blk_simp
  rw [after0_5, block, place]
  exact entry m c t 0 1 a d

end Cert.FfnIn

end
-- ==== Proof.Ffn.OutRef.lean ====
module

public import proofs.«01_k».proof.Proof.Gen.Reference3Ideal.Read
public import proofs.«01_k».proof.Proof.Ffn.Spec

@[expose] public section

/-!
# The feed-forward half-step's output side, as the reference computes it
-/

set_option maxRecDepth 16384

noncomputable section

namespace Cert.Ffn

open Idealize.ShloMosaic Cert.Reference3Ideal Cert.Reference3Ideal.Gen Cert.Reference3Ideal.Read

variable (A : Vec Ideal S32768x5632 .bf16) (W : Vec Ideal S5632x2048 .f32) (X : Vec Ideal S32768x2048 .f32)
  (M : Vec Ideal S2x9x2048 .f32)

/-- Row `t` of sequence `b` among all rows. -/
def rowOf (b : Fin 2) (t : Fin 16384) : Fin 32768 := ⟨16384 * b.val + t.val, by omega⟩

theorem seqOf_rowOf (b : Fin 2) (t : Fin 16384) : seqOf (rowOf b t) = b :=
  Fin.ext (by simp only [seqOf, rowOf]; omega)

theorem exists_rowOf (r : Fin 32768) : ∃ (b : Fin 2) (t : Fin 16384), r = rowOf b t :=
  ⟨⟨r.val / 16384, by omega⟩, ⟨r.val % 16384, by omega⟩, Fin.ext (by simp only [rowOf]; omega)⟩

variable (b : Fin 2) (t : Fin 16384)

/-- The residual. -/
theorem out_res (d : Fin 2048) : val_main_v0 (F := Ideal) X (ix3 b t d) = X (ix2 (rowOf b t) d) := by
  rw [val_main_v0_apply]
  refine congrArg X (funext fun a => Fin.ext ?_)
  match a with
  | ⟨0, _⟩ =>
    show ((b.val * 16384 + t.val) * 2048 + d.val) / 2048 = 16384 * b.val + t.val
    omega
  | ⟨1, _⟩ =>
    show ((b.val * 16384 + t.val) * 2048 + d.val) % 2048 = d.val
    omega

/-- The activations. -/
theorem out_act (k : Fin 5632) : val_main_v5 (F := Ideal) A (ix3 b t k) = A (ix2 (rowOf b t) k) := by
  rw [val_main_v5_apply, val_main_v4_apply]
  refine congrArg A (funext fun a => Fin.ext ?_)
  match a with
  | ⟨0, _⟩ =>
    show ((b.val * 16384 + t.val) * 5632 + k.val) / 5632 = 16384 * b.val + t.val
    omega
  | ⟨1, _⟩ =>
    show ((b.val * 16384 + t.val) * 5632 + k.val) % 5632 = k.val
    omega

/-- The gate. -/
theorem out_gate (d : Fin 2048) : val_main_v3 (F := Ideal) M (ix3 b 0 d) = M (ix3 b 2 d) := by
  rw [val_main_v3_apply, val_main_v2_apply, val_main_v1_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

theorem at_out (d : Fin 2048) : idx_main_v12 (ix2 (rowOf b t) d) = ix3 b t d := by
  refine funext fun a => Fin.ext ?_
  match a with
  | ⟨0, _⟩ =>
    show ((16384 * b.val + t.val) * 2048 + d.val) / 33554432 = b.val
    omega
  | ⟨1, _⟩ =>
    show ((16384 * b.val + t.val) * 2048 + d.val) / 2048 % 16384 = t.val
    omega
  | ⟨2, _⟩ =>
    show ((16384 * b.val + t.val) * 2048 + d.val) % 2048 = d.val
    omega
theorem at_out_gate (d : Fin 2048) : idx_main_v9 (ix3 b t d) = ix3 b 0 d :=
  funext fun a => match a with | ⟨0, _⟩ => rfl | ⟨1, _⟩ => rfl | ⟨2, _⟩ => rfl
theorem at_out_l (d : Fin 2048) (k : Fin 5632) : lidx_main_v6 (ix3 b t d) k = ix3 b t k :=
  funext fun a => match a with | ⟨0, _⟩ => rfl | ⟨1, _⟩ => rfl | ⟨2, _⟩ => rfl
theorem at_out_r (d : Fin 2048) (k : Fin 5632) : ridx_main_v6 (ix3 b t d) k = ix2 k d :=
  funext fun a => match a with | ⟨0, _⟩ => rfl | ⟨1, _⟩ => rfl

/-- The reference's result. -/
theorem ref_ffnOut : val_main_v12 (F := Ideal) A W X M = ffnOut 2 A W X M := by
  funext i
  obtain ⟨r, d, rfl⟩ : ∃ (r : Fin 32768) (d : Fin 2048), i = ix2 r d := ⟨i 0, i 1, eq_ix2 i⟩
  obtain ⟨b, t, rfl⟩ := exists_rowOf r
  rw [val_main_v12_apply, at_out, val_main_v11_apply, out_res, val_main_v10_apply, val_main_v9_apply, at_out_gate,
    val_main_v8_apply, out_gate, val_main_v7_apply, val_main_cst_apply, val_main_v6_apply]
  simp only [at_out_l, at_out_r, out_act]
  have e : ffnOut 2 A W X M (ix2 (rowOf b t) d) = X (ix2 (rowOf b t) d)
      + (Ideal.ofBits .f32 0x3F000000#32 * M (ix3 (seqOf (rowOf b t)) 2 d))
        * ∑ k : Fin 5632, A (ix2 (rowOf b t) k) * W (ix2 k d) := rfl
  rw [e, seqOf_rowOf]
  rfl

end Cert.Ffn

end
-- ==== Proof.Ffn.InRef.lean ====
module

public import proofs.«01_k».proof.Proof.Gen.Reference2Ideal.Read
public import proofs.«01_k».proof.Proof.Ffn.OutRef

@[expose] public section

/-!
# The feed-forward half-step's input side, as the reference computes it
-/

set_option maxRecDepth 16384

noncomputable section

namespace Cert.FfnIn

open Idealize.ShloMosaic Cert.Ffn Cert.Reference2Ideal Cert.Reference2Ideal.Gen Cert.Reference2Ideal.Read

variable (X : Vec Ideal S32768x2048 .f32) (M : Vec Ideal S2x9x2048 .f32) (G : Vec Ideal S1x2048 .f32)
  (W : Vec Ideal S2048x11264 .f32) (b : Fin 2) (t : Fin 16384)

/-- The residual. -/
theorem in_res (d : Fin 2048) : val_main_v0 (F := Ideal) X (ix3 b t d) = X (ix2 (rowOf b t) d) := by
  rw [val_main_v0_apply]
  refine congrArg X (funext fun a => Fin.ext ?_)
  match a with
  | ⟨0, _⟩ =>
    show ((b.val * 16384 + t.val) * 2048 + d.val) / 2048 = 16384 * b.val + t.val
    omega
  | ⟨1, _⟩ =>
    show ((b.val * 16384 + t.val) * 2048 + d.val) % 2048 = d.val
    omega

/-- The shift and the scale. -/
theorem in_shift (d : Fin 2048) : val_main_v3 (F := Ideal) M (ix3 b 0 d) = M (ix3 b 0 d) := by
  rw [val_main_v3_apply, val_main_v2_apply, val_main_v1_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

theorem in_scale (d : Fin 2048) : val_main_v6 (F := Ideal) M (ix3 b 0 d) = M (ix3 b 1 d) := by
  rw [val_main_v6_apply, val_main_v5_apply, val_main_v4_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

/-- The gain. -/
theorem in_gain (d : Fin 2048) : val_main_v19 (F := Ideal) G (ix3 b t d) = G (ix2 0 d) := by
  rw [val_main_v19_apply, val_main_v18_apply, val_main_v17_apply]
  refine congrArg G (funext fun a => Fin.ext ?_)
  match a with
  | ⟨0, _⟩ => rfl
  | ⟨1, _⟩ =>
    show d.val % 2048 = d.val
    omega

theorem at_sq (k : Fin 2048) : idx_main_v8 (ix2 b t) k = ix3 b t k :=
  funext fun a => match a with | ⟨0, _⟩ => rfl | ⟨1, _⟩ => rfl | ⟨2, _⟩ => rfl
theorem at_sum : idx_main_v9 (ix3 b t 0) = ix2 b t :=
  funext fun a => match a with | ⟨0, _⟩ => rfl | ⟨1, _⟩ => rfl
theorem at_norm (d : Fin 2048) : idx_main_v15 (ix3 b t d) = ix3 b t 0 :=
  funext fun a => match a with | ⟨0, _⟩ => rfl | ⟨1, _⟩ => rfl | ⟨2, _⟩ => rfl
theorem at_scale (d : Fin 2048) : idx_main_v23 (ix3 b t d) = ix3 b 0 d :=
  funext fun a => match a with | ⟨0, _⟩ => rfl | ⟨1, _⟩ => rfl | ⟨2, _⟩ => rfl
theorem at_shift (d : Fin 2048) : idx_main_v25 (ix3 b t d) = ix3 b 0 d :=
  funext fun a => match a with | ⟨0, _⟩ => rfl | ⟨1, _⟩ => rfl | ⟨2, _⟩ => rfl
theorem at_l (j : Fin 11264) (k : Fin 2048) : lidx_main_v27 (ix3 b t j) k = ix3 b t k :=
  funext fun a => match a with | ⟨0, _⟩ => rfl | ⟨1, _⟩ => rfl | ⟨2, _⟩ => rfl
theorem at_r (j : Fin 11264) (k : Fin 2048) : ridx_main_v27 (ix3 b t j) k = ix2 k j :=
  funext fun a => match a with | ⟨0, _⟩ => rfl | ⟨1, _⟩ => rfl
theorem at_g (j : Fin 5632) : idx_main_v28 (ix3 b t j) = ix3 b t (gcol j) :=
  funext fun a => match a with | ⟨0, _⟩ => rfl | ⟨1, _⟩ => rfl | ⟨2, _⟩ => rfl
theorem at_u (j : Fin 5632) : idx_main_v29 (ix3 b t j) = ix3 b t (ucol j) :=
  funext fun a => match a with | ⟨0, _⟩ => rfl | ⟨1, _⟩ => rfl | ⟨2, _⟩ => rfl
theorem at_res (j : Fin 5632) : idx_main_v32 (ix2 (rowOf b t) j) = ix3 b t j := by
  refine funext fun a => Fin.ext ?_
  match a with
  | ⟨0, _⟩ =>
    show ((16384 * b.val + t.val) * 5632 + j.val) / 92274688 = b.val
    omega
  | ⟨1, _⟩ =>
    show ((16384 * b.val + t.val) * 5632 + j.val) / 5632 % 16384 = t.val
    omega
  | ⟨2, _⟩ =>
    show ((16384 * b.val + t.val) * 5632 + j.val) % 5632 = j.val
    omega

/-- A row's squares, summed. -/
theorem in_sum : val_main_v9 (F := Ideal) X (ix3 b t 0)
    = ∑ k : Fin 2048, X (ix2 (rowOf b t) k) * X (ix2 (rowOf b t) k) := by
  rw [val_main_v9_apply, at_sum, val_main_v8_apply, val_main_cst_apply]
  refine (congrArg (· + _) Ideal.ofBits_zero_f32).trans ((zero_add _).trans (Finset.sum_congr rfl fun k _ => ?_))
  rw [at_sq, val_main_v7_apply, in_res]
  rfl

/-- The normalized and modulated rows. -/
theorem in_norm (d : Fin 2048) : val_main_v26 (F := Ideal) X M G (ix3 b t d) = normMod 0 1 X M G (rowOf b t) d := by
  rw [val_main_v26_apply, val_main_v24_apply, val_main_v20_apply, val_main_v16_apply, val_main_v15_apply, at_norm,
    val_main_v14_apply, val_main_v13_apply, val_main_v11_apply, in_sum, in_res, in_gain, val_main_v23_apply, at_scale,
    val_main_v22_apply, in_scale, val_main_v25_apply, at_shift, in_shift, val_main_v21_apply, val_main_cst_2_apply,
    val_main_v10_apply, val_main_cst_0_apply, val_main_v12_apply, val_main_cst_1_apply]
  unfold normMod
  rw [seqOf_rowOf, normEntry, ← Ideal.ofBits_one_f32]
  rfl

/-- A row's product with a column of the weights. -/
theorem in_dot (j : Fin 11264) : val_main_v27 (F := Ideal) X M G W (ix3 b t j) = normDot 0 1 X M G W (rowOf b t) j := by
  rw [val_main_v27_apply]
  refine Finset.sum_congr rfl fun k _ => ?_
  rw [at_l, at_r, in_norm]

/-- The reference's result. -/
theorem ref_ffnIn : val_main_v33 (F := Ideal) X M G W = ffnIn 0 1 X M G W := by
  funext i
  obtain ⟨r, j, rfl⟩ : ∃ (r : Fin 32768) (j : Fin 5632), i = ix2 r j := ⟨i 0, i 1, eq_ix2 i⟩
  obtain ⟨b, t, rfl⟩ := exists_rowOf r
  rw [val_main_v33_apply, val_main_v32_apply, at_res, val_main_v31_apply, val_main_v30_apply, val_main_call0_v5_apply,
    val_main_call0_v4_apply, val_main_call0_cst_0_apply, val_main_call0_v3_apply, val_main_call0_v2_apply,
    val_main_call0_cst_apply, val_main_call0_v1_apply, val_main_call0_v0_apply, val_main_v28_apply, val_main_v29_apply,
    at_g, at_u, in_dot, in_dot]
  show _ = gated (normDot 0 1 X M G W (rowOf b t) (gcol j)) (normDot 0 1 X M G W (rowOf b t) (ucol j))
  rw [gated, Ideal.logistic, ← Ideal.ofBits_one_f32]
  rfl

end Cert.FfnIn

end
-- ==== Proof.Ffn.Out.lean ====
module

public import proofs.«01_k».proof.Proof.Ffn.Spec
public import Idealize.ShloMosaic.Lib.Pipeline.ValueKit
public import Idealize.ShloMosaic.Lib.Pointwise

@[expose] public section

/-!
# The feed-forward step's output product, as the kernel computes it

Rows are the 32768 positions of both sequences. The result is the residual plus half the gate times the product of the
activations with the output weights.
-/

set_option maxRecDepth 16384

noncomputable section

namespace Cert.Ffn

open Idealize.ShloMosaic Idealize.ShloMosaic.TcCoe Cert.Kernel3Ideal Cert.Kernel3Ideal.Gen Cert.Kernel3Ideal.Value

/-- What one block computes. -/
theorem out_pay (a : Vec Ideal S1024x5632 .bf16) (w : Vec Ideal S5632x512 .bf16) (g : Vec Ideal S1x1x512 .f32)
    (x : Vec Ideal S1024x512 .f32) (r : Fin 1024) (j : Fin 512) :
    k0_pay1 (F := Ideal) a w g x (ix2 r j)
      = x (ix2 r j) + (Ideal.ofBits .f32 0x3F000000#32 * g (ix3 0 0 j)) * ∑ k : Fin 5632, a (ix2 r k) * w (ix2 k j) := by
  unfold_payloads
  pointwise []

theorem index0 : ∀ t : Fin cfg0.N, win0_0.index t = ![(grid0.coords t 0).val, 0] :=
  (by decide +kernel : ∀ t : Fin grid0.N, _)
theorem index1 : ∀ t : Fin cfg0.N, win0_1.index t = ![0, (grid0.coords t 1).val] :=
  (by decide +kernel : ∀ t : Fin grid0.N, _)
theorem index2 : ∀ t : Fin cfg0.N, win0_2.index t = ![(grid0.coords t 0).val, (grid0.coords t 1).val] :=
  (by decide +kernel : ∀ t : Fin grid0.N, _)
theorem index3 : ∀ t : Fin cfg0.N, win0_3.index t = ![(grid0.coords t 0).val / 16, 0, (grid0.coords t 1).val] :=
  (by decide +kernel : ∀ t : Fin grid0.N, _)
theorem index4 : ∀ t : Fin cfg0.N, win0_4.index t = ![(grid0.coords t 0).val, (grid0.coords t 1).val] :=
  (by decide +kernel : ∀ t : Fin grid0.N, _)

variable (m : (ℓ : Loc nD τ sig) → Buf (Elt Ideal) ℓ) (c : Dev nD) (t : Fin cfg0.N)

/-- The arguments: activations, weights, residual and modulation. -/
abbrev argA : Vec Ideal S32768x5632 .bf16 := m ((c : Thread nD τ).loc main_arg0)
abbrev argW : Vec Ideal S5632x2048 .f32 := m ((c : Thread nD τ).loc main_arg1)
abbrev argX : Vec Ideal S32768x2048 .f32 := m ((c : Thread nD τ).loc main_arg2)
abbrev argM : Vec Ideal S2x9x2048 .f32 := m ((c : Thread nD τ).loc main_arg3)

/-- The weights that the kernel is given are the argument's. -/
theorem V_main_v0 : V m c main_v0 = argW m c := rfl

/-- A block's row among all rows, and its column among the output's columns. -/
def row (a : Fin 1024) : Fin 32768 :=
  ⟨1024 * (grid0.coords t 0).val + a.val, by have : (grid0.coords t 0).val < 32 := (grid0.coords t 0).isLt; omega⟩
def col (d : Fin 512) : Fin 2048 :=
  ⟨512 * (grid0.coords t 1).val + d.val, by have : (grid0.coords t 1).val < 4 := (grid0.coords t 1).isLt; omega⟩

/-- Each input block, in its array. -/
theorem blk0 (a : Fin 1024) (k : Fin 5632) : iblk m c 0 t (ix2 a k) = argA m c (ix2 (row t a) k) := by
  blk_simp [iblk]
  rw [V_main_arg0]
  refine congrArg _ ?_
  blk_ext [index0] <;> simp only [row] <;> omega

theorem blk1 (k : Fin 5632) (d : Fin 512) : iblk m c 1 t (ix2 k d) = argW m c (ix2 k (col t d)) := by
  blk_simp [iblk]
  rw [V_main_v0]
  refine congrArg _ ?_
  blk_ext [index1] <;> simp only [col] <;> omega

theorem blk2 (a : Fin 1024) (d : Fin 512) : iblk m c 2 t (ix2 a d) = argX m c (ix2 (row t a) (col t d)) := by
  blk_simp [iblk]
  rw [V_main_arg2]
  refine congrArg _ ?_
  blk_ext [index2] <;> simp only [row, col] <;> omega

theorem blk3 (n : Fin 9) (a : Fin 1024) (d : Fin 512) :
    iblk m c 3 t (ix3 0 n d) = argM m c (ix3 (seqOf (row t a)) n (col t d)) := by
  blk_simp [iblk]
  rw [V_main_arg3]
  refine congrArg _ ?_
  blk_ext [index3] <;> simp only [row, col, seqOf] <;> omega

/-- A block of the result, in the whole; the gate is row `n` of the modulation. -/
theorem entry (n : Fin 9) (g : Vec Ideal S1x1x512 .f32) (a : Fin 1024) (d : Fin 512) (hg : g (ix3 0 0 d) = iblk m c 3 t (ix3 0 n d)) :
    k0_pay1 (F := Ideal) (iblk m c 0 t) (iblk m c 1 t) g (iblk m c 2 t) (ix2 a d)
      = ffnOut n (argA m c) (argW m c) (argX m c) (argM m c) (ix2 (row t a) (col t d)) := by
  rw [out_pay, blk2, hg, blk3 m c t n a]
  simp only [blk0, blk1]
  rfl

/-- Where a block lies in the result. -/
theorem place (a : Fin 1024) (d : Fin 512) :
    ((View.whole main_v1).slice (win0_4.rect t)).emb (ix2 a d) = ix2 (row t a) (col t d) := by
  blk_ext [index4] <;> simp only [row, col] <;> omega

/-- The array after the run. -/
theorem array_ffnOut : (dats m 0 c).arrAt 4 cfg0.N = ffnOut 2 (argA m c) (argW m c) (argX m c) (argM m c) := by
  refine (dats m 0 c).arrAt_eq_of_covers 4 _ (by decide +kernel) fun t hf y => ?_
  obtain ⟨a, d, rfl⟩ : ∃ (a : Fin 1024) (d : Fin 512), y = ix2 a d := ⟨y 0, y 1, eq_ix2 y⟩
  blk_simp
  rw [after0_4]
  frame_out
  rw [place]
  exact entry m c t 2 _ a d (by pointwise [r0_2])

end Cert.Ffn

end
-- ==== Proof.Ffn.InAfter.lean ====
module

public import proofs.«01_k».proof.Proof.Gen.Kernel4Ideal.Value
public import proofs.«01_k».proof.Proof.Ffn.In

@[expose] public section

/-!
# The input side of the feed-forward step after the mixer

The program is the one before the mixer but for the two rows of the modulation that it loads, so its blocks, its loop and
its products are the same.
-/

set_option maxRecDepth 16384

noncomputable section

namespace Cert.InAfter

open Idealize.ShloMosaic Idealize.ShloMosaic.TcCoe Cert.Ffn Cert.Kernel4Ideal Cert.Kernel4Ideal.Gen Cert.Kernel4Ideal.Value

section
variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S1024x512 .bf16) (harg7 : arg7.IsWhole)
  (arg8 : Memref sig .tc .vmem S1024x2048 .bf16) (harg8 : arg8.IsWhole)

/-- The loop stores the same pieces. -/
theorem same_pieces (hc : k0_cond1 i = 1#1) (sh sc : Vec Ideal S1x1x2048 .f32) (g : Vec Ideal S1x2048 .f32)
    (X2 : BufTy.Contents (Elt Ideal) arg2.view.ty) : ∀ t : ℕ, t ≤ k0_t1_loop.trips →
    pb_k0_t1 (F := Ideal) Variants.none c none i arg2 harg2 arg3 harg3 arg4 harg4 arg5 harg5 arg6 harg6 arg7 harg7 arg8 harg8
      hc sh sc g X2 t
    = Kernel2Ideal.Gen.pb_k0_t1 (F := Ideal) Variants.none c none i arg2 harg2 arg3 harg3 arg4 harg4 arg5 harg5 arg6 harg6
      arg7 harg7 arg8 harg8 hc sh sc g X2 t
  | 0, _ => (pb_k0_t1.eq_1 ..).trans (Kernel2Ideal.Gen.pb_k0_t1.eq_1 ..).symm
  | t + 1, ht => by
    refine (pb_k0_t1_succ (F := Ideal) Variants.none c none i arg2 harg2 arg3 harg3 arg4 harg4 arg5 harg5 arg6 harg6 arg7 harg7
      arg8 harg8 hc sh sc g X2 ⟨t, ht⟩).trans ?_
    refine Eq.trans ?_ (Kernel2Ideal.Gen.pb_k0_t1_succ (F := Ideal) Variants.none c none i arg2 harg2 arg3 harg3 arg4 harg4
      arg5 harg5 arg6 harg6 arg7 harg7 arg8 harg8 hc sh sc g X2 ⟨t, ht⟩).symm
    refine congrArg₂ (· ++ ·) ?_ (same_pieces hc sh sc g X2 t (by omega))
    unfold tripL_k0_t1 Kernel2Ideal.Gen.tripL_k0_t1 trip_k0_t1 Kernel2Ideal.Gen.trip_k0_t1
    rfl

variable (hc : cond0_0 i) (x0 : Vec Ideal S1024x2048 .f32) (x1 : Vec Ideal S1x9x2048 .f32) (x2 : Vec Ideal S1x2048 .f32)
  (x3 x4 : Vec Ideal S2048x512 .bf16)

/-- Every piece that the loop stores holds the normalized rows. -/
theorem pieces : ∀ p ∈ pb_k0_t1 (F := Ideal) Variants.none c none i arg2 harg2 arg3 harg3 arg4 harg4 arg5 harg5 arg6 harg6 arg7
      harg7 arg8 harg8 hc
      (View.readAt (Elt Ideal) arg3.view
        (Rect.unit (s := S1x9x2048) ![0, 6, 0] S1x1x2048.size inb_S1x9x2048_S1x1x2048_0_6_0).toLoadRect (harg3.unread x1))
      (View.readAt (Elt Ideal) arg3.view
        (Rect.unit (s := S1x9x2048) ![0, 7, 0] S1x1x2048.size inb_S1x9x2048_S1x1x2048_0_7_0).toLoadRect (harg3.unread x1))
      (View.readAt (Elt Ideal) arg4.view
        (Rect.unit (s := S1x2048) ![0, 0] S1x2048.size inb_S1x2048_S1x2048_0_0).toLoadRect (harg4.unread x2))
      (harg2.unread x0) k0_t1_loop.trips,
    ∀ x, p.2 x = normBlk x0 (modRow 6 x1) (modRow 7 x1) x2 (p.1.emb x) := by
  rw [same_pieces c i arg2 harg2 arg3 harg3 arg4 harg4 arg5 harg5 arg6 harg6 arg7 harg7 arg8 harg8 hc _ _ _ _ _ le_rfl]
  exact loop_pieces c i arg2 harg2 arg3 harg3 arg4 harg4 arg5 harg5 arg6 harg6 arg7 harg7 arg8 harg8 hc x0 x1 x2 6 7
    (off := ![0, 6, 0]) (off' := ![0, 7, 0]) rfl rfl inb_S1x9x2048_S1x1x2048_0_6_0 inb_S1x9x2048_S1x1x2048_0_7_0

/-- The pieces that the first run leaves in the buffer hold the normalized rows. -/
theorem norm_pieces : View.canon (kernelRun0_A (F := Ideal) c i arg2 harg2 arg3 harg3 arg4 harg4 arg5 harg5 arg6 harg6 arg7
    harg7 arg8 harg8 hc x0 x1 x2 x3 x4).2.1 = normBlk x0 (modRow 6 x1) (modRow 7 x1) x2 := by
  funext y
  refine View.canon_apply_of_pieces _ _ ?_ y (scover0_A_0 (F := Ideal) c i arg2 harg2 arg3 harg3 arg4 harg4 arg5 harg5 arg6
    harg6 arg7 harg7 arg8 harg8 hc x0 x1 x2 x3 x4 y)
  unfold kernelRun0_A
  exact pieces c i arg2 harg2 arg3 harg3 arg4 harg4 arg5 harg5 arg6 harg6 arg7 harg7 arg8 harg8 hc x0 x1 x2

/-- The first run leaves the normalized rows in the buffer. -/
theorem norm_block : sout0_A_0 (F := Ideal) c i arg2 harg2 arg3 harg3 arg4 harg4 arg5 harg5 arg6 harg6 arg7 harg7 arg8 harg8
    hc x0 x1 x2 x3 x4 = normBlk x0 (modRow 6 x1) (modRow 7 x1) x2 := by
  unfold sout0_A_0
  rw [View.read_writes_junk_eq_canon, norm_pieces]

/-- A load of the whole buffer after the first run's stores. -/
theorem load_norm (inb) : arg8.view.readCov (kernelRun0_A (F := Ideal) c i arg2 harg2 arg3 harg3 arg4 harg4 arg5 harg5 arg6
    harg6 arg7 harg7 arg8 harg8 hc x0 x1 x2 x3 x4).2.1 (Rect.unit (s := S1024x2048) ![0, 0] S1024x2048.size inb).toLoadRect
      = normBlk x0 (modRow 6 x1) (modRow 7 x1) x2 := by
  rw [View.readCov_eq_canon_ld _ _ _ (scover0_A_0 (F := Ideal) c i arg2 harg2 arg3 harg3 arg4 harg4 arg5 harg5 arg6
    harg6 arg7 harg7 arg8 harg8 hc x0 x1 x2 x3 x4), norm_pieces]
  exact View.ld_unit_lit _ _ (by decide)

/-- The first run leaves the block's result. -/
theorem act_block_A : out0_A_5 (F := Ideal) c i arg2 harg2 arg3 harg3 arg4 harg4 arg5 harg5 arg6 harg6 arg7 harg7 arg8 harg8
    hc x0 x1 x2 x3 x4 = actBlk (normBlk x0 (modRow 6 x1) (modRow 7 x1) x2) x3 x4 := by
  have h := load_norm c i arg2 harg2 arg3 harg3 arg4 harg4 arg5 harg5 arg6 harg6 arg7 harg7 arg8 harg8 hc x0 x1 x2 x3 x4
    inb_S1024x2048_S1024x2048_0_0
  unfold kernelRun0_A at h
  simp (disch := decide) only [View.readAt_eq_ld, View.ld_unit_lit', Memref.IsWhole.read_unread] at h
  frame_out
  exact (congrArg (fun z => k0_pay2 (F := Ideal) z x3 x4) h).trans (act_pay _ _ _)

/-- A later run leaves the block's result. -/
theorem act_block_B (hc' : ¬cond0_0 i) (xs : Vec Ideal S1024x2048 .bf16) :
    out0_B_5 (F := Ideal) c i arg2 harg2 arg3 harg3 arg4 harg4 arg5 harg5 arg6 harg6 arg7 harg7 arg8 harg8
    hc' x0 x1 x2 x3 x4 xs = actBlk xs x3 x4 := by
  frame_out
  exact act_pay _ _ _

end

variable (m : (ℓ : Loc nD τ sig) → Buf (Elt Ideal) ℓ) (c : Dev nD) (t : Fin cfg0.N)

/-- After every step the buffer holds the normalized rows of the step's row block. -/
theorem buffer (n : ℕ) (hn : n < cfg0.N) : (outsAt0 m c n hn).2 = FfnIn.normRows m c ⟨n, hn⟩ 6 7 := by
  refine FfnIn.steps m c 6 7 (fun n hn => (outsAt0 m c n hn).2) (fun t h0 => ?_) (fun n hn h0 => ?_) n hn
  · rw [outsAt0_A m c t h0]
    exact (norm_block ..).trans (FfnIn.normBlk_eq m c t 6 7)
  · rw [outsAt0_B m c ⟨n + 1, hn⟩ h0]
    rfl

/-- What every step leaves in the result's block. -/
theorem block : (outsAt0 m c t.val t.isLt).1 = actBlk (FfnIn.normRows m c t 6 7) (iblk m c 3 t) (iblk m c 4 t) := by
  by_cases h0 : t.val % 11 = 0
  · rw [outsAt0_A m c t h0]
    dsimp only
    rw [act_block_A]
    exact congrArg (fun z => actBlk z (iblk m c 3 t) (iblk m c 4 t)) (FfnIn.normBlk_eq m c t 6 7)
  · rw [outsAt0_B m c t h0]
    dsimp only
    rw [act_block_B]
    exact congrArg (fun z => actBlk z (iblk m c 3 t) (iblk m c 4 t)) ((buffer m c (t.val - 1) _).trans
      (FfnIn.normRows_congr m c 6 7 (by simp only; omega)))

/-- The array after the run. -/
theorem array_ffnIn : (dats m 0 c).arrAt 5 cfg0.N
    = ffnIn 6 7 (FfnIn.argX m c) (FfnIn.argM m c) (FfnIn.argG m c) (FfnIn.argW m c) := by
  refine (dats m 0 c).arrAt_eq_of_covers 5 _ (by decide +kernel) fun t hf y => ?_
  obtain ⟨a, d, rfl⟩ : ∃ (a : Fin 1024) (d : Fin 512), y = ix2 a d := ⟨y 0, y 1, eq_ix2 y⟩
  blk_simp
  rw [after0_5, block]
  exact (FfnIn.entry m c t 6 7 a d).trans (congrArg _ (FfnIn.place t a d).symm)

end Cert.InAfter

end
-- ==== Proof.Ffn.InRefAfter.lean ====
module

public import proofs.«01_k».proof.Proof.Gen.Reference4Ideal.Read
public import proofs.«01_k».proof.Proof.Ffn.InRef

@[expose] public section

/-!
# The input side of the feed-forward step after the mixer, as the reference computes it

It is the step before the mixer, of the modulation read from row 6 on.
-/

set_option maxRecDepth 16384

noncomputable section

namespace Cert.InAfter

open Idealize.ShloMosaic Cert.Ffn Cert.Reference4Ideal Cert.Reference4Ideal.Gen Cert.Reference4Ideal.Read

variable (X : Vec Ideal S32768x2048 .f32) (M : Vec Ideal S2x9x2048 .f32) (G : Vec Ideal S1x2048 .f32)
  (W : Vec Ideal S2048x11264 .f32)

/-- The modulation, read from row `n` on. -/
def later (n : ℕ) : Vec Ideal S2x9x2048 .f32 := fun i =>
  M (ix3 (i 0) (⟨((i 1).val + n) % 9, Nat.mod_lt _ (by decide)⟩ : Fin 9) (i 2))

/-- The shift and the scale. -/
theorem shift_later : val_main_v3 (F := Ideal) M = Reference2Ideal.Read.val_main_v3 (F := Ideal) (later M 6) := by
  funext i
  obtain ⟨b, e, d, rfl⟩ : ∃ (b : Fin 2) (e : Fin 1) (d : Fin 2048), i = ix3 b e d := ⟨i 0, i 1, i 2, eq_ix3 i⟩
  obtain rfl : e = 0 := Subsingleton.elim _ _
  refine Eq.trans ?_ (FfnIn.in_shift (later M 6) b d).symm
  rw [val_main_v3_apply, val_main_v2_apply, val_main_v1_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

theorem scale_later : val_main_v6 (F := Ideal) M = Reference2Ideal.Read.val_main_v6 (F := Ideal) (later M 6) := by
  funext i
  obtain ⟨b, e, d, rfl⟩ : ∃ (b : Fin 2) (e : Fin 1) (d : Fin 2048), i = ix3 b e d := ⟨i 0, i 1, i 2, eq_ix3 i⟩
  obtain rfl : e = 0 := Subsingleton.elim _ _
  refine Eq.trans ?_ (FfnIn.in_scale (later M 6) b d).symm
  rw [val_main_v6_apply, val_main_v5_apply, val_main_v4_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

theorem norm_later : val_main_v26 (F := Ideal) X M G = Reference2Ideal.Read.val_main_v26 (F := Ideal) X (later M 6) G := by
  unfold val_main_v26 val_main_v25 val_main_v24 val_main_v23 val_main_v22
  rw [shift_later, scale_later]
  rfl

/-- The reference's result. -/
theorem ref_ffnIn : val_main_v33 (F := Ideal) X M G W = ffnIn 6 7 X M G W := by
  refine Eq.trans ?_ ((FfnIn.ref_ffnIn X (later M 6) G W).trans rfl)
  unfold val_main_v33 val_main_v32 val_main_v31 val_main_v30 val_main_call0_v5 val_main_call0_v3 val_main_call0_v1
    val_main_call0_v0 val_main_v29 val_main_v28 val_main_v27
  rw [norm_later]
  rfl

end Cert.InAfter

end
-- ==== Proof.Ffn.OutAfter.lean ====
module

public import proofs.«01_k».proof.Proof.Gen.Kernel5Ideal.Value
public import proofs.«01_k».proof.Proof.Ffn.Out

@[expose] public section

/-!
# The output product of the feed-forward step after the mixer, as the kernel computes it

The program is the one before the mixer but for the row of the modulation that it loads, so its blocks and its body are
the same.
-/

set_option maxRecDepth 16384

noncomputable section

namespace Cert.OutAfter

open Idealize.ShloMosaic Idealize.ShloMosaic.TcCoe Cert.Kernel5Ideal Cert.Kernel5Ideal.Gen Cert.Kernel5Ideal.Value

variable (m : (ℓ : Loc nD τ sig) → Buf (Elt Ideal) ℓ) (c : Dev nD)

/-- The array after the run. -/
theorem array_ffnOut : (dats m 0 c).arrAt 4 cfg0.N
    = Ffn.ffnOut 8 (Ffn.argA m c) (Ffn.argW m c) (Ffn.argX m c) (Ffn.argM m c) := by
  refine (dats m 0 c).arrAt_eq_of_covers 4 _ (by decide +kernel) fun t hf y => ?_
  obtain ⟨a, d, rfl⟩ : ∃ (a : Fin 1024) (d : Fin 512), y = ix2 a d := ⟨y 0, y 1, eq_ix2 y⟩
  blk_simp
  rw [after0_4]
  frame_out
  exact (Ffn.entry m c t 8 _ a d (by pointwise [r0_2]; rfl)).trans (congrArg _ (Ffn.place t a d).symm)

end Cert.OutAfter

end
-- ==== Proof.Ffn.OutRefAfter.lean ====
module

public import proofs.«01_k».proof.Proof.Gen.Reference5Ideal.Read
public import proofs.«01_k».proof.Proof.Ffn.InRefAfter

@[expose] public section

/-!
# The output side of the feed-forward step after the mixer, as the reference computes it
-/

set_option maxRecDepth 16384

noncomputable section

namespace Cert.OutAfter

open Idealize.ShloMosaic Cert.Ffn Cert.InAfter Cert.Reference5Ideal Cert.Reference5Ideal.Gen Cert.Reference5Ideal.Read

variable (A : Vec Ideal S32768x5632 .bf16) (W : Vec Ideal S5632x2048 .f32) (X : Vec Ideal S32768x2048 .f32)
  (M : Vec Ideal S2x9x2048 .f32)

/-- The gate. -/
theorem gate_later : val_main_v3 (F := Ideal) M = Reference3Ideal.Read.val_main_v3 (F := Ideal) (later M 6) := by
  funext i
  obtain ⟨b, e, d, rfl⟩ : ∃ (b : Fin 2) (e : Fin 1) (d : Fin 2048), i = ix3 b e d := ⟨i 0, i 1, i 2, eq_ix3 i⟩
  obtain rfl : e = 0 := Subsingleton.elim _ _
  refine Eq.trans ?_ (out_gate (later M 6) b d).symm
  rw [val_main_v3_apply, val_main_v2_apply, val_main_v1_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

/-- The reference's result. -/
theorem ref_ffnOut : val_main_v12 (F := Ideal) A W X M = ffnOut 8 A W X M := by
  refine Eq.trans ?_ ((Ffn.ref_ffnOut A W X (later M 6)).trans rfl)
  unfold val_main_v12 val_main_v11 val_main_v10 val_main_v9 val_main_v8
  rw [gate_later]
  rfl

end Cert.OutAfter

end
-- ==== Proof.Mixer.Spec.lean ====
module

public import proofs.«01_k».proof.Proof.Gen.Kernel6Ideal.Value
public import proofs.«01_k».proof.Proof.Gen.Kernel7Ideal.Value
public import proofs.«01_k».proof.Proof.Gen.Kernel8Ideal.Value
public import proofs.«01_k».proof.Proof.Ffn.InRun

@[expose] public section

/-!
# The mixers' products, entry by entry

The S5 mixer and the GLA mixer both begin by a product of the normalized and modulated rows with weights. The S5 mixer
ends by a product of its activations with gated weights, added to the residual under the gate of the modulation.
The kernels compute all of these by blocks of 1024 rows: the first step of a block of rows fills a buffer, which the
block's other steps keep.
-/

noncomputable section

namespace Cert.Mixer

open Idealize.ShloMosaic Cert.Ffn

section
variable (X : Vec Ideal Kernel6Ideal.S32768x2048 .f32) (M : Vec Ideal Kernel6Ideal.S2x9x2048 .f32)
  (G : Vec Ideal Kernel6Ideal.S1x2048 .f32)

/-- A normalized row times a column of weights; the modulation is the mixer's. -/
def rowDot {n : ℕ} (W : Fin 2048 → Fin n → EReal) (r : Fin 32768) (j : Fin n) : EReal :=
  ∑ k : Fin 2048, normMod 3 4 X M G r k * W k j

/-- The S5 mixer's input product. -/
def s5In (W : Vec Ideal Kernel6Ideal.S2048x2048 .f32) : Vec Ideal Kernel6Ideal.S32768x2048 .f32 := fun i =>
  rowDot X M G (fun k j => W (ix2 k j)) (i 0) (i 1)

/-- The columns of the GLA mixer's weights for queries, keys, values and output gate. -/
def lead (j : Fin 6144) : Fin 6176 := ⟨j.val, by omega⟩

/-- The GLA mixer's input product, without the gates' codes. -/
def glaIn (W : Vec Ideal Kernel8Ideal.S2048x6176 .f32) : Vec Ideal Kernel8Ideal.S32768x6144 .bf16 := fun i =>
  rowDot X M G (fun k j => W (ix2 k (lead j))) (i 0) (i 1)

/-- Row `a` of block `q` of rows. -/
def rowIn (q : ℕ) (a : Fin 1024) : Fin 32768 := ⟨1024 * (q % 32) + a.val, by omega⟩

/-- Block `q` of the normalized rows. -/
def normRows (q : ℕ) : Vec Ideal Kernel6Ideal.S1024x2048 .bf16 := fun y => normMod 3 4 X M G (rowIn q (y 0)) (y 1)

/-- A step's normalized rows, when its blocks hold block `q` of the residual, a sequence's modulation and the gain. -/
theorem normBlk_eq (q : ℕ) (x : Vec Ideal Kernel6Ideal.S1024x2048 .f32) (x1 : Vec Ideal Kernel6Ideal.S1x9x2048 .f32)
    (x2 : Vec Ideal Kernel6Ideal.S1x2048 .f32) (h : ∀ a k, x (ix2 a k) = X (ix2 (rowIn q a) k))
    (h1 : ∀ (n : Fin 9) a d, x1 (ix3 0 n d) = M (ix3 (seqOf (rowIn q a)) n d)) (h2 : ∀ d, x2 (ix2 0 d) = G (ix2 0 d)) :
    normBlk x (modRow 3 x1) (modRow 4 x1) x2 = normRows X M G q := by
  funext y
  obtain ⟨a, d, rfl⟩ : ∃ (a : Fin 1024) (d : Fin 2048), y = ix2 a d := ⟨y 0, y 1, eq_ix2 y⟩
  rw [normBlk_apply, modRow_apply, modRow_apply, h2, h1 3 a, h1 4 a]
  simp only [h]
  rfl

end

/-- A step's normalized rows, when the shift, the scale and the gain are loaded from the step's blocks. -/
theorem normBlk_loads (x : Vec Ideal Kernel6Ideal.S1024x2048 .f32) (x1 : Vec Ideal Kernel6Ideal.S1x9x2048 .f32)
    (x2 : Vec Ideal Kernel6Ideal.S1x2048 .f32) (inb inb' inb'') (y : Kernel6Ideal.S1024x2048.Idx) :
    normBlk x (View.ld x1 (Rect.unit (s := Kernel6Ideal.S1x9x2048) ![0, 3, 0] ![1, 1, 2048] inb))
      (View.ld x1 (Rect.unit (s := Kernel6Ideal.S1x9x2048) ![0, 4, 0] ![1, 1, 2048] inb'))
      (View.ld x2 (Rect.unit (s := Kernel6Ideal.S1x2048) ![0, 0] ![1, 2048] inb'')) y
      = normBlk x (modRow 3 x1) (modRow 4 x1) x2 y := by
  have h : View.ld x2 (Rect.unit (s := Kernel6Ideal.S1x2048) ![0, 0] ![1, 2048] inb'') = x2 :=
    View.ld_unit_lit _ x2 (by decide)
  rw [show View.ld x1 _ = modRow 3 x1 from load_mod 3 x1 rfl inb, show View.ld x1 _ = modRow 4 x1 from load_mod 4 x1 rfl inb', h]

/-- A buffer that every first step of a block of rows fills with the block's contents, and that the other steps keep. -/
theorem steps {N p : ℕ} {α : Type*} (f : ℕ → α) (o : (n : ℕ) → n < N → α) (hA : ∀ n hn, n % p = 0 → o n hn = f (n / p))
    (hB : ∀ n (hn : n + 1 < N), (n + 1) % p ≠ 0 → o (n + 1) hn = o n (Nat.lt_of_succ_lt hn)) (n : ℕ) :
    ∀ hn : n < N, o n hn = f (n / p) := by
  induction n with
  | zero => exact fun hn => hA 0 hn (Nat.zero_mod p)
  | succ n ih =>
    intro hn
    by_cases h0 : (n + 1) % p = 0
    · exact hA _ hn h0
    · rw [hB n hn h0, ih (Nat.lt_of_succ_lt hn), Nat.succ_div_of_not_dvd fun h => h0 (Nat.mod_eq_zero_of_dvd h)]

/-- A run's outputs and buffer: every first step of a block of rows fills the buffer with the block's contents, the other
steps keep it, and each step's outputs are computed from the buffer's contents. -/
theorem stepsOut {N p : ℕ} {α β : Type*} (f : ℕ → α) (w : α → Fin N → β) (o : (n : ℕ) → n < N → β × α)
    (hA : ∀ n hn, n % p = 0 → o n hn = (w (f (n / p)) ⟨n, hn⟩, f (n / p)))
    (hB : ∀ n (hn : n + 1 < N), (n + 1) % p ≠ 0 → o (n + 1) hn
      = (w (o n (Nat.lt_of_succ_lt hn)).2 ⟨n + 1, hn⟩, (o n (Nat.lt_of_succ_lt hn)).2)) (n : ℕ) (hn : n < N) :
    o n hn = (w (f (n / p)) ⟨n, hn⟩, f (n / p)) := by
  have h := steps f (fun n hn => (o n hn).2) (fun n hn h0 => congrArg Prod.snd (hA n hn h0))
    (fun n hn h0 => by rw [hB n hn h0])
  cases n with
  | zero => exact hA 0 hn (Nat.zero_mod p)
  | succ n =>
    by_cases h0 : (n + 1) % p = 0
    · exact hA _ hn h0
    · rw [hB n hn h0, h n, Nat.succ_div_of_not_dvd fun h => h0 (Nat.mod_eq_zero_of_dvd h)]

/-- A property that holds of what every trip of a loop adds holds of all that the loop has gathered. -/
theorem gathered {α : Type*} {P : α → Prop} {n : ℕ} (L : ℕ → List α) (T : Fin n → List α) (h0 : L 0 = [])
    (hs : ∀ k : Fin n, L (k.val + 1) = T k ++ L k.val) (hT : ∀ k, ∀ p ∈ T k, P p) : ∀ t ≤ n, ∀ p ∈ L t, P p
  | 0, _ => fun p hp => absurd (h0 ▸ hp) List.not_mem_nil
  | t + 1, ht => fun p hp => by
    rw [hs ⟨t, ht⟩] at hp
    rcases List.mem_append.mp hp with h | h
    · exact hT _ p h
    · exact gathered L T h0 hs hT t (Nat.le_of_succ_le ht) p h

/-- A block of normalized rows times a block of weights. -/
def prodBlk (h : Vec Ideal Kernel6Ideal.S1024x2048 .bf16) (w : Vec Ideal Kernel6Ideal.S2048x1024 .bf16) :
    Vec Ideal Kernel6Ideal.S1024x1024 .f32 := fun y => ∑ k : Fin 2048, h (ix2 (y 0) k) * w (ix2 k (y 1))

theorem prodBlk_apply (h : Vec Ideal Kernel6Ideal.S1024x2048 .bf16) (w : Vec Ideal Kernel6Ideal.S2048x1024 .bf16)
    (a d : Fin 1024) : prodBlk h w (ix2 a d) = ∑ k : Fin 2048, h (ix2 a k) * w (ix2 k d) := rfl

theorem prod_pay (h : Vec Ideal Kernel6Ideal.S1024x2048 .bf16) (w : Vec Ideal Kernel6Ideal.S2048x1024 .bf16) :
    Kernel6Ideal.Gen.k0_pay2 (F := Ideal) h w = prodBlk h w := by
  funext y
  obtain ⟨r, d, rfl⟩ : ∃ (r d : Fin 1024), y = ix2 r d := ⟨y 0, y 1, eq_ix2 y⟩
  rw [prodBlk_apply]
  unfold_payloads
  pointwise []

/-- The numbers of the S5 mixer's activation: the Gaussian error unit by its hyperbolic tangent. -/
def gelu (v : EReal) : EReal :=
  v * (Ideal.ofBits .f32 0x3F000000#32
    * (1 + Ideal.tanh (Ideal.ofBits .f32 0x3F4C422A#32 * (v + Ideal.ofBits .f32 0x3D372713#32 * (v * v * v)))))

section
variable (Y : Vec Ideal Kernel7Ideal.S32768x2048 .f32) (W : Vec Ideal Kernel7Ideal.S2048x4096 .f32)
  (X : Vec Ideal Kernel7Ideal.S32768x2048 .f32) (M : Vec Ideal Kernel7Ideal.S2x9x2048 .f32)

/-- The columns of the value and of its gate. -/
def vcol (j : Fin 2048) : Fin 4096 := ⟨j.val, by omega⟩
def gcol (j : Fin 2048) : Fin 4096 := ⟨2048 + j.val, by omega⟩

/-- The activations of a row times a column of the weights. -/
def actDot (r : Fin 32768) (j : Fin 4096) : EReal := ∑ k : Fin 2048, gelu (Y (ix2 r k)) * W (ix2 k j)

/-- The S5 mixer's output. -/
def s5Out : Vec Ideal Kernel7Ideal.S32768x2048 .f32 := fun i =>
  X i + M (ix3 (seqOf (i 0)) 5 (i 1)) * (actDot Y W (i 0) (vcol (i 1)) * Ideal.logistic (actDot Y W (i 0) (gcol (i 1))))

end

end Cert.Mixer

end
-- ==== Proof.Mixer.In.lean ====
module

public import proofs.«01_k».proof.Proof.Mixer.Spec

@[expose] public section

/-!
# The S5 mixer's input product, as the kernel computes it

Step `t` of the grid computes block `(t / 2, t % 2)` of the result.
-/

set_option maxRecDepth 16384

noncomputable section

namespace Cert.S5In

open Idealize.ShloMosaic Idealize.ShloMosaic.TcCoe Cert.Ffn Cert.Mixer Cert.Kernel6Ideal Cert.Kernel6Ideal.Gen
  Cert.Kernel6Ideal.Value

section
variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S2048x1024 .bf16) (harg5 : arg5.IsWhole)
  (arg6 : Memref sig .tc .vmem S1024x1024 .f32) (harg6 : arg6.IsWhole)
  (arg7 : Memref sig .tc .vmem S1024x2048 .bf16) (harg7 : arg7.IsWhole)
  (hc : cond0_0 i) (x0 : Vec Ideal S1024x2048 .f32) (x1 : Vec Ideal S1x9x2048 .f32) (x2 : Vec Ideal S1x2048 .f32)
  (x3 : Vec Ideal S2048x1024 .bf16)

/-- The pieces that the first run leaves in the buffer hold the normalized rows. -/
theorem norm_pieces : View.canon (kernelRun0_A (F := Ideal) c i arg2 harg2 arg3 harg3 arg4 harg4 arg5 harg5 arg6 harg6 arg7
    harg7 hc x0 x1 x2 x3).2.1 = normBlk x0 (modRow 3 x1) (modRow 4 x1) x2 := by
  funext y
  refine View.canon_apply_of_pieces _ _ ?_ y (scover0_A_0 (F := Ideal) c i arg2 harg2 arg3 harg3 arg4 harg4 arg5 harg5 arg6
    harg6 arg7 harg7 hc x0 x1 x2 x3 y)
  unfold kernelRun0_A
  refine gathered (fun t => pb_k0_t1 (F := Ideal) Variants.none c none i arg2 harg2 arg3 harg3 arg4 harg4 arg5 harg5 arg6
    harg6 arg7 harg7 hc _ _ _ _ t) _ (pb_k0_t1.eq_1 ..) (pb_k0_t1_succ (F := Ideal) Variants.none c none i arg2 harg2 arg3
    harg3 arg4 harg4 arg5 harg5 arg6 harg6 arg7 harg7 hc _ _ _ _) (fun k => ?_) _ le_rfl
  unfold tripL_k0_t1 trip_k0_t1
  dsimp only
  intro p hp
  simp only [List.mem_cons, List.not_mem_nil, or_false] at hp
  subst hp
  intro x
  refine (piece_norm _ _ _ _ (offs k) _ x).trans ?_
  simp only [View.readAt_eq_ld, Memref.IsWhole.read_unread]
  exact normBlk_loads ..

/-- The first run leaves the normalized rows in the buffer. -/
theorem norm_block : sout0_A_0 (F := Ideal) c i arg2 harg2 arg3 harg3 arg4 harg4 arg5 harg5 arg6 harg6 arg7 harg7
    hc x0 x1 x2 x3 = normBlk x0 (modRow 3 x1) (modRow 4 x1) x2 := by
  unfold sout0_A_0
  rw [View.read_writes_junk_eq_canon, norm_pieces]

/-- A load of the whole buffer after the first run's stores. -/
theorem load_norm (inb) : arg7.view.readCov (kernelRun0_A (F := Ideal) c i arg2 harg2 arg3 harg3 arg4 harg4 arg5 harg5 arg6
    harg6 arg7 harg7 hc x0 x1 x2 x3).2.1 (Rect.unit (s := S1024x2048) ![0, 0] S1024x2048.size inb).toLoadRect
      = normBlk x0 (modRow 3 x1) (modRow 4 x1) x2 := by
  rw [View.readCov_eq_canon_ld _ _ _ (scover0_A_0 (F := Ideal) c i arg2 harg2 arg3 harg3 arg4 harg4 arg5 harg5 arg6
    harg6 arg7 harg7 hc x0 x1 x2 x3), norm_pieces]
  exact View.ld_unit_lit _ _ (by decide)

/-- The first run leaves the block's result. -/
theorem prod_block_A : out0_A_4 (F := Ideal) c i arg2 harg2 arg3 harg3 arg4 harg4 arg5 harg5 arg6 harg6 arg7 harg7
    hc x0 x1 x2 x3 = prodBlk (normBlk x0 (modRow 3 x1) (modRow 4 x1) x2) x3 := by
  have h := load_norm c i arg2 harg2 arg3 harg3 arg4 harg4 arg5 harg5 arg6 harg6 arg7 harg7 hc x0 x1 x2 x3
    inb_S1024x2048_S1024x2048_0_0
  unfold kernelRun0_A at h
  simp (disch := decide) only [View.readAt_eq_ld, View.ld_unit_lit', Memref.IsWhole.read_unread] at h
  frame_out
  exact (congrArg (fun z => k0_pay2 (F := Ideal) z x3) h).trans (prod_pay _ _)

/-- A later run leaves the block's result. -/
theorem prod_block_B (hc' : ¬cond0_0 i) (xs : Vec Ideal S1024x2048 .bf16) :
    out0_B_4 (F := Ideal) c i arg2 harg2 arg3 harg3 arg4 harg4 arg5 harg5 arg6 harg6 arg7 harg7
    hc' x0 x1 x2 x3 xs = prodBlk xs x3 := by
  frame_out
  exact prod_pay _ _

end

theorem index0 : ∀ t : Fin cfg0.N, win0_0.index t = ![t.val / 2 % 32, 0] := (by decide +kernel : ∀ t : Fin grid0.N, _)
theorem index1 : ∀ t : Fin cfg0.N, win0_1.index t = ![t.val / 2 % 32 / 16, 0, 0] :=
  (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val % 2] := (by decide +kernel : ∀ t : Fin grid0.N, _)
theorem index4 : ∀ t : Fin cfg0.N, win0_4.index t = ![t.val / 2 % 32, t.val % 2] :=
  (by decide +kernel : ∀ t : Fin grid0.N, _)

variable (m : (ℓ : Loc nD τ sig) → Buf (Elt Ideal) ℓ) (c : Dev nD) (t : Fin cfg0.N)

/-- The arguments: residual, modulation, gain and weights. -/
abbrev argX : Vec Ideal S32768x2048 .f32 := m ((c : Thread nD τ).loc main_arg0)
abbrev argM : Vec Ideal S2x9x2048 .f32 := m ((c : Thread nD τ).loc main_arg1)
abbrev argG : Vec Ideal S1x2048 .f32 := m ((c : Thread nD τ).loc main_arg2)
abbrev argW : Vec Ideal S2048x2048 .f32 := m ((c : Thread nD τ).loc main_arg3)

/-- The weights that the kernel is given are the argument's. -/
theorem V_main_v0 : V m c main_v0 = argW m c := rfl

/-- A block's column among the result's columns. -/
def col (d : Fin 1024) : Fin 2048 := ⟨1024 * (t.val % 2) + d.val, by omega⟩

/-- Each input block, in its array. -/
theorem blk0 (a : Fin 1024) (k : Fin 2048) : iblk m c 0 t (ix2 a k) = argX m c (ix2 (rowIn (t.val / 2) a) k) := by
  blk_simp [iblk]
  rw [V_main_arg0]
  refine congrArg _ ?_
  blk_ext [index0] <;> simp only [rowIn] <;> omega

theorem blk1 (n : Fin 9) (a : Fin 1024) (d : Fin 2048) :
    iblk m c 1 t (ix3 0 n d) = argM m c (ix3 (seqOf (rowIn (t.val / 2) a)) n d) := by
  blk_simp [iblk]
  rw [V_main_arg1]
  refine congrArg _ ?_
  blk_ext [index1] <;> simp only [rowIn, seqOf] <;> omega

theorem blk2 (d : Fin 2048) : iblk m c 2 t (ix2 0 d) = argG m c (ix2 0 d) := by
  blk_simp [iblk]
  rw [V_main_arg2]
  refine congrArg _ ?_
  blk_ext [index2] <;> omega

theorem blk3 (k : Fin 2048) (d : Fin 1024) : iblk m c 3 t (ix2 k d) = argW m c (ix2 k (col t d)) := by
  blk_simp [iblk]
  rw [V_main_v0]
  refine congrArg _ ?_
  blk_ext [index3] <;> simp only [col] <;> omega

/-- The normalized rows of a step's row block. -/
theorem rows_eq : normBlk (iblk m c 0 t) (modRow 3 (iblk m c 1 t)) (modRow 4 (iblk m c 1 t)) (iblk m c 2 t)
    = normRows (argX m c) (argM m c) (argG m c) (t.val / 2) :=
  normBlk_eq _ _ _ _ _ _ _ (blk0 m c t) (blk1 m c t) (blk2 m c t)

/-- What every step leaves in the result's block and in the buffer. -/
theorem outs (n : ℕ) (hn : n < cfg0.N) : outsAt0 m c n hn
    = (prodBlk (normRows (argX m c) (argM m c) (argG m c) (n / 2)) (iblk m c 3 ⟨n, hn⟩),
      normRows (argX m c) (argM m c) (argG m c) (n / 2)) := by
  refine stepsOut (p := 2) _ (fun h t => prodBlk h (iblk m c 3 t)) (outsAt0 m c) (fun n hn h0 => ?_) (fun n hn h0 => ?_) n hn
  · rw [outsAt0_A m c ⟨n, hn⟩ h0, prod_block_A, norm_block, rows_eq]
  · rw [outsAt0_B m c ⟨n + 1, hn⟩ h0, prod_block_B]
    rfl

/-- The array after the run. -/
theorem array_s5In : (dats m 0 c).arrAt 4 cfg0.N = s5In (argX m c) (argM m c) (argG m c) (argW m c) := by
  refine (dats m 0 c).arrAt_eq_of_covers 4 _ (by decide +kernel) fun t hf y => ?_
  obtain ⟨a, d, rfl⟩ : ∃ (a d : Fin 1024), y = ix2 a d := ⟨y 0, y 1, eq_ix2 y⟩
  have e : ((View.whole main_v1).slice (win0_4.rect t)).emb (ix2 a d) = ix2 (rowIn (t.val / 2) a) (col t d) := by
    blk_ext [index4] <;> simp only [rowIn, col] <;> omega
  blk_simp
  rw [after0_4, outs, e]
  refine (prodBlk_apply _ _ a d).trans ?_
  simp only [blk3]
  rfl

end Cert.S5In

end
-- ==== Proof.Mixer.Gla.lean ====
module

public import proofs.«01_k».proof.Proof.Mixer.Spec

@[expose] public section

/-!
# The GLA mixer's input product, as the kernel computes it

The kernel is that of the S5 mixer's input product, with six blocks of columns and weights cut to their leading columns.
What the two share is in `Mixer.Spec`; here are the facts about this program's own run and arrays. Step `t` of the grid
computes block `(t / 6, t % 6)` of the result.
-/

set_option maxRecDepth 16384

noncomputable section

namespace Cert.GlaIn

open Idealize.ShloMosaic Idealize.ShloMosaic.TcCoe Cert.Ffn Cert.Mixer Cert.Kernel8Ideal Cert.Kernel8Ideal.Gen
  Cert.Kernel8Ideal.Value

section
variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S2048x1024 .bf16) (harg5 : arg5.IsWhole)
  (arg6 : Memref sig .tc .vmem S1024x1024 .bf16) (harg6 : arg6.IsWhole)
  (arg7 : Memref sig .tc .vmem S1024x2048 .bf16) (harg7 : arg7.IsWhole)
  (hc : cond0_0 i) (x0 : Vec Ideal S1024x2048 .f32) (x1 : Vec Ideal S1x9x2048 .f32) (x2 : Vec Ideal S1x2048 .f32)
  (x3 : Vec Ideal S2048x1024 .bf16)

/-- The first run's pieces in the buffer. -/
theorem rows_canon : View.canon (kernelRun0_A (F := Ideal) c i arg2 harg2 arg3 harg3 arg4 harg4 arg5 harg5 arg6 harg6 arg7
    harg7 hc x0 x1 x2 x3).2.1 = normBlk x0 (modRow 3 x1) (modRow 4 x1) x2 := by
  refine funext fun y => View.canon_apply_of_pieces _ _ ?_ y (scover0_A_0 (F := Ideal) c i arg2 harg2 arg3 harg3 arg4 harg4
    arg5 harg5 arg6 harg6 arg7 harg7 hc x0 x1 x2 x3 y)
  unfold kernelRun0_A
  refine gathered (fun t => pb_k0_t1 (F := Ideal) Variants.none c none i arg2 harg2 arg3 harg3 arg4 harg4 arg5 harg5 arg6
    harg6 arg7 harg7 hc _ _ _ _ t) _ (pb_k0_t1.eq_1 ..) (pb_k0_t1_succ (F := Ideal) Variants.none c none i arg2 harg2 arg3
    harg3 arg4 harg4 arg5 harg5 arg6 harg6 arg7 harg7 hc _ _ _ _) (fun k p hp x => ?_) _ le_rfl
  unfold tripL_k0_t1 trip_k0_t1 at hp
  obtain rfl := List.mem_singleton.mp hp
  refine (piece_norm _ _ _ _ (offs k) _ x).trans ?_
  simp only [View.readAt_eq_ld, Memref.IsWhole.read_unread]
  exact normBlk_loads ..

/-- What the first run leaves in the buffer and in the result's block. -/
theorem first : out0_A_4 (F := Ideal) c i arg2 harg2 arg3 harg3 arg4 harg4 arg5 harg5 arg6 harg6 arg7 harg7 hc x0 x1 x2 x3
      = prodBlk (normBlk x0 (modRow 3 x1) (modRow 4 x1) x2) x3
    ∧ sout0_A_0 (F := Ideal) c i arg2 harg2 arg3 harg3 arg4 harg4 arg5 harg5 arg6 harg6 arg7 harg7 hc x0 x1 x2 x3
      = normBlk x0 (modRow 3 x1) (modRow 4 x1) x2 := by
  have e := rows_canon c i arg2 harg2 arg3 harg3 arg4 harg4 arg5 harg5 arg6 harg6 arg7 harg7 hc x0 x1 x2 x3
  have h := (View.readCov_eq_canon_ld arg7.view _ (Rect.unit (s := S1024x2048) ![0, 0] S1024x2048.size
    inb_S1024x2048_S1024x2048_0_0) (scover0_A_0 (F := Ideal) c i arg2 harg2 arg3 harg3 arg4 harg4 arg5 harg5 arg6 harg6 arg7
    harg7 hc x0 x1 x2 x3)).trans (View.ld_unit_lit _ _ (by decide))
  constructor
  · rw [e] at h
    unfold kernelRun0_A at h
    simp (disch := decide) only [View.readAt_eq_ld, View.ld_unit_lit', Memref.IsWhole.read_unread] at h
    frame_out
    exact (congrArg (fun z => k0_pay2 (F := Ideal) z x3) h).trans (prod_pay _ _)
  · exact (View.read_writes_junk_eq_canon ..).trans e

/-- What a later run leaves in the result's block, from the buffer's contents. -/
theorem further (hc' : ¬cond0_0 i) (xs : Vec Ideal S1024x2048 .bf16) :
    out0_B_4 (F := Ideal) c i arg2 harg2 arg3 harg3 arg4 harg4 arg5 harg5 arg6 harg6 arg7 harg7
    hc' x0 x1 x2 x3 xs = prodBlk xs x3 := by
  frame_out
  exact prod_pay _ _

end

theorem index0 : ∀ t : Fin cfg0.N, win0_0.index t = ![t.val / 6 % 32, 0] := (by decide +kernel : ∀ t : Fin grid0.N, _)
theorem index1 : ∀ t : Fin cfg0.N, win0_1.index t = ![t.val / 6 % 32 / 16, 0, 0] :=
  (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val % 6] := (by decide +kernel : ∀ t : Fin grid0.N, _)
theorem index4 : ∀ t : Fin cfg0.N, win0_4.index t = ![t.val / 6 % 32, t.val % 6] :=
  (by decide +kernel : ∀ t : Fin grid0.N, _)

variable (m : (ℓ : Loc nD τ sig) → Buf (Elt Ideal) ℓ) (c : Dev nD) (t : Fin cfg0.N)

/-- The arguments: residual, modulation, gain and weights. -/
abbrev argX : Vec Ideal S32768x2048 .f32 := m ((c : Thread nD τ).loc main_arg0)
abbrev argM : Vec Ideal S2x9x2048 .f32 := m ((c : Thread nD τ).loc main_arg1)
abbrev argG : Vec Ideal S1x2048 .f32 := m ((c : Thread nD τ).loc main_arg2)
abbrev argW : Vec Ideal S2048x6176 .f32 := m ((c : Thread nD τ).loc main_arg3)

/-- The weights that the kernel is given are the argument's leading columns. -/
theorem leading (k : Fin 2048) (j : Fin 6144) : V m c main_v1 (ix2 k j) = argW m c (ix2 k (lead j)) := by
  refine congrArg (argW m c) (funext fun a => Fin.ext ?_)
  match a with
  | ⟨0, _⟩ => exact Nat.zero_add _
  | ⟨1, _⟩ => exact Nat.zero_add _

/-- A block's column among the result's columns. -/
def col (d : Fin 1024) : Fin 6144 := ⟨1024 * (t.val % 6) + d.val, by omega⟩

/-- The block of the weights. -/
theorem blk_weights (k : Fin 2048) (d : Fin 1024) : iblk m c 3 t (ix2 k d) = argW m c (ix2 k (lead (col t d))) := by
  blk_simp [iblk]
  refine Eq.trans (congrArg _ ?_) (leading m c k (col t d))
  blk_ext [index3] <;> simp only [col] <;> omega

/-- The normalized rows of a step's row block, from the blocks of residual, modulation and gain. -/
theorem blk_rows : normBlk (iblk m c 0 t) (modRow 3 (iblk m c 1 t)) (modRow 4 (iblk m c 1 t)) (iblk m c 2 t)
    = normRows (argX m c) (argM m c) (argG m c) (t.val / 6) := by
  refine normBlk_eq _ _ _ _ _ _ _ (fun a k => ?_) (fun n a d => ?_) fun d => ?_
  · blk_simp [iblk]
    rw [V_main_arg0]
    refine congrArg _ ?_
    blk_ext [index0] <;> simp only [rowIn] <;> omega
  · blk_simp [iblk]
    rw [V_main_arg1]
    refine congrArg _ ?_
    blk_ext [index1] <;> simp only [rowIn, seqOf] <;> omega
  · blk_simp [iblk]
    rw [V_main_arg2]
    refine congrArg _ ?_
    blk_ext [index2] <;> omega

/-- What every step leaves in the result's block and in the buffer. -/
theorem outs (n : ℕ) (hn : n < cfg0.N) : outsAt0 m c n hn
    = (prodBlk (normRows (argX m c) (argM m c) (argG m c) (n / 6)) (iblk m c 3 ⟨n, hn⟩),
      normRows (argX m c) (argM m c) (argG m c) (n / 6)) := by
  refine stepsOut (p := 6) _ (fun h t => prodBlk h (iblk m c 3 t)) (outsAt0 m c) (fun n hn h0 => ?_) (fun n hn h0 => ?_) n hn
  · rw [outsAt0_A m c ⟨n, hn⟩ h0, (first ..).1, (first ..).2, blk_rows]
  · rw [outsAt0_B m c ⟨n + 1, hn⟩ h0, further]
    rfl

/-- The array after the run. -/
theorem array_glaIn : (dats m 0 c).arrAt 4 cfg0.N = glaIn (argX m c) (argM m c) (argG m c) (argW m c) := by
  refine (dats m 0 c).arrAt_eq_of_covers 4 _ (by decide +kernel) fun t hf y => ?_
  obtain ⟨a, d, rfl⟩ : ∃ (a d : Fin 1024), y = ix2 a d := ⟨y 0, y 1, eq_ix2 y⟩
  have e : ((View.whole main_v2).slice (win0_4.rect t)).emb (ix2 a d) = ix2 (rowIn (t.val / 6) a) (col t d) := by
    blk_ext [index4] <;> simp only [rowIn, col] <;> omega
  blk_simp
  rw [after0_4, outs, e]
  refine (prodBlk_apply _ _ a d).trans ?_
  simp only [blk_weights]
  rfl

end Cert.GlaIn

end
-- ==== Proof.Mixer.InRef.lean ====
module

public import proofs.«01_k».proof.Proof.Gen.Reference6Ideal.Read
public import proofs.«01_k».proof.Proof.Gen.Reference8Ideal.Read
public import proofs.«01_k».proof.Proof.Ffn.InRefAfter
public import proofs.«01_k».proof.Proof.Mixer.Spec

@[expose] public section

/-!
# The mixers' input products, as the reference computes them

The normalized rows are those of the feed-forward step, of the modulation read from row 3 on.
-/

set_option maxRecDepth 16384

noncomputable section

namespace Cert.Mixer

open Idealize.ShloMosaic Cert.Ffn Cert.InAfter Cert.Reference6Ideal Cert.Reference6Ideal.Gen Cert.Reference6Ideal.Read

variable (X : Vec Ideal S32768x2048 .f32) (M : Vec Ideal S2x9x2048 .f32) (G : Vec Ideal S1x2048 .f32)

/-- The shift and the scale. -/
theorem shift_mixer : val_main_v3 (F := Ideal) M = Reference2Ideal.Read.val_main_v3 (F := Ideal) (later M 3) := by
  funext i
  obtain ⟨b, e, d, rfl⟩ : ∃ (b : Fin 2) (e : Fin 1) (d : Fin 2048), i = ix3 b e d := ⟨i 0, i 1, i 2, eq_ix3 i⟩
  obtain rfl : e = 0 := Subsingleton.elim _ _
  refine Eq.trans ?_ (FfnIn.in_shift (later M 3) b d).symm
  rw [val_main_v3_apply, val_main_v2_apply, val_main_v1_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

theorem scale_mixer : val_main_v6 (F := Ideal) M = Reference2Ideal.Read.val_main_v6 (F := Ideal) (later M 3) := by
  funext i
  obtain ⟨b, e, d, rfl⟩ : ∃ (b : Fin 2) (e : Fin 1) (d : Fin 2048), i = ix3 b e d := ⟨i 0, i 1, i 2, eq_ix3 i⟩
  obtain rfl : e = 0 := Subsingleton.elim _ _
  refine Eq.trans ?_ (FfnIn.in_scale (later M 3) b d).symm
  rw [val_main_v6_apply, val_main_v5_apply, val_main_v4_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

/-- The normalized rows. -/
theorem norm_mixer (b : Fin 2) (t : Fin 16384) (d : Fin 2048) :
    val_main_v26 (F := Ideal) X M G (ix3 b t d) = normMod 3 4 X M G (rowOf b t) d := by
  refine Eq.trans ?_ (FfnIn.in_norm X (later M 3) G b t d)
  unfold val_main_v26 val_main_v25 val_main_v24 val_main_v23 val_main_v22
  rw [shift_mixer, scale_mixer]
  rfl

section
variable (W : Vec Ideal S2048x2048 .f32) (b : Fin 2) (t : Fin 16384) (j : Fin 2048)

theorem at_l (k : Fin 2048) : lidx_main_v27 (ix3 b t j) k = ix3 b t k :=
  funext fun a => match a with | ⟨0, _⟩ => rfl | ⟨1, _⟩ => rfl | ⟨2, _⟩ => rfl
theorem at_r (k : Fin 2048) : ridx_main_v27 (ix3 b t j) k = ix2 k j :=
  funext fun a => match a with | ⟨0, _⟩ => rfl | ⟨1, _⟩ => rfl
theorem at_rows : idx_main_v28 (ix2 (rowOf b t) j) = ix3 b t j := at_out b t j

end

/-- The S5 mixer's result. -/
theorem ref_s5In (W : Vec Ideal S2048x2048 .f32) : val_main_v28 (F := Ideal) X M G W = s5In X M G W := by
  funext i
  obtain ⟨r, j, rfl⟩ : ∃ (r : Fin 32768) (j : Fin 2048), i = ix2 r j := ⟨i 0, i 1, eq_ix2 i⟩
  obtain ⟨b, t, rfl⟩ := exists_rowOf r
  rw [val_main_v28_apply, at_rows, val_main_v27_apply]
  show _ = ∑ k : Fin 2048, normMod 3 4 X M G (rowOf b t) k * W (ix2 k j)
  refine Finset.sum_congr rfl fun k _ => ?_
  rw [at_l, at_r, norm_mixer]

section
open Cert.Reference8Ideal.Read
variable (b : Fin 2) (t : Fin 16384)

theorem at_gla_l (j : Fin 6176) (k : Fin 2048) : Reference8Ideal.Read.lidx_main_v27 (ix3 b t j) k = ix3 b t k :=
  funext fun a => match a with | ⟨0, _⟩ => rfl | ⟨1, _⟩ => rfl | ⟨2, _⟩ => rfl
theorem at_gla_r (j : Fin 6176) (k : Fin 2048) : Reference8Ideal.Read.ridx_main_v27 (ix3 b t j) k = ix2 k j :=
  funext fun a => match a with | ⟨0, _⟩ => rfl | ⟨1, _⟩ => rfl
theorem at_lead (j : Fin 6144) : Reference8Ideal.Read.idx_main_v28 (ix3 b t j) = ix3 b t (lead j) :=
  funext fun a => match a with | ⟨0, _⟩ => rfl | ⟨1, _⟩ => rfl | ⟨2, _⟩ => rfl
theorem at_gla_rows (j : Fin 6144) : Reference8Ideal.Read.idx_main_v29 (ix2 (rowOf b t) j) = ix3 b t j := by
  refine funext fun a => Fin.ext ?_
  match a with
  | ⟨0, _⟩ =>
    show ((16384 * b.val + t.val) * 6144 + j.val) / 100663296 = b.val
    omega
  | ⟨1, _⟩ =>
    show ((16384 * b.val + t.val) * 6144 + j.val) / 6144 % 16384 = t.val
    omega
  | ⟨2, _⟩ =>
    show ((16384 * b.val + t.val) * 6144 + j.val) % 6144 = j.val
    omega

/-- The GLA mixer's result. -/
theorem ref_glaIn (W : Vec Ideal Reference8Ideal.S2048x6176 .f32) :
    Reference8Ideal.Read.val_main_v30 (F := Ideal) X M G W = glaIn X M G W := by
  funext i
  obtain ⟨r, j, rfl⟩ : ∃ (r : Fin 32768) (j : Fin 6144), i = ix2 r j := ⟨i 0, i 1, eq_ix2 i⟩
  obtain ⟨b, t, rfl⟩ := exists_rowOf r
  rw [Reference8Ideal.Read.val_main_v30_apply, Reference8Ideal.Read.val_main_v29_apply, at_gla_rows,
    Reference8Ideal.Read.val_main_v28_apply, at_lead, Reference8Ideal.Read.val_main_v27_apply]
  show _ = ∑ k : Fin 2048, normMod 3 4 X M G (rowOf b t) k * W (ix2 k (lead j))
  refine Finset.sum_congr rfl fun k _ => ?_
  rw [at_gla_l, at_gla_r]
  exact congrArg (· * _) (norm_mixer X M G b t k)

end

end Cert.Mixer

end
-- ==== Proof.Mixer.Out.lean ====
module

public import proofs.«01_k».proof.Proof.Mixer.Spec

@[expose] public section

/-!
# The S5 mixer's output product, as the kernel computes it

Step `t` of the grid computes block `(t / 4, t % 4)` of the result.
-/

set_option maxRecDepth 16384

noncomputable section

namespace Cert.S5Out

open Idealize.ShloMosaic Idealize.ShloMosaic.TcCoe Cert.Ffn Cert.Mixer Cert.Kernel7Ideal Cert.Kernel7Ideal.Gen
  Cert.Kernel7Ideal.Value

/-- A block's activations. -/
def geluBlk (x : Vec Ideal S1024x2048 .f32) : Vec Ideal S1024x2048 .bf16 := fun y => gelu (x y)

theorem gelu_pay (x : Vec Ideal S1024x2048 .f32) : k0_pay1 (F := Ideal) x = geluBlk x := by
  funext y
  obtain ⟨r, d, rfl⟩ : ∃ (r : Fin 1024) (d : Fin 2048), y = ix2 r d := ⟨y 0, y 1, eq_ix2 y⟩
  unfold_payloads
  pointwise [geluBlk, gelu]
  rw [mul_comm (Ideal.ofBits .f32 0x3F000000#32), mul_assoc]

/-- What one block computes from the activations. -/
theorem out_pay (h : Vec Ideal S1024x2048 .bf16) (wa wg : Vec Ideal S2048x512 .bf16) (g : Vec Ideal S1x1x512 .f32)
    (x : Vec Ideal S1024x512 .f32) (a : Fin 1024) (d : Fin 512) : k0_pay2 (F := Ideal) h wa wg g x (ix2 a d)
      = x (ix2 a d) + g (ix3 0 0 d) * ((∑ k : Fin 2048, h (ix2 a k) * wa (ix2 k d))
        * Ideal.logistic (∑ k : Fin 2048, h (ix2 a k) * wg (ix2 k d))) := by
  unfold_payloads
  pointwise []

/-- The gate's row of the modulation's block. -/
def gateRow (x : Vec Ideal S1x9x512 .f32) : Vec Ideal S1x1x512 .f32 := fun y => x (ix3 0 5 (y 2))

theorem load_gate (x : Vec Ideal S1x9x512 .f32) (inb) :
    View.ld x (Rect.unit (s := S1x9x512) ![0, 5, 0] S1x1x512.size inb) = gateRow x := by
  funext y
  obtain ⟨a, b, d, rfl⟩ : ∃ (a b : Fin 1) (d : Fin 512), y = ix3 a b d := ⟨y 0, y 1, y 2, eq_ix3 y⟩
  obtain rfl : a = 0 := Subsingleton.elim _ _
  obtain rfl : b = 0 := Subsingleton.elim _ _
  pointwise [gateRow]

section
variable (c : Dev nD) (i : grid0.Coords)
  (arg2 : Memref sig .tc .vmem S1024x2048 .f32) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S1024x512 .f32) (harg5 : arg5.IsWhole)
  (arg6 : Memref sig .tc .vmem S1x9x512 .f32) (harg6 : arg6.IsWhole)
  (arg7 : Memref sig .tc .vmem S1024x512 .f32) (harg7 : arg7.IsWhole)
  (arg8 : Memref sig .tc .vmem S1024x2048 .bf16) (harg8 : arg8.IsWhole)
  (hc : cond0_0 i) (x0 : Vec Ideal S1024x2048 .f32) (x1 x2 : Vec Ideal S2048x512 .bf16) (x3 : Vec Ideal S1024x512 .f32)
  (x4 : Vec Ideal S1x9x512 .f32)

/-- The first run leaves the activations in the buffer. -/
theorem act_block : sout0_A_0 (F := Ideal) c i arg2 harg2 arg3 harg3 arg4 harg4 arg5 harg5 arg6 harg6 arg7 harg7 arg8 harg8
    hc x0 x1 x2 x3 x4 = geluBlk x0 := by
  frame_out
  exact gelu_pay _

/-- The first run leaves the block's result. -/
theorem out_block_A : out0_A_5 (F := Ideal) c i arg2 harg2 arg3 harg3 arg4 harg4 arg5 harg5 arg6 harg6 arg7 harg7 arg8 harg8
    hc x0 x1 x2 x3 x4 = k0_pay2 (F := Ideal) (geluBlk x0) x1 x2 (gateRow x4) x3 := by
  frame_out
  rw [load_gate, gelu_pay]

/-- A later run leaves the block's result. -/
theorem out_block_B (hc' : ¬cond0_0 i) (xs : Vec Ideal S1024x2048 .bf16) :
    out0_B_5 (F := Ideal) c i arg2 harg2 arg3 harg3 arg4 harg4 arg5 harg5 arg6 harg6 arg7 harg7 arg8 harg8
    hc' x0 x1 x2 x3 x4 xs = k0_pay2 (F := Ideal) xs x1 x2 (gateRow x4) x3 := by
  frame_out
  rw [load_gate]

end

theorem index0 : ∀ t : Fin cfg0.N, win0_0.index t = ![t.val / 4 % 32, 0] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![0, t.val % 4 + 4] := (by decide +kernel : ∀ t : Fin grid0.N, _)
theorem index3 : ∀ t : Fin cfg0.N, win0_3.index t = ![t.val / 4 % 32, t.val % 4] :=
  (by decide +kernel : ∀ t : Fin grid0.N, _)
theorem index4 : ∀ t : Fin cfg0.N, win0_4.index t = ![t.val / 4 % 32 / 16, 0, t.val % 4] :=
  (by decide +kernel : ∀ t : Fin grid0.N, _)
theorem index5 : ∀ t : Fin cfg0.N, win0_5.index t = ![t.val / 4 % 32, t.val % 4] :=
  (by decide +kernel : ∀ t : Fin grid0.N, _)

variable (m : (ℓ : Loc nD τ sig) → Buf (Elt Ideal) ℓ) (c : Dev nD) (t : Fin cfg0.N)

/-- The arguments: the mixer's outputs, weights, residual and modulation. -/
abbrev argY : Vec Ideal S32768x2048 .f32 := m ((c : Thread nD τ).loc main_arg0)
abbrev argW : Vec Ideal S2048x4096 .f32 := m ((c : Thread nD τ).loc main_arg1)
abbrev argX : Vec Ideal S32768x2048 .f32 := m ((c : Thread nD τ).loc main_arg2)
abbrev argM : Vec Ideal S2x9x2048 .f32 := m ((c : Thread nD τ).loc main_arg3)

/-- The weights that the kernel is given are the argument's. -/
theorem V_main_v0 : V m c main_v0 = argW m c := rfl

/-- A block's column among the result's columns. -/
def col (d : Fin 512) : Fin 2048 := ⟨512 * (t.val % 4) + d.val, by omega⟩

/-- Each input block, in its array. -/
theorem blk0 (a : Fin 1024) (k : Fin 2048) : iblk m c 0 t (ix2 a k) = argY m c (ix2 (rowIn (t.val / 4) a) k) := by
  blk_simp [iblk]
  rw [V_main_arg0]
  refine congrArg _ ?_
  blk_ext [index0] <;> simp only [rowIn] <;> omega

theorem blk1 (k : Fin 2048) (d : Fin 512) : iblk m c 1 t (ix2 k d) = argW m c (ix2 k (vcol (col t d))) := by
  blk_simp [iblk]
  rw [V_main_v0]
  refine congrArg _ ?_
  blk_ext [index1] <;> simp only [col, vcol] <;> omega

theorem blk2 (k : Fin 2048) (d : Fin 512) : iblk m c 2 t (ix2 k d) = argW m c (ix2 k (Mixer.gcol (col t d))) := by
  blk_simp [iblk]
  rw [V_main_v0]
  refine congrArg _ ?_
  blk_ext [index2] <;> simp only [col, Mixer.gcol] <;> omega

theorem blk3 (a : Fin 1024) (d : Fin 512) : iblk m c 3 t (ix2 a d) = argX m c (ix2 (rowIn (t.val / 4) a) (col t d)) := by
  blk_simp [iblk]
  rw [V_main_arg2]
  refine congrArg _ ?_
  blk_ext [index3] <;> simp only [rowIn, col] <;> omega

theorem blk4 (n : Fin 9) (a : Fin 1024) (d : Fin 512) :
    iblk m c 4 t (ix3 0 n d) = argM m c (ix3 (seqOf (rowIn (t.val / 4) a)) n (col t d)) := by
  blk_simp [iblk]
  rw [V_main_arg3]
  refine congrArg _ ?_
  blk_ext [index4] <;> simp only [rowIn, col, seqOf] <;> omega

/-- Block `q` of the activations. -/
def actRows (q : ℕ) : Vec Ideal S1024x2048 .bf16 := fun y => gelu (argY m c (ix2 (rowIn q (y 0)) (y 1)))

theorem rows_eq : geluBlk (iblk m c 0 t) = actRows m c (t.val / 4) := by
  funext y
  obtain ⟨a, d, rfl⟩ : ∃ (a : Fin 1024) (d : Fin 2048), y = ix2 a d := ⟨y 0, y 1, eq_ix2 y⟩
  exact congrArg gelu (blk0 m c t a d)

/-- What every step leaves in the result's block and in the buffer. -/
theorem outs (n : ℕ) (hn : n < cfg0.N) : outsAt0 m c n hn
    = (k0_pay2 (F := Ideal) (actRows m c (n / 4)) (iblk m c 1 ⟨n, hn⟩) (iblk m c 2 ⟨n, hn⟩) (gateRow (iblk m c 4 ⟨n, hn⟩))
      (iblk m c 3 ⟨n, hn⟩), actRows m c (n / 4)) := by
  refine stepsOut (p := 4) _ (fun h t => k0_pay2 (F := Ideal) h (iblk m c 1 t) (iblk m c 2 t) (gateRow (iblk m c 4 t))
    (iblk m c 3 t)) (outsAt0 m c) (fun n hn h0 => ?_) (fun n hn h0 => ?_) n hn
  · rw [outsAt0_A m c ⟨n, hn⟩ h0, out_block_A, act_block, rows_eq]
  · rw [outsAt0_B m c ⟨n + 1, hn⟩ h0, out_block_B]
    rfl

/-- The array after the run. -/
theorem array_s5Out : (dats m 0 c).arrAt 5 cfg0.N = s5Out (argY m c) (argW m c) (argX m c) (argM m c) := by
  refine (dats m 0 c).arrAt_eq_of_covers 5 _ (by decide +kernel) fun t hf y => ?_
  obtain ⟨a, d, rfl⟩ : ∃ (a : Fin 1024) (d : Fin 512), y = ix2 a d := ⟨y 0, y 1, eq_ix2 y⟩
  have e : ((View.whole main_v1).slice (win0_5.rect t)).emb (ix2 a d) = ix2 (rowIn (t.val / 4) a) (col t d) := by
    blk_ext [index5] <;> simp only [rowIn, col] <;> omega
  have eg : gateRow (iblk m c 4 t) (ix3 0 0 d) = argM m c (ix3 (seqOf (rowIn (t.val / 4) a)) 5 (col t d)) :=
    blk4 m c t 5 a d
  blk_simp
  rw [after0_5, outs, e]
  refine (out_pay _ _ _ _ _ a d).trans ?_
  rw [eg, blk3]
  simp only [blk1, blk2]
  rfl

end Cert.S5Out

end
-- ==== Proof.Mixer.OutRef.lean ====
module

public import proofs.«01_k».proof.Proof.Gen.Reference7Ideal.Read
public import proofs.«01_k».proof.Proof.Ffn.OutRef
public import proofs.«01_k».proof.Proof.Mixer.Spec

@[expose] public section

/-!
# The S5 mixer's output product, as the reference computes it
-/

set_option maxRecDepth 16384

noncomputable section

namespace Cert.S5Out

open Idealize.ShloMosaic Cert.Ffn Cert.Mixer Cert.Reference7Ideal Cert.Reference7Ideal.Gen Cert.Reference7Ideal.Read

variable (Y : Vec Ideal S32768x2048 .f32) (W : Vec Ideal S2048x4096 .f32) (X : Vec Ideal S32768x2048 .f32)
  (M : Vec Ideal S2x9x2048 .f32) (b : Fin 2) (t : Fin 16384)

/-- The residual and the mixer's outputs. -/
theorem ref_res (d : Fin 2048) : val_main_v0 (F := Ideal) X (ix3 b t d) = X (ix2 (rowOf b t) d) :=
  out_res X b t d

theorem ref_in (d : Fin 2048) : val_main_v4 (F := Ideal) Y (ix3 b t d) = Y (ix2 (rowOf b t) d) :=
  out_res Y b t d

/-- The gate. -/
theorem ref_gate (d : Fin 2048) : val_main_v3 (F := Ideal) M (ix3 b 0 d) = M (ix3 b 5 d) := by
  rw [val_main_v3_apply, val_main_v2_apply, val_main_v1_apply]
  refine congrArg M (funext fun a => Fin.ext ?_)
  match a with
  | ⟨0, _⟩ =>
    show (b.val * 2048 + d.val) / 2048 = b.val
    omega
  | ⟨1, _⟩ => rfl
  | ⟨2, _⟩ =>
    show (b.val * 2048 + d.val) % 2048 = d.val
    omega

theorem at_gate (d : Fin 2048) : idx_main_v28 (ix3 b t d) = ix3 b 0 d :=
  funext fun a => match a with | ⟨0, _⟩ => rfl | ⟨1, _⟩ => rfl | ⟨2, _⟩ => rfl
theorem at_l (j : Fin 4096) (k : Fin 2048) : lidx_main_v18 (ix3 b t j) k = ix3 b t k :=
  funext fun a => match a with | ⟨0, _⟩ => rfl | ⟨1, _⟩ => rfl | ⟨2, _⟩ => rfl
theorem at_r (j : Fin 4096) (k : Fin 2048) : ridx_main_v18 (ix3 b t j) k = ix2 k j :=
  funext fun a => match a with | ⟨0, _⟩ => rfl | ⟨1, _⟩ => rfl
theorem at_value (j : Fin 2048) : idx_main_v19 (ix3 b t j) = ix3 b t (vcol j) :=
  funext fun a => match a with | ⟨0, _⟩ => rfl | ⟨1, _⟩ => rfl | ⟨2, _⟩ => rfl
theorem at_glu (j : Fin 2048) : idx_main_v20 (ix3 b t j) = ix3 b t (Mixer.gcol j) :=
  funext fun a => match a with | ⟨0, _⟩ => rfl | ⟨1, _⟩ => rfl | ⟨2, _⟩ => rfl
theorem at_rows (d : Fin 2048) : idx_main_v31 (ix2 (rowOf b t) d) = ix3 b t d :=
  at_out b t d

/-- The activations. -/
theorem ref_gelu (d : Fin 2048) : val_main_v17 (F := Ideal) Y (ix3 b t d) = gelu (Y (ix2 (rowOf b t) d)) := by
  rw [val_main_v17_apply, val_main_v16_apply, val_main_v15_apply, val_main_cst_2_apply, val_main_v14_apply,
    val_main_v13_apply, val_main_cst_1_apply, val_main_v12_apply, val_main_v11_apply, val_main_v10_apply,
    val_main_cst_0_apply, val_main_v9_apply, val_main_v8_apply, val_main_v7_apply, val_main_cst_apply, val_main_v6_apply,
    val_main_v5_apply, ref_in, gelu, ← Ideal.ofBits_one_f32]
  rfl

/-- A row's product with a column of the weights. -/
theorem ref_dot (j : Fin 4096) : val_main_v18 (F := Ideal) Y W (ix3 b t j) = actDot Y W (rowOf b t) j := by
  rw [val_main_v18_apply]
  refine Finset.sum_congr rfl fun k _ => ?_
  rw [at_l, at_r, ref_gelu]

/-- The reference's result. -/
theorem ref_s5Out : val_main_v31 (F := Ideal) Y W X M = s5Out Y W X M := by
  funext i
  obtain ⟨r, d, rfl⟩ : ∃ (r : Fin 32768) (d : Fin 2048), i = ix2 r d := ⟨i 0, i 1, eq_ix2 i⟩
  obtain ⟨b, t, rfl⟩ := exists_rowOf r
  rw [val_main_v31_apply, at_rows, val_main_v30_apply, ref_res, val_main_v29_apply, val_main_v28_apply, at_gate, ref_gate,
    val_main_v27_apply, val_main_v19_apply, at_value, ref_dot, val_main_v26_apply, val_main_v25_apply, val_main_cst_4_apply,
    val_main_v24_apply, val_main_v23_apply, val_main_cst_3_apply, val_main_v22_apply, val_main_v21_apply,
    val_main_v20_apply, at_glu, ref_dot]
  show _ = X (ix2 (rowOf b t) d) + M (ix3 (seqOf (rowOf b t)) 5 d)
    * (actDot Y W (rowOf b t) (vcol d) * Ideal.logistic (actDot Y W (rowOf b t) (Mixer.gcol d)))
  rw [seqOf_rowOf, Ideal.logistic, ← Ideal.ofBits_one_f32]
  rfl

end Cert.S5Out

end
-- ==== Proof.Mixer.GlaOut.lean ====
module

public import proofs.«01_k».proof.Proof.Gen.Kernel9Ideal.Value
public import proofs.«01_k».proof.Proof.Mixer.Out

@[expose] public section

/-!
# The GLA mixer's output product

The two directions' outputs are added, normalized within each head of 512 columns, scaled by a gain, gated, and
multiplied by the output weights; the product is added, under the gate of the modulation, to the residual. The kernel
does so by blocks of 512 rows and 512 columns: step `t` of the grid computes block `(t / 4, t % 4)` of the result.
-/

set_option maxRecDepth 16384

noncomputable section

namespace Cert.GlaOut

open Idealize.ShloMosaic Idealize.ShloMosaic.TcCoe Cert.Ffn Cert.Mixer Cert.Kernel9Ideal Cert.Kernel9Ideal.Gen
  Cert.Kernel9Ideal.Value

/-- Column `e` of the head of column `k`. -/
def mate (k : Fin 2048) (e : Fin 512) : Fin 2048 := ⟨512 * (k.val / 512) + e.val, by omega⟩

/-- The output gate's columns among the input product's. -/
def tail (k : Fin 2048) : Fin 6144 := ⟨4096 + k.val, by omega⟩

/-- An entry `o` of a head whose squares sum to `q`, normalized, scaled by a gain and gated. -/
def headEntry (q o gain r : EReal) : EReal :=
  o * Ideal.rsqrt (Ideal.div q (Ideal.ofBits .f32 0x44000000#32) + Ideal.ofBits .f32 0x358637BD#32) * gain
    * (r * Ideal.logistic r)

section
variable (A B : Vec Ideal S32768x2048 .f32) (P : Vec Ideal S32768x6144 .bf16) (G : Vec Ideal S2048 .f32)
  (W : Vec Ideal S2048x2048 .f32) (X : Vec Ideal S32768x2048 .f32) (M : Vec Ideal S2x9x2048 .f32)

/-- A row of gated heads. -/
def heads (r : Fin 32768) (k : Fin 2048) : EReal :=
  headEntry (∑ e : Fin 512, (A (ix2 r (mate k e)) + B (ix2 r (mate k e))) * (A (ix2 r (mate k e)) + B (ix2 r (mate k e))))
    (A (ix2 r k) + B (ix2 r k)) (G (ix1 k)) (P (ix2 r (tail k)))

/-- The GLA mixer's output. -/
def glaOut : Vec Ideal S32768x2048 .f32 := fun i =>
  X i + M (ix3 (seqOf (i 0)) 5 (i 1)) * ∑ k : Fin 2048, heads A B P G (i 0) k * W (ix2 k (i 1))

end

/-- A block's gated heads. -/
def headBlk (x0 x1 : Vec Ideal S512x2048 .f32) (x2 : Vec Ideal S512x2048 .bf16) (x3 : Vec Ideal S1x2048 .f32) :
    Vec Ideal S512x2048 .bf16 := fun y =>
  headEntry (∑ e : Fin 512, (x0 (ix2 (y 0) (mate (y 1) e)) + x1 (ix2 (y 0) (mate (y 1) e)))
      * (x0 (ix2 (y 0) (mate (y 1) e)) + x1 (ix2 (y 0) (mate (y 1) e))))
    (x0 (ix2 (y 0) (y 1)) + x1 (ix2 (y 0) (y 1))) (x3 (ix2 0 (y 1))) (x2 (ix2 (y 0) (y 1)))

theorem headBlk_apply (x0 x1 : Vec Ideal S512x2048 .f32) (x2 : Vec Ideal S512x2048 .bf16) (x3 : Vec Ideal S1x2048 .f32)
    (a : Fin 512) (k : Fin 2048) : headBlk x0 x1 x2 x3 (ix2 a k)
      = headEntry (∑ e : Fin 512, (x0 (ix2 a (mate k e)) + x1 (ix2 a (mate k e))) * (x0 (ix2 a (mate k e)) + x1 (ix2 a (mate k e))))
        (x0 (ix2 a k) + x1 (ix2 a k)) (x3 (ix2 0 k)) (x2 (ix2 a k)) := rfl

theorem head_pay (o o' : Vec Ideal S512x512 .f32) (g : Vec Ideal S1x512 .f32) (r : Vec Ideal S512x512 .bf16) (a d : Fin 512) :
    k0_pay3 (F := Ideal) o o' g r (ix2 a d)
      = headEntry (∑ e : Fin 512, (o (ix2 a e) + o' (ix2 a e)) * (o (ix2 a e) + o' (ix2 a e))) (o (ix2 a d) + o' (ix2 a d))
        (g (ix2 0 d)) (r (ix2 a d)) := by
  unfold_payloads
  pointwise [headEntry]

/-- Column `e` of head `n`. -/
def hcol (n : Fin 4) (e : Fin 512) : Fin 2048 := ⟨512 * n.val + e.val, by omega⟩

theorem mate_hcol (n : Fin 4) (d e : Fin 512) : mate (hcol n d) e = hcol n e := by
  refine Fin.ext ?_
  simp only [mate, hcol]
  omega

theorem emb_head {k : ℕ} (n : Fin 4) {off : Fin 2 → ℕ} (ho : off = ![0, 512 * n.val]) (inb) (a : Fin k) (d : Fin 512) :
    (Rect.unit (s := ⟨2, ![k, 2048]⟩) off ![k, 512] inb).emb (ix2 a d) = ix2 a (hcol n d) := by
  subst ho
  refine funext fun b => Fin.ext ?_
  match b with
  | ⟨0, _⟩ => simp [Rect.emb_apply]
  | ⟨1, _⟩ => simp [hcol, Rect.emb_apply]

theorem load_head {k : ℕ} {α : EltTy} (n : Fin 4) (X : Vec Ideal ⟨2, ![k, 2048]⟩ α) {off : Fin 2 → ℕ}
    (ho : off = ![0, 512 * n.val]) (inb) (a : Fin k) (d : Fin 512) :
    View.ld X (Rect.unit (s := ⟨2, ![k, 2048]⟩) off ![k, 512] inb) (ix2 a d) = X (ix2 a (hcol n d)) :=
  congrArg X (emb_head n ho inb a d)

/-- One head's piece holds the block's gated heads. -/
theorem piece_head (n : Fin 4) (x0 x1 : Vec Ideal S512x2048 .f32) (x2 : Vec Ideal S512x2048 .bf16)
    (x3 : Vec Ideal S1x2048 .f32) {off : Fin 2 → ℕ} (ho : off = ![0, 512 * n.val]) (inb inb')
    (x : (Rect.unit (s := S512x2048) off ![512, 512] inb).shape.Idx) :
    k0_pay3 (F := Ideal) (View.ld x0 (Rect.unit (s := S512x2048) off ![512, 512] inb))
      (View.ld x1 (Rect.unit (s := S512x2048) off ![512, 512] inb))
      (View.ld x3 (Rect.unit (s := S1x2048) off ![1, 512] inb'))
      (View.ld x2 (Rect.unit (s := S512x2048) off ![512, 512] inb)) x
      = headBlk x0 x1 x2 x3 ((Rect.unit (s := S512x2048) off ![512, 512] inb).emb x) := by
  obtain ⟨a, d, rfl⟩ : ∃ (a d : Fin 512), x = ix2 a d := ⟨x 0, x 1, eq_ix2 x⟩
  rw [show (Rect.unit (s := S512x2048) off ![512, 512] inb).emb (ix2 a d) = _ from emb_head n ho inb a d]
  refine (head_pay _ _ _ _ a d).trans ?_
  have h0 := load_head n x0 ho inb a
  have h1 := load_head n x1 ho inb a
  have h2 := load_head n x2 ho inb a
  have h3 := load_head n x3 ho inb' 0
  simp only [headBlk_apply, mate_hcol, ← h0, ← h1, ← h2, ← h3]

/-- What one block computes from the gated heads. -/
theorem out_pay (g : Vec Ideal S1x1x512 .f32) (x : Vec Ideal S512x512 .f32) (h : Vec Ideal S512x2048 .bf16)
    (w : Vec Ideal S2048x512 .bf16) (a d : Fin 512) : k0_pay2 (F := Ideal) g x h w (ix2 a d)
      = x (ix2 a d) + g (ix3 0 0 d) * ∑ k : Fin 2048, h (ix2 a k) * w (ix2 k d) := by
  unfold_payloads
  pointwise []

section
variable (c : Dev nD) (i : grid0.Coords)
  (arg2 : Memref sig .tc .vmem S512x2048 .f32) (harg2 : arg2.IsWhole)
  (arg3 : Memref sig .tc .vmem S512x2048 .f32) (harg3 : arg3.IsWhole)
  (arg4 : Memref sig .tc .vmem S512x2048 .bf16) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S512x512 .f32) (harg7 : arg7.IsWhole)
  (arg8 : Memref sig .tc .vmem S1x9x512 .f32) (harg8 : arg8.IsWhole)
  (arg9 : Memref sig .tc .vmem S512x512 .f32) (harg9 : arg9.IsWhole)
  (arg10 : Memref sig .tc .vmem S512x2048 .bf16) (harg10 : arg10.IsWhole)
  (hc : cond0_0 i) (x0 x1 : Vec Ideal S512x2048 .f32) (x2 : Vec Ideal S512x2048 .bf16) (x3 : Vec Ideal S1x2048 .f32)
  (x4 : Vec Ideal S2048x512 .bf16) (x5 : Vec Ideal S512x512 .f32) (x6 : Vec Ideal S1x9x512 .f32)

/-- The first run's pieces in the buffer, one for each head. -/
theorem heads_canon : View.canon (kernelRun0_A (F := Ideal) c i arg2 harg2 arg3 harg3 arg4 harg4 arg5 harg5 arg6 harg6 arg7
    harg7 arg8 harg8 arg9 harg9 arg10 harg10 hc x0 x1 x2 x3 x4 x5 x6).2.1 = headBlk x0 x1 x2 x3 := by
  refine funext fun y => View.canon_apply_of_pieces _ _ ?_ y (scover0_A_0 (F := Ideal) c i arg2 harg2 arg3 harg3 arg4 harg4
    arg5 harg5 arg6 harg6 arg7 harg7 arg8 harg8 arg9 harg9 arg10 harg10 hc x0 x1 x2 x3 x4 x5 x6 y)
  unfold kernelRun0_A
  dsimp only
  intro p hp
  unfold kernelRun0_A.sl.HS0_4 at hp
  simp only [List.mem_cons, List.not_mem_nil, or_false] at hp
  rcases hp with rfl | rfl | rfl | rfl <;> intro x <;> dsimp only [kernelRun0_A.sl.r] <;>
    simp only [View.readAt_eq_ld, Memref.IsWhole.read_unread]
  · exact piece_head 3 x0 x1 x2 x3 rfl _ _ x
  · exact piece_head 2 x0 x1 x2 x3 rfl _ _ x
  · exact piece_head 1 x0 x1 x2 x3 rfl _ _ x
  · exact piece_head 0 x0 x1 x2 x3 rfl _ _ x

/-- The first run leaves the gated heads in the buffer. -/
theorem heads_block : sout0_A_0 (F := Ideal) c i arg2 harg2 arg3 harg3 arg4 harg4 arg5 harg5 arg6 harg6 arg7 harg7 arg8 harg8
    arg9 harg9 arg10 harg10 hc x0 x1 x2 x3 x4 x5 x6 = headBlk x0 x1 x2 x3 :=
  (View.read_writes_junk_eq_canon ..).trans (heads_canon ..)

/-- The first run leaves the block's result. -/
theorem out_block_A : out0_A_7 (F := Ideal) c i arg2 harg2 arg3 harg3 arg4 harg4 arg5 harg5 arg6 harg6 arg7 harg7 arg8 harg8
    arg9 harg9 arg10 harg10 hc x0 x1 x2 x3 x4 x5 x6
      = k0_pay2 (F := Ideal) (S5Out.gateRow x6) x5 (headBlk x0 x1 x2 x3) x4 := by
  have h := (View.readCov_eq_canon_ld arg10.view _ (Rect.unit (s := S512x2048) ![0, 0] S512x2048.size
    inb_S512x2048_S512x2048_0_0) (scover0_A_0 (F := Ideal) c i arg2 harg2 arg3 harg3 arg4 harg4 arg5 harg5 arg6 harg6 arg7
    harg7 arg8 harg8 arg9 harg9 arg10 harg10 hc x0 x1 x2 x3 x4 x5 x6)).trans (View.ld_unit_lit _ _ (by decide))
  rw [heads_canon] at h
  unfold kernelRun0_A at h
  dsimp only at h
  unfold kernelRun0_A.sl.HS0_4 at h
  dsimp only [kernelRun0_A.sl.r] at h
  simp only [View.readAt_eq_ld, Memref.IsWhole.read_unread] at h
  have key (g z) (hg : g = S5Out.gateRow x6) (hz : z = headBlk x0 x1 x2 x3) :
      k0_pay2 (F := Ideal) g x5 z x4 = k0_pay2 (F := Ideal) (S5Out.gateRow x6) x5 (headBlk x0 x1 x2 x3) x4 := by
    rw [hg, hz]
  frame_out
  exact key _ _ (S5Out.load_gate x6 _) h

/-- A later run leaves the block's result. -/
theorem out_block_B (hc' : ¬cond0_0 i) (xs : Vec Ideal S512x2048 .bf16) :
    out0_B_7 (F := Ideal) c i arg2 harg2 arg3 harg3 arg4 harg4 arg5 harg5 arg6 harg6 arg7 harg7 arg8 harg8
    arg9 harg9 arg10 harg10 hc' x0 x1 x2 x3 x4 x5 x6 xs = k0_pay2 (F := Ideal) (S5Out.gateRow x6) x5 xs x4 := by
  frame_out
  exact congrArg (fun g => k0_pay2 (F := Ideal) g x5 xs x4) (S5Out.load_gate x6 _)

end

theorem index0 : ∀ t : Fin cfg0.N, win0_0.index t = ![t.val / 4 % 64, 0] := (by decide +kernel : ∀ t : Fin grid0.N, _)
theorem index1 : ∀ t : Fin cfg0.N, win0_1.index t = ![t.val / 4 % 64, 0] := (by decide +kernel : ∀ t : Fin grid0.N, _)
theorem index2 : ∀ t : Fin cfg0.N, win0_2.index t = ![t.val / 4 % 64, 2] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, t.val % 4] := (by decide +kernel : ∀ t : Fin grid0.N, _)
theorem index5 : ∀ t : Fin cfg0.N, win0_5.index t = ![t.val / 4 % 64, t.val % 4] :=
  (by decide +kernel : ∀ t : Fin grid0.N, _)
theorem index6 : ∀ t : Fin cfg0.N, win0_6.index t = ![t.val / 4 % 64 / 32, 0, t.val % 4] :=
  (by decide +kernel : ∀ t : Fin grid0.N, _)
theorem index7 : ∀ t : Fin cfg0.N, win0_7.index t = ![t.val / 4 % 64, t.val % 4] :=
  (by decide +kernel : ∀ t : Fin grid0.N, _)

variable (m : (ℓ : Loc nD τ sig) → Buf (Elt Ideal) ℓ) (c : Dev nD) (t : Fin cfg0.N)

/-- The arguments: both directions' outputs, the input product, the gain, weights, residual and modulation. -/
abbrev argA : Vec Ideal S32768x2048 .f32 := m ((c : Thread nD τ).loc main_arg0)
abbrev argB : Vec Ideal S32768x2048 .f32 := m ((c : Thread nD τ).loc main_arg1)
abbrev argP : Vec Ideal S32768x6144 .bf16 := m ((c : Thread nD τ).loc main_arg2)
abbrev argG : Vec Ideal S2048 .f32 := m ((c : Thread nD τ).loc main_arg3)
abbrev argW : Vec Ideal S2048x2048 .f32 := m ((c : Thread nD τ).loc main_arg4)
abbrev argX : Vec Ideal S32768x2048 .f32 := m ((c : Thread nD τ).loc main_arg5)
abbrev argM : Vec Ideal S2x9x2048 .f32 := m ((c : Thread nD τ).loc main_arg6)

/-- The gain and the weights that the kernel is given are the arguments. -/
theorem V_main_v0 (d : Fin 2048) : V m c main_v0 (ix2 0 d) = argG m c (ix1 d) := by
  rw [show V m c main_v0 = shapeCast S1x2048 (argG m c) shapeCasts_S2048_S1x2048 from rfl]
  pointwise []

theorem V_main_v1 : V m c main_v1 = argW m c := rfl

/-- A block's row and column among the result's. -/
def row (q : ℕ) (a : Fin 512) : Fin 32768 := ⟨512 * (q % 64) + a.val, by omega⟩
def col (d : Fin 512) : Fin 2048 := ⟨512 * (t.val % 4) + d.val, by omega⟩

/-- Block `q` of the gated heads. -/
def headRows (q : ℕ) : Vec Ideal S512x2048 .bf16 := fun y =>
  heads (argA m c) (argB m c) (argP m c) (argG m c) (row q (y 0)) (y 1)

theorem rows_eq : headBlk (iblk m c 0 t) (iblk m c 1 t) (iblk m c 2 t) (iblk m c 3 t) = headRows m c (t.val / 4) := by
  funext y
  obtain ⟨a, d, rfl⟩ : ∃ (a : Fin 512) (d : Fin 2048), y = ix2 a d := ⟨y 0, y 1, eq_ix2 y⟩
  have h0 (k : Fin 2048) : iblk m c 0 t (ix2 a k) = argA m c (ix2 (row (t.val / 4) a) k) := by
    blk_simp [iblk]
    rw [V_main_arg0]
    refine congrArg _ ?_
    blk_ext [index0] <;> simp only [row] <;> omega
  have h1 (k : Fin 2048) : iblk m c 1 t (ix2 a k) = argB m c (ix2 (row (t.val / 4) a) k) := by
    blk_simp [iblk]
    rw [V_main_arg1]
    refine congrArg _ ?_
    blk_ext [index1] <;> simp only [row] <;> omega
  have h2 : iblk m c 2 t (ix2 a d) = argP m c (ix2 (row (t.val / 4) a) (tail d)) := by
    blk_simp [iblk]
    rw [V_main_arg2]
    refine congrArg _ ?_
    blk_ext [index2] <;> simp only [row, tail] <;> omega
  have h3 : iblk m c 3 t (ix2 0 d) = argG m c (ix1 d) := by
    blk_simp [iblk]
    refine Eq.trans (congrArg _ ?_) (V_main_v0 m c d)
    blk_ext [index3] <;> omega
  refine (headBlk_apply _ _ _ _ a d).trans ?_
  simp only [h0, h1, h2, h3]
  rfl

/-- The blocks of weights, residual and modulation. -/
theorem blk4 (k : Fin 2048) (d : Fin 512) : iblk m c 4 t (ix2 k d) = argW m c (ix2 k (col t d)) := by
  blk_simp [iblk]
  rw [V_main_v1]
  refine congrArg _ ?_
  blk_ext [index4] <;> simp only [col] <;> omega

theorem blk5 (a d : Fin 512) : iblk m c 5 t (ix2 a d) = argX m c (ix2 (row (t.val / 4) a) (col t d)) := by
  blk_simp [iblk]
  rw [V_main_arg5]
  refine congrArg _ ?_
  blk_ext [index5] <;> simp only [row, col] <;> omega

theorem blk6 (a d : Fin 512) : S5Out.gateRow (iblk m c 6 t) (ix3 0 0 d)
    = argM m c (ix3 (seqOf (row (t.val / 4) a)) 5 (col t d)) := by
  show iblk m c 6 t (ix3 0 5 d) = _
  blk_simp [iblk]
  rw [V_main_arg6]
  refine congrArg _ ?_
  blk_ext [index6] <;> simp only [row, col, seqOf] <;> omega

/-- What every step leaves in the result's block and in the buffer. -/
theorem outs (n : ℕ) (hn : n < cfg0.N) : outsAt0 m c n hn
    = (k0_pay2 (F := Ideal) (S5Out.gateRow (iblk m c 6 ⟨n, hn⟩)) (iblk m c 5 ⟨n, hn⟩) (headRows m c (n / 4))
      (iblk m c 4 ⟨n, hn⟩), headRows m c (n / 4)) := by
  refine stepsOut (p := 4) _ (fun h t => k0_pay2 (F := Ideal) (S5Out.gateRow (iblk m c 6 t)) (iblk m c 5 t) h (iblk m c 4 t))
    (outsAt0 m c) (fun n hn h0 => ?_) (fun n hn h0 => ?_) n hn
  · rw [outsAt0_A m c ⟨n, hn⟩ h0, out_block_A, heads_block, rows_eq]
  · rw [outsAt0_B m c ⟨n + 1, hn⟩ h0, out_block_B]
    rfl

/-- The array after the run. -/
theorem array_glaOut : (dats m 0 c).arrAt 7 cfg0.N
    = glaOut (argA m c) (argB m c) (argP m c) (argG m c) (argW m c) (argX m c) (argM m c) := by
  refine (dats m 0 c).arrAt_eq_of_covers 7 _ (by decide +kernel) fun t hf y => ?_
  obtain ⟨a, d, rfl⟩ : ∃ (a d : Fin 512), y = ix2 a d := ⟨y 0, y 1, eq_ix2 y⟩
  have e : ((View.whole main_v2).slice (win0_7.rect t)).emb (ix2 a d) = ix2 (row (t.val / 4) a) (col t d) := by
    blk_ext [index7] <;> simp only [row, col] <;> omega
  blk_simp
  rw [after0_7, outs, e]
  refine (out_pay _ _ _ _ a d).trans ?_
  rw [blk6 m c t a d, blk5]
  simp only [blk4]
  rfl

end Cert.GlaOut

end
-- ==== Proof.Mixer.GlaOutRef.lean ====
module

public import proofs.«01_k».proof.Proof.Gen.Reference9Ideal.Read
public import proofs.«01_k».proof.Proof.Mixer.OutRef
public import proofs.«01_k».proof.Proof.Mixer.GlaOut

@[expose] public section

/-!
# The GLA mixer's output product, as the reference computes it
-/

set_option maxRecDepth 16384

noncomputable section

namespace Cert.GlaOut

open Idealize.ShloMosaic Cert.Ffn Cert.Mixer Cert.Reference9Ideal Cert.Reference9Ideal.Gen Cert.Reference9Ideal.Read

variable (A B : Vec Ideal S32768x2048 .f32) (P : Vec Ideal S32768x6144 .bf16) (G : Vec Ideal S2048 .f32)
  (W : Vec Ideal S2048x2048 .f32) (X : Vec Ideal S32768x2048 .f32) (M : Vec Ideal S2x9x2048 .f32)
  (b : Fin 2) (t : Fin 16384)

/-- The head of a column, and the column's place in it. -/
def headOf (k : Fin 2048) : Fin 4 := ⟨k.val / 512, by omega⟩
def placeOf (k : Fin 2048) : Fin 512 := ⟨k.val % 512, by omega⟩

theorem hcol_headOf (k : Fin 2048) (e : Fin 512) : hcol (headOf k) e = mate k e := rfl
theorem hcol_placeOf (k : Fin 2048) : hcol (headOf k) (placeOf k) = k :=
  Fin.ext (by simp only [hcol, headOf, placeOf]; omega)

theorem at_split (n : Fin 4) (e : Fin 512) : idx_main_v8 (ix4 b t n e) = ix2 (rowOf b t) (hcol n e) := by
  refine funext fun a => Fin.ext ?_
  match a with
  | ⟨0, _⟩ =>
    show (((b.val * 16384 + t.val) * 4 + n.val) * 512 + e.val) / 2048 = 16384 * b.val + t.val
    omega
  | ⟨1, _⟩ =>
    show (((b.val * 16384 + t.val) * 4 + n.val) * 512 + e.val) % 2048 = 512 * n.val + e.val
    omega
theorem at_join (k : Fin 2048) : idx_main_v23 (ix3 b t k) = ix4 b t (headOf k) (placeOf k) := by
  refine funext fun a => Fin.ext ?_
  match a with
  | ⟨0, _⟩ =>
    show ((b.val * 16384 + t.val) * 2048 + k.val) / 33554432 = b.val
    omega
  | ⟨1, _⟩ =>
    show ((b.val * 16384 + t.val) * 2048 + k.val) / 2048 % 16384 = t.val
    omega
  | ⟨2, _⟩ =>
    show ((b.val * 16384 + t.val) * 2048 + k.val) / 512 % 4 = k.val / 512
    omega
  | ⟨3, _⟩ =>
    show ((b.val * 16384 + t.val) * 2048 + k.val) % 512 = k.val % 512
    omega
theorem at_gain (n : Fin 4) (e : Fin 512) : idx_main_v19 (ix2 n e) = ix1 (hcol n e) := by
  refine funext fun a => Fin.ext ?_
  match a with
  | ⟨0, _⟩ =>
    show n.val * 512 + e.val = 512 * n.val + e.val
    omega
theorem at_gain_row (n : Fin 4) (e : Fin 512) : idx_main_v20 (idx_main_v21 (ix4 b t n e)) = ix2 n e :=
  funext fun a => match a with | ⟨0, _⟩ => rfl | ⟨1, _⟩ => rfl
theorem at_mean (n : Fin 4) (e : Fin 512) : idx_main_v11 (idx_main_v17 (ix4 b t n e)) = ix3 b t n :=
  funext fun a => match a with | ⟨0, _⟩ => rfl | ⟨1, _⟩ => rfl | ⟨2, _⟩ => rfl
theorem at_square (n : Fin 4) (e : Fin 512) : idx_main_v10 (ix3 b t n) e = ix4 b t n e :=
  funext fun a => match a with | ⟨0, _⟩ => rfl | ⟨1, _⟩ => rfl | ⟨2, _⟩ => rfl | ⟨3, _⟩ => rfl
theorem at_tail (r : Fin 32768) (k : Fin 2048) : idx_main_v4 (ix2 r k) = ix2 r (tail k) :=
  funext fun a => match a with | ⟨0, _⟩ => rfl | ⟨1, _⟩ => rfl
theorem at_in (k : Fin 2048) : idx_main_v6 (ix3 b t k) = ix2 (rowOf b t) k := by
  refine funext fun a => Fin.ext ?_
  match a with
  | ⟨0, _⟩ =>
    show ((b.val * 16384 + t.val) * 2048 + k.val) / 2048 = 16384 * b.val + t.val
    omega
  | ⟨1, _⟩ =>
    show ((b.val * 16384 + t.val) * 2048 + k.val) % 2048 = k.val
    omega
theorem at_l (d k : Fin 2048) : lidx_main_v26 (ix3 b t d) k = ix3 b t k :=
  funext fun a => match a with | ⟨0, _⟩ => rfl | ⟨1, _⟩ => rfl | ⟨2, _⟩ => rfl
theorem at_r (d k : Fin 2048) : ridx_main_v26 (ix3 b t d) k = ix2 k d :=
  funext fun a => match a with | ⟨0, _⟩ => rfl | ⟨1, _⟩ => rfl
theorem at_gate (d : Fin 2048) : idx_main_v27 (ix3 b t d) = ix3 b 0 d :=
  funext fun a => match a with | ⟨0, _⟩ => rfl | ⟨1, _⟩ => rfl | ⟨2, _⟩ => rfl

/-- Both directions' outputs, by heads. -/
theorem ref_sum (n : Fin 4) (e : Fin 512) : val_main_v8 (F := Ideal) A B (ix4 b t n e)
    = A (ix2 (rowOf b t) (hcol n e)) + B (ix2 (rowOf b t) (hcol n e)) := by
  rw [val_main_v8_apply, at_split]
  rfl

/-- The output gate's entries. -/
theorem ref_gate_in (k : Fin 2048) : val_main_v6 (F := Ideal) P (ix3 b t k) = P (ix2 (rowOf b t) (tail k)) := by
  rw [val_main_v6_apply, at_in, val_main_v5_apply, val_main_v4_apply, at_tail]
  rfl

/-- The sum of a head's squares. -/
theorem ref_squares (n : Fin 4) : val_main_v10 (F := Ideal) A B (ix3 b t n)
    = ∑ e : Fin 512, (A (ix2 (rowOf b t) (hcol n e)) + B (ix2 (rowOf b t) (hcol n e)))
      * (A (ix2 (rowOf b t) (hcol n e)) + B (ix2 (rowOf b t) (hcol n e))) := by
  rw [val_main_v10_apply, val_main_cst_apply]
  refine (congrArg (· + _) Ideal.ofBits_zero_f32).trans ((zero_add _).trans (Finset.sum_congr rfl fun e _ => ?_))
  rw [at_square, val_main_v9_apply, ref_sum]
  rfl

/-- The gated heads. -/
theorem ref_heads (k : Fin 2048) : val_main_v25 (F := Ideal) A B P G (ix3 b t k) = heads A B P G (rowOf b t) k := by
  rw [val_main_v25_apply, val_main_v23_apply, at_join, val_main_v22_apply, val_main_v18_apply, val_main_v17_apply,
    val_main_v16_apply, val_main_v15_apply, val_main_v14_apply, val_main_cst_1_apply, val_main_v13_apply,
    val_main_v12_apply, val_main_cst_0_apply, val_main_v11_apply, at_mean, ref_squares, ref_sum, val_main_v21_apply,
    val_main_v20_apply, at_gain_row, val_main_v19_apply, at_gain, val_main_v24_apply, val_main_call0_v5_apply,
    val_main_call0_v4_apply, val_main_call0_cst_0_apply, val_main_call0_v3_apply, val_main_call0_v2_apply,
    val_main_call0_cst_apply, val_main_call0_v1_apply, val_main_call0_v0_apply, ref_gate_in, hcol_placeOf]
  simp only [hcol_headOf]
  rw [heads, headEntry, Ideal.logistic, ← Ideal.ofBits_one_f32]
  rfl

/-- The reference's result. -/
theorem ref_glaOut : val_main_v30 (F := Ideal) A B P G W X M = glaOut A B P G W X M := by
  funext i
  obtain ⟨r, d, rfl⟩ : ∃ (r : Fin 32768) (d : Fin 2048), i = ix2 r d := ⟨i 0, i 1, eq_ix2 i⟩
  obtain ⟨b, t, rfl⟩ := exists_rowOf r
  have hx : val_main_v0 (F := Ideal) X (ix3 b t d) = X (ix2 (rowOf b t) d) := out_res X b t d
  have hg : val_main_v3 (F := Ideal) M (ix3 b 0 d) = M (ix3 b 5 d) := S5Out.ref_gate M b d
  have hi : idx_main_v30 (ix2 (rowOf b t) d) = ix3 b t d := at_out b t d
  rw [val_main_v30_apply, hi, val_main_v29_apply, hx, val_main_v28_apply, val_main_v27_apply, at_gate, hg,
    val_main_v26_apply]
  show _ = X (ix2 (rowOf b t) d) + M (ix3 (seqOf (rowOf b t)) 5 d)
    * ∑ k : Fin 2048, heads A B P G (rowOf b t) k * W (ix2 k d)
  rw [seqOf_rowOf]
  simp only [at_l, at_r, ref_heads]
  rfl

end Cert.GlaOut

end
-- ==== Proof.Mixer.DsaSpec.lean ====
module

public import proofs.«01_k».proof.Proof.Gen.Kernel10Ideal.Value
public import proofs.«01_k».proof.Proof.Gen.Reference10Ideal.Read
public import proofs.«01_k».proof.Proof.Ffn.OutRef
public import proofs.«01_k».proof.Proof.Mixer.Spec

@[expose] public section

/-!
# The dilated mixer's queries, keys and values, entry by entry

The result's columns are the queries, the keys and the values of the first group's eight heads, 128 columns a head.
The weights' columns are those of all three groups. A query's or key's head is normalized, scaled by a gain and turned
by its position's angles: place `d` turns with the place 64 away.
-/

noncomputable section

namespace Cert.Dsa

open Idealize.ShloMosaic Cert.Ffn Cert.Mixer Cert.Kernel10Ideal

/-- The column of head `h`'s place `d` among the queries (`n = 0`), the keys (`n = 1`) or the values (`n = 2`). -/
def colAt (n : Fin 3) (h : Fin 8) (d : Fin 128) : Fin 3072 := ⟨1024 * n.val + 128 * h.val + d.val, by omega⟩

/-- Every column is of this form. -/
theorem exists_colAt (j : Fin 3072) : ∃ n h d, j = colAt n h d :=
  ⟨⟨j.val / 1024, by omega⟩, ⟨j.val % 1024 / 128, by omega⟩, ⟨j.val % 128, by omega⟩,
    Fin.ext (by simp only [colAt]; omega)⟩

/-- The first group's column among all three groups' columns. -/
def wcol (j : Fin 3072) : Fin 9216 := ⟨j.val / 1024 * 3072 + j.val % 1024, by omega⟩

/-- The place in a head that turns with `d`. -/
def other (d : Fin 128) : Fin 128 := ⟨(d.val + 128 - 64) % 128, Nat.mod_lt _ (by decide)⟩

/-- The number of a place's angle. -/
def half (d : Fin 128) : Fin 64 := ⟨d.val % 64, Nat.mod_lt _ (by decide)⟩

/-- The cosine by which a place is multiplied, at position `l`. -/
def cosAt (l : Fin 16384) (d : Fin 128) : EReal := Reference10Ideal.Read.val_main_v47 (F := Ideal) (ix2 l (half d))

/-- The sine by which the place that turns with it is multiplied. -/
def sinAt (l : Fin 16384) (d : Fin 128) : EReal :=
  if d.val < 64 then -Reference10Ideal.Read.val_main_v49 (F := Ideal) (ix2 l (half d))
  else Reference10Ideal.Read.val_main_v49 (F := Ideal) (ix2 l (half d))

/-- A number `o` of a head whose squares sum to `q`, normalized and scaled by a gain. -/
def unitEntry (q o gain : EReal) : EReal :=
  o * Ideal.rsqrt (Ideal.div q (Ideal.ofBits .f32 0x43000000#32) + Ideal.ofBits .f32 0x358637BD#32) * gain

/-- A head `p` normalized, scaled by the gains `g` and turned: place `d`. -/
def turnEntry (p g u v : Fin 128 → EReal) (d : Fin 128) : EReal :=
  unitEntry (∑ e, p e * p e) (p d) (g d) * u d + unitEntry (∑ e, p e * p e) (p (other d)) (g (other d)) * v d

section
variable (X : Vec Ideal S32768x2048 .f32) (M : Vec Ideal S2x9x2048 .f32) (G : Vec Ideal S1x2048 .f32)
  (W : Vec Ideal S2048x9216 .f32) (Q K : Vec Ideal S3x128 .f32)

/-- A normalized row times a column of the first group. -/
def dot (r : Fin 32768) (j : Fin 3072) : EReal := rowDot X M G (fun k j => W (ix2 k (wcol j))) r j

/-- The gains of the queries, times the queries' scale, and of the keys. -/
def gains (n : Fin 3) (d : Fin 128) : EReal :=
  if n.val < 1 then Q (ix2 0 d) * Ideal.ofBits .f32 0x3DB504F3#32 else K (ix2 0 d)

/-- The entry of position `l` of sequence `b`, at head `h`'s place `d`. -/
def entry (b : Fin 2) (l : Fin 16384) (n : Fin 3) (h : Fin 8) (d : Fin 128) : EReal :=
  if n.val ≤ 1 then turnEntry (fun e => dot X M G W (rowOf b l) (colAt n h e)) (gains Q K n) (cosAt l) (sinAt l) d
  else dot X M G W (rowOf b l) (colAt n h d)

/-- The queries, keys and values. -/
def qkv : Vec Ideal S2x1x16384x3072 .bf16 := fun i =>
  have h3 : (i 3).val < 3072 := (i 3).isLt
  entry X M G W Q K (i 0) (i 2) ⟨(i 3).val / 1024, by omega⟩ ⟨(i 3).val % 1024 / 128, by omega⟩
    ⟨(i 3).val % 128, by omega⟩

/-- One of them. -/
theorem qkv_apply (b : Fin 2) (l : Fin 16384) (n : Fin 3) (h : Fin 8) (d : Fin 128) :
    qkv X M G W Q K (ix4 b 0 l (colAt n h d)) = entry X M G W Q K b l n h d := by
  have e : (colAt n h d).val / 1024 = n.val := by simp only [colAt]; omega
  have e' : (colAt n h d).val % 1024 / 128 = h.val := by simp only [colAt]; omega
  have e'' : (colAt n h d).val % 128 = d.val := by simp only [colAt]; omega
  show entry X M G W Q K b l ⟨(colAt n h d).val / 1024, _⟩ ⟨(colAt n h d).val % 1024 / 128, _⟩
      ⟨(colAt n h d).val % 128, _⟩ = _
  simp only [e, e', e'', Fin.eta]

end

end Cert.Dsa

end
-- ==== Proof.Mixer.DsaRun.lean ====
module

public import proofs.«01_k».proof.Proof.Mixer.DsaSpec
public import Idealize.ShloMosaic.Lib.Pipeline.ReadBack

@[expose] public section

/-!
# The dilated mixer's queries, keys and values: what one step of the kernel leaves

A step multiplies its block of normalized rows by a block of the weights and keeps the product's eight heads in a buffer
of their own. A step of the queries or of the keys then turns every head there. The step's result is the heads side by
side.
-/

set_option maxRecDepth 16384

noncomputable section

namespace Cert.Dsa

open Idealize.ShloMosaic Idealize.ShloMosaic.TcCoe Cert.Ffn Cert.Mixer Cert.Kernel10Ideal Cert.Kernel10Ideal.Gen
  Cert.Kernel10Ideal.Value

/-- A head's rows, normalized, scaled by a gain and turned by the tables' angles. -/
abbrev turn (g : Vec Ideal S1x1x128 .f32) (u v : Vec Ideal S1024x128 .f32) (y : Vec Ideal S1x1024x128 .f32) :
    Vec Ideal S1x1024x128 .f32 := k0_pay6 (F := Ideal) g u v y

/-- The kernel's text has one function for each head; all of them turn the head. -/
theorem turns (g : Vec Ideal S1x1x128 .f32) (u v : Vec Ideal S1024x128 .f32) (y : Vec Ideal S1x1024x128 .f32) :
    k0_pay9 (k0_pay3 g) (k0_pay4 u) (k0_pay5 v) (k0_pay7 y) (k0_pay8 y) = turn g u v y
    ∧ k0_pay10 (k0_pay3 g) (k0_pay4 u) (k0_pay5 v) y = turn g u v y
    ∧ k0_pay14 (k0_pay3 g) (k0_pay4 u) (k0_pay5 v) (k0_pay11 y) (k0_pay12 y) k0_pay13 = turn g u v y
    ∧ k0_pay15 (k0_pay3 g) (k0_pay4 u) (k0_pay5 v) y = turn g u v y
    ∧ k0_pay18 (k0_pay3 g) (k0_pay4 u) (k0_pay5 v) (k0_pay16 y) (k0_pay17 y) = turn g u v y
    ∧ k0_pay19 (k0_pay3 g) (k0_pay4 u) (k0_pay5 v) y = turn g u v y
    ∧ k0_pay31 (k0_pay3 g) (k0_pay4 u) (k0_pay5 v) y = turn g u v y :=
  ⟨rfl, rfl, rfl, rfl, rfl, rfl, rfl⟩

/-- Column `d` of head `n` among the block's columns. -/
def hcol (n : Fin 8) (d : Fin 128) : Fin 1024 := ⟨128 * n.val + d.val, by omega⟩

/-- Head `n` of a block's product. -/
def part (n : Fin 8) (h : Vec Ideal S1024x2048 .bf16) (w : Vec Ideal S2048x1024 .bf16) : Vec Ideal S1x1024x128 .f32 :=
  fun y => prodBlk h w (ix2 (y 1) (hcol n (y 2)))

/-- A head's entry. -/
theorem part_apply (n : Fin 8) (h : Vec Ideal S1024x2048 .bf16) (w : Vec Ideal S2048x1024 .bf16) (a : Fin 1024)
    (d : Fin 128) : part n h w (ix3 0 a d) = ∑ k : Fin 2048, h (ix2 a k) * w (ix2 k (hcol n d)) := rfl

/-- The kernel's cut of the product to a head's columns. -/
theorem slice_part (n : Fin 8) (h : Vec Ideal S1024x2048 .bf16) (w : Vec Ideal S2048x1024 .bf16) {off : Fin 2 → ℕ}
    (ho : off = ![0, 128 * n.val]) (hs) :
    shapeCast S1x1024x128 (extractStridedSlice S1024x128 off (k0_pay21 (F := Ideal) h w) hs)
      shapeCasts_S1024x128_S1x1024x128 = part n h w := by
  subst ho
  funext y
  obtain ⟨a, d, rfl⟩ : ∃ (a : Fin 1024) (d : Fin 128), y = ix3 0 a d :=
    ⟨y 1, y 2, by rw [← Fin.eq_zero (y 0)]; exact eq_ix3 y⟩
  rw [part_apply]
  unfold_payloads
  pointwise []
  rfl

/-- The kernel's text has one function for each of these cuts. -/
theorem parts (h : Vec Ideal S1024x2048 .bf16) (w : Vec Ideal S2048x1024 .bf16) :
    k0_pay22 (F := Ideal) h w = part 0 h w ∧ k0_pay23 (F := Ideal) h w = part 1 h w
    ∧ k0_pay24 (F := Ideal) h w = part 2 h w ∧ k0_pay25 (F := Ideal) h w = part 3 h w
    ∧ k0_pay26 (F := Ideal) h w = part 4 h w ∧ k0_pay28 (F := Ideal) (k0_pay27 h w) = part 5 h w
    ∧ k0_pay29 (F := Ideal) (k0_pay21 h w) = part 6 h w ∧ k0_pay30 (F := Ideal) (k0_pay21 h w) = part 7 h w :=
  ⟨slice_part 0 h w rfl _, slice_part 1 h w rfl _, slice_part 2 h w rfl _, slice_part 3 h w rfl _,
    slice_part 4 h w rfl _, slice_part 5 h w rfl slices_S1024x1024_o0_640_S1024x128,
    slice_part 6 h w rfl _, slice_part 7 h w rfl _⟩

/-- A block whose heads are given. -/
def flat (u : Fin 8 → Vec Ideal S1x1024x128 .f32) : Vec Ideal S1x1x1024x1024 .bf16 := fun y =>
  u ⟨(y 3).val / 128, by have h : (y 3).val < 1024 := (y 3).isLt; omega⟩
    (ix3 0 (y 2) ⟨(y 3).val % 128, Nat.mod_lt _ (by decide)⟩)

/-- Every column is a head's. -/
theorem exists_hcol (j : Fin 1024) : ∃ (h : Fin 8) (d : Fin 128), j = hcol h d :=
  ⟨⟨j.val / 128, by omega⟩, ⟨j.val % 128, by omega⟩, Fin.ext (by simp only [hcol]; omega)⟩

/-- Such a block's entry. -/
theorem flat_apply (u : Fin 8 → Vec Ideal S1x1024x128 .f32) (n : Fin 8) (a : Fin 1024) (d : Fin 128) :
    flat u (ix4 0 0 a (hcol n d)) = u n (ix3 0 a d) := by
  have h : (hcol n d).val / 128 = n.val := by simp only [hcol]; omega
  have h' : (hcol n d).val % 128 = d.val := by simp only [hcol]; omega
  show u ⟨(hcol n d).val / 128, _⟩ (ix3 0 a ⟨(hcol n d).val % 128, _⟩) = _
  simp only [h, h', Fin.eta]

/-- Every index of a block with a row's number and a column's. -/
theorem exists_row_col {n k : ℕ} (x : (⟨4, ![1, 1, n, k]⟩ : Shape).Idx) : ∃ (a : Fin n) (d : Fin k), x = ix4 0 0 a d :=
  ⟨x 2, x 3, funext fun b => match b with
    | ⟨0, _⟩ => Subsingleton.elim (α := Fin 1) (x 0) 0 | ⟨1, _⟩ => Subsingleton.elim (α := Fin 1) (x 1) 0
    | ⟨2, _⟩ => rfl | ⟨3, _⟩ => rfl⟩

/-- A store of one head. -/
theorem piece_flat (u : Fin 8 → Vec Ideal S1x1024x128 .f32) (n : Fin 8) {off : Fin 4 → ℕ}
    (ho : off = ![0, 0, 0, 128 * n.val]) (inb) (x : (Rect.unit (s := S1x1x1024x1024) off S1x1x1024x128.size inb).shape.Idx) :
    k0_pay32 (F := Ideal) (u n) x
      = flat u ((Rect.unit (s := S1x1x1024x1024) off S1x1x1024x128.size inb).emb x) := by
  subst ho
  obtain ⟨a, d, rfl⟩ := exists_row_col (n := 1024) (k := 128) x
  have e : (Rect.unit (s := S1x1x1024x1024) ![0, 0, 0, 128 * n.val] S1x1x1024x128.size inb).emb (ix4 0 0 a d)
      = ix4 0 0 a (hcol n d) := by
    refine funext fun b => Fin.ext ?_
    match b with
    | ⟨0, _⟩ => simp [Rect.emb_apply]
    | ⟨1, _⟩ => simp [Rect.emb_apply]
    | ⟨2, _⟩ => simp [Rect.emb_apply]
    | ⟨3, _⟩ => simp [hcol, Rect.emb_apply]
  refine Eq.trans ?_ (congrArg (flat u) e).symm
  refine Eq.trans (b := u n (ix3 0 a d)) ?_ ?_
  · unfold_payloads
    pointwise []
  · exact (flat_apply u n a d).symm

/-- The stores of all heads. -/
theorem pieces_flat (u : Fin 8 → Vec Ideal S1x1024x128 .f32) : ∀ p ∈
      ([⟨Rect.unit ![0, 0, 0, 896] ![1, 1, 1024, 128] inb_S1x1x1024x1024_S1x1x1024x128_0_0_0_896, k0_pay2 (u 7)⟩,
        ⟨Rect.unit ![0, 0, 0, 768] ![1, 1, 1024, 128] inb_S1x1x1024x1024_S1x1x1024x128_0_0_0_768,
          k0_pay1 (k0_pay39 (u 6))⟩,
        ⟨Rect.unit ![0, 0, 0, 640] ![1, 1, 1024, 128] inb_S1x1x1024x1024_S1x1x1024x128_0_0_0_640, k0_pay38 (u 5)⟩,
        ⟨Rect.unit ![0, 0, 0, 512] ![1, 1, 1024, 128] inb_S1x1x1024x1024_S1x1x1024x128_0_0_0_512, k0_pay37 (u 4)⟩,
        ⟨Rect.unit ![0, 0, 0, 384] ![1, 1, 1024, 128] inb_S1x1x1024x1024_S1x1x1024x128_0_0_0_384, k0_pay36 (u 3)⟩,
        ⟨Rect.unit ![0, 0, 0, 256] ![1, 1, 1024, 128] inb_S1x1x1024x1024_S1x1x1024x128_0_0_0_256,
          k0_pay35 (k0_pay34 (u 2))⟩,
        ⟨Rect.unit ![0, 0, 0, 128] ![1, 1, 1024, 128] inb_S1x1x1024x1024_S1x1x1024x128_0_0_0_128, k0_pay33 (u 1)⟩,
        ⟨Rect.unit ![0, 0, 0, 0] ![1, 1, 1024, 128] inb_S1x1x1024x1024_S1x1x1024x128_0_0_0_0, k0_pay32 (u 0)⟩] :
        List (View.Piece (Elt Ideal) S1x1x1024x1024 .bf16)),
    ∀ x : p.1.shape.Idx, p.2 x = flat u (p.1.emb x) := by
  intro p hp
  simp only [List.mem_cons, List.not_mem_nil, or_false] at hp
  rcases hp with rfl | rfl | rfl | rfl | rfl | rfl | rfl | rfl <;> intro x
  · exact piece_flat u 7 rfl inb_S1x1x1024x1024_S1x1x1024x128_0_0_0_896 x
  · exact piece_flat u 6 rfl inb_S1x1x1024x1024_S1x1x1024x128_0_0_0_768 x
  · exact piece_flat u 5 rfl inb_S1x1x1024x1024_S1x1x1024x128_0_0_0_640 x
  · exact piece_flat u 4 rfl inb_S1x1x1024x1024_S1x1x1024x128_0_0_0_512 x
  · exact piece_flat u 3 rfl inb_S1x1x1024x1024_S1x1x1024x128_0_0_0_384 x
  · exact piece_flat u 2 rfl inb_S1x1x1024x1024_S1x1x1024x128_0_0_0_256 x
  · exact piece_flat u 1 rfl inb_S1x1x1024x1024_S1x1x1024x128_0_0_0_128 x
  · exact piece_flat u 0 rfl inb_S1x1x1024x1024_S1x1x1024x128_0_0_0_0 x

/-- A turned head's entry. -/
theorem turn_apply (g : Vec Ideal S1x1x128 .f32) (u v : Vec Ideal S1024x128 .f32) (y : Vec Ideal S1x1024x128 .f32)
    (a : Fin 1024) (d : Fin 128) : turn g u v y (ix3 0 a d)
      = turnEntry (fun e => y (ix3 0 a e)) (fun e => g (ix3 0 0 e)) (fun e => u (ix2 a e)) (fun e => v (ix2 a e)) d
      := by
  unfold turn
  unfold_payloads
  pointwise [turnEntry, unitEntry]
  rfl

section
variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S2048x1024 .bf16) (harg5 : arg5.IsWhole)
  (arg6 : Memref sig .tc .vmem S1x1x128 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1x1x1024x1024 .bf16) (harg9 : arg9.IsWhole)
  (arg10 : Memref sig .tc .vmem S1024x2048 .bf16) (harg10 : arg10.IsWhole)
  (arg11 : Memref sig .tc .vmem S8x1024x128 .f32) (harg11 : arg11.IsWhole)
  (x0 : Vec Ideal S1024x2048 .f32) (x1 : Vec Ideal S1x9x2048 .f32) (x2 : Vec Ideal S1x2048 .f32)
  (x3 : Vec Ideal S2048x1024 .bf16) (x4 : Vec Ideal S1x1x128 .f32) (x5 x6 : Vec Ideal S1024x128 .f32)

/-- What a run for the values leaves in the result's block, from the normalized rows. -/
theorem later (hc : ¬cond0_0 i) (hc' : ¬cond0_1 i) (xs : Vec Ideal S1024x2048 .bf16) :
    out0_C_7 (F := Ideal) c i arg2 harg2 arg3 harg3 arg4 harg4 arg5 harg5 arg6 harg6 arg7 harg7 arg8 harg8 arg9 harg9
      arg10 harg10 arg11 harg11 hc hc' x0 x1 x2 x3 x4 x5 x6 xs = flat fun n => part n xs x3 := by
  unfold out0_C_7
  rw [View.read_writes_junk_eq_canon]
  refine funext fun y => View.canon_apply_of_pieces _ _ ?_ y (cover0_C_7 (F := Ideal) c i arg2 harg2 arg3 harg3 arg4
    harg4 arg5 harg5 arg6 harg6 arg7 harg7 arg8 harg8 arg9 harg9 arg10 harg10 arg11 harg11 hc hc' x0 x1 x2 x3 x4 x5 x6
    xs y)
  unfold kernelRun0_C
  dsimp only
  simp only [kernelRun0_C.sl.v84, kernelRun0_C.sl.v72, kernelRun0_C.sl.v66, kernelRun0_C.sl.v60, kernelRun0_C.sl.v48,
    kernelRun0_C.sl.v42, kernelRun0_C.sl.v54, kernelRun0_C.sl.v78, kernelRun0_C.sl.r, kernelRun0_C.sl.r_1,
    kernelRun0_C.sl.r_2, kernelRun0_C.sl.r_3, kernelRun0_C.sl.HS1_8]
  simp (disch := decide) only [↓View.readCov_skip, ↓View.readCov_cons_toLoadRect, View.readAt_eq_ld,
    Memref.IsWhole.read_unread, View.ld_unit_lit', parts]
  exact pieces_flat fun n => part n xs x3

/-- What a run for the keys leaves in the result's block, from the normalized rows. -/
theorem second (hc : ¬cond0_0 i) (hc' : cond0_1 i) (xs : Vec Ideal S1024x2048 .bf16) : out0_B_7 (F := Ideal) c i arg2
    harg2 arg3 harg3 arg4 harg4 arg5 harg5 arg6 harg6 arg7 harg7 arg8 harg8 arg9 harg9 arg10 harg10 arg11 harg11 hc
    hc' x0 x1 x2 x3 x4 x5 x6 xs = flat fun n => turn x4 x5 x6 (part n xs x3) := by
  unfold out0_B_7
  rw [View.read_writes_junk_eq_canon]
  refine funext fun y => View.canon_apply_of_pieces _ _ ?_ y (cover0_B_7 (F := Ideal) c i arg2 harg2 arg3 harg3 arg4
    harg4 arg5 harg5 arg6 harg6 arg7 harg7 arg8 harg8 arg9 harg9 arg10 harg10 arg11 harg11 hc hc' x0 x1 x2 x3 x4 x5 x6
    xs y)
  unfold kernelRun0_B
  dsimp only
  simp only [kernelRun0_B.sl.v42, kernelRun0_B.sl.v48, kernelRun0_B.sl.v54, kernelRun0_B.sl.v60, kernelRun0_B.sl.v66,
    kernelRun0_B.sl.v72, kernelRun0_B.sl.v78, kernelRun0_B.sl.v84, kernelRun0_B.sl.v96, kernelRun0_B.sl.v117,
    kernelRun0_B.sl.v138, kernelRun0_B.sl.v159, kernelRun0_B.sl.v180, kernelRun0_B.sl.v201, kernelRun0_B.sl.v222,
    kernelRun0_B.sl.v243, kernelRun0_B.sl.r, kernelRun0_B.sl.r_1, kernelRun0_B.sl.r_2, kernelRun0_B.sl.r_3,
    kernelRun0_B.sl.r_4, kernelRun0_B.sl.r_5, kernelRun0_B.sl.r_6, kernelRun0_B.sl.r_7, kernelRun0_B.sl.r_8,
    kernelRun0_B.sl.r_9, kernelRun0_B.sl.r_10, kernelRun0_B.sl.r_11, kernelRun0_B.sl.r_12, kernelRun0_B.sl.HS1_8,
    kernelRun0_B.sl.HS1_9, kernelRun0_B.sl.HS1_10, kernelRun0_B.sl.HS1_11, kernelRun0_B.sl.HS1_12,
    kernelRun0_B.sl.HS1_13, kernelRun0_B.sl.HS1_14, kernelRun0_B.sl.HS1_15, kernelRun0_B.sl.HS1_16]
  simp (disch := decide) only [↓View.readCov_skip, ↓View.readCov_cons_toLoadRect, View.readAt_eq_ld,
    Memref.IsWhole.read_unread, View.ld_unit_lit', parts, turns]
  exact pieces_flat fun n => turn x4 x5 x6 (part n xs x3)

/-- The first run's pieces in the buffer of normalized rows. -/
theorem rows_canon (hc : cond0_0 i) (hc' : cond0_1 i) : View.canon (kernelRun0_A (F := Ideal) c i arg2 harg2 arg3
    harg3 arg4 harg4 arg5 harg5 arg6 harg6 arg7 harg7 arg8 harg8 arg9 harg9 arg10 harg10 arg11 harg11 hc hc' x0 x1 x2
    x3 x4 x5 x6).2.1 = normBlk x0 (modRow 3 x1) (modRow 4 x1) x2 := by
  refine funext fun y => View.canon_apply_of_pieces _ _ ?_ y (scover0_A_0 (F := Ideal) c i arg2 harg2 arg3 harg3 arg4
    harg4 arg5 harg5 arg6 harg6 arg7 harg7 arg8 harg8 arg9 harg9 arg10 harg10 arg11 harg11 hc hc' x0 x1 x2 x3 x4 x5 x6
    y)
  unfold kernelRun0_A
  refine gathered (fun t => pb_k0_t1 (F := Ideal) Variants.none c none i arg2 harg2 arg3 harg3 arg4 harg4 arg5 harg5
    arg6 harg6 arg7 harg7 arg8 harg8 arg9 harg9 arg10 harg10 arg11 harg11 hc _ _ _ _ t) _ (pb_k0_t1.eq_1 ..)
    (pb_k0_t1_succ (F := Ideal) Variants.none c none i arg2 harg2 arg3 harg3 arg4 harg4 arg5 harg5 arg6 harg6 arg7 harg7 arg8 harg8 arg9 harg9 arg10 harg10 arg11 harg11 hc _ _ _ _)
    (fun k p hp x => ?_) _ le_rfl
  unfold tripL_k0_t1 trip_k0_t1 at hp
  obtain rfl := List.mem_singleton.mp hp
  refine (piece_norm _ _ _ _ (offs k) _ x).trans ?_
  simp only [View.readAt_eq_ld, Memref.IsWhole.read_unread]
  exact normBlk_loads ..

/-- The first run's reading of that buffer. -/
theorem rows_read (hc : cond0_0 i) (hc' : cond0_1 i) : arg10.view.readCov (kernelRun0_A (F := Ideal) c i arg2 harg2
    arg3 harg3 arg4 harg4 arg5 harg5 arg6 harg6 arg7 harg7 arg8 harg8 arg9 harg9 arg10 harg10 arg11 harg11 hc hc' x0 x1 x2 x3 x4 x5 x6).2.1
    (Rect.unit (s := S1024x2048) ![0, 0] S1024x2048.size inb_S1024x2048_S1024x2048_0_0).toLoadRect
      = normBlk x0 (modRow 3 x1) (modRow 4 x1) x2 := by
  rw [View.readCov_eq_canon_ld arg10.view _ (Rect.unit (s := S1024x2048) ![0, 0] S1024x2048.size
    inb_S1024x2048_S1024x2048_0_0) (scover0_A_0 (F := Ideal) c i arg2 harg2 arg3 harg3 arg4 harg4 arg5 harg5 arg6
    harg6 arg7 harg7 arg8 harg8 arg9 harg9 arg10 harg10 arg11 harg11 hc hc' x0 x1 x2 x3 x4 x5 x6), rows_canon]
  exact View.ld_unit_lit _ _ (by decide)

/-- What the first run leaves in the buffer of normalized rows. -/
theorem first_rows (hc : cond0_0 i) (hc' : cond0_1 i) : sout0_A_0 (F := Ideal) c i arg2 harg2 arg3 harg3 arg4 harg4
    arg5 harg5 arg6
    harg6 arg7 harg7 arg8 harg8 arg9 harg9 arg10 harg10 arg11 harg11 hc hc' x0 x1 x2 x3 x4 x5 x6
    = normBlk x0 (modRow 3 x1) (modRow 4 x1) x2 :=
  (View.read_writes_junk_eq_canon ..).trans (rows_canon c i arg2 harg2 arg3 harg3 arg4 harg4 arg5 harg5
    arg6 harg6 arg7 harg7 arg8 harg8 arg9 harg9 arg10 harg10 arg11 harg11 x0 x1 x2 x3 x4 x5 x6 hc hc')

/-- What the first run of a block of rows leaves in the result's block. -/
theorem first_out (hc : cond0_0 i) (hc' : cond0_1 i) : out0_A_7 (F := Ideal) c i arg2 harg2 arg3 harg3 arg4 harg4 arg5
    harg5 arg6 harg6 arg7 harg7 arg8 harg8 arg9 harg9 arg10 harg10 arg11 harg11 hc hc' x0 x1 x2 x3 x4 x5 x6 = flat fun
    n => turn x4 x5 x6 (part n (normBlk x0 (modRow 3 x1) (modRow 4 x1) x2) x3) := by
  have e := rows_read c i arg2 harg2 arg3 harg3 arg4 harg4 arg5 harg5 arg6 harg6 arg7
    harg7 arg8 harg8 arg9 harg9 arg10 harg10 arg11 harg11 x0 x1 x2 x3 x4 x5 x6 hc hc'
  unfold kernelRun0_A at e
  dsimp only at e
  simp (disch := decide) only [View.readAt_eq_ld, View.ld_unit_lit', Memref.IsWhole.read_unread] at e
  unfold out0_A_7
  rw [View.read_writes_junk_eq_canon]
  refine funext fun y => View.canon_apply_of_pieces _ _ ?_ y (cover0_A_7 (F := Ideal) c i arg2 harg2 arg3 harg3 arg4
    harg4 arg5 harg5 arg6 harg6 arg7 harg7 arg8 harg8 arg9 harg9 arg10 harg10 arg11 harg11 hc hc' x0 x1 x2 x3 x4 x5 x6
    y)
  unfold kernelRun0_A
  dsimp only
  simp only [kernelRun0_A.sl.v42, kernelRun0_A.sl.v48, kernelRun0_A.sl.v54, kernelRun0_A.sl.v60, kernelRun0_A.sl.v66,
    kernelRun0_A.sl.v72, kernelRun0_A.sl.v78, kernelRun0_A.sl.v84, kernelRun0_A.sl.v96, kernelRun0_A.sl.v117,
    kernelRun0_A.sl.v138, kernelRun0_A.sl.v159, kernelRun0_A.sl.v180, kernelRun0_A.sl.v201, kernelRun0_A.sl.v222,
    kernelRun0_A.sl.v243, kernelRun0_A.sl.r, kernelRun0_A.sl.r_1, kernelRun0_A.sl.r_2, kernelRun0_A.sl.r_3,
    kernelRun0_A.sl.r_4, kernelRun0_A.sl.r_5, kernelRun0_A.sl.r_6, kernelRun0_A.sl.r_7, kernelRun0_A.sl.r_8,
    kernelRun0_A.sl.r_9, kernelRun0_A.sl.r_10, kernelRun0_A.sl.r_11, kernelRun0_A.sl.r_12, kernelRun0_A.sl.HS1_8,
    kernelRun0_A.sl.HS1_9, kernelRun0_A.sl.HS1_10, kernelRun0_A.sl.HS1_11, kernelRun0_A.sl.HS1_12,
    kernelRun0_A.sl.HS1_13, kernelRun0_A.sl.HS1_14, kernelRun0_A.sl.HS1_15, kernelRun0_A.sl.HS1_16]
  simp (disch := decide) only [↓View.readCov_skip, ↓View.readCov_cons_toLoadRect, View.readAt_eq_ld,
    Memref.IsWhole.read_unread, View.ld_unit_lit', parts, turns]
  simp only [e]
  exact pieces_flat fun n => turn x4 x5 x6 (part n (normBlk x0 (modRow 3 x1) (modRow 4 x1) x2) x3)
end

end Cert.Dsa
end
-- ==== Proof.Mixer.Dsa.lean ====
module

public import proofs.«01_k».proof.Proof.Mixer.DsaRun

@[expose] public section

/-!
# The dilated mixer's queries, keys and values, as the kernel computes them

Step `t` of the grid computes block `t / 3` of the rows, of the queries (`t % 3 = 0`), the keys or the values.
-/

set_option maxRecDepth 16384

noncomputable section

namespace Cert.Dsa

open Idealize.ShloMosaic Idealize.ShloMosaic.TcCoe Cert.Ffn Cert.Mixer Cert.Kernel10Ideal Cert.Kernel10Ideal.Gen
  Cert.Kernel10Ideal.Value

theorem index0 : ∀ t : Fin cfg0.N, win0_0.index t = ![t.val / 3 % 32, 0] := (by decide +kernel : ∀ t : Fin grid0.N, _)
theorem index1 : ∀ t : Fin cfg0.N, win0_1.index t = ![t.val / 3 % 32 / 16, 0, 0] :=
  (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val % 3] := (by decide +kernel : ∀ t : Fin grid0.N, _)
theorem index4 : ∀ t : Fin cfg0.N, win0_4.index t = ![min (t.val % 3) 1, 0, 0] :=
  (by decide +kernel : ∀ t : Fin grid0.N, _)
theorem index5 : ∀ t : Fin cfg0.N, win0_5.index t = ![t.val / 3 % 16, 0] := (by decide +kernel : ∀ t : Fin grid0.N, _)
theorem index6 : ∀ t : Fin cfg0.N, win0_6.index t = ![t.val / 3 % 16, 0] := (by decide +kernel : ∀ t : Fin grid0.N, _)
theorem index7 : ∀ t : Fin cfg0.N, win0_7.index t = ![t.val / 3 % 32 / 16, 0, t.val / 3 % 16, t.val % 3] :=
  (by decide +kernel : ∀ t : Fin grid0.N, _)

variable (m : (ℓ : Loc nD τ sig) → Buf (Elt Ideal) ℓ) (c : Dev nD) (t : Fin cfg0.N)

/-- The arguments: residual, modulation, gain, weights and the gains of queries and keys. -/
abbrev argX : Vec Ideal S32768x2048 .f32 := m ((c : Thread nD τ).loc main_arg0)
abbrev argM : Vec Ideal S2x9x2048 .f32 := m ((c : Thread nD τ).loc main_arg1)
abbrev argG : Vec Ideal S1x2048 .f32 := m ((c : Thread nD τ).loc main_arg2)
abbrev argW : Vec Ideal S2048x9216 .f32 := m ((c : Thread nD τ).loc main_arg3)
abbrev argQ : Vec Ideal S3x128 .f32 := m ((c : Thread nD τ).loc main_arg4)
abbrev argK : Vec Ideal S3x128 .f32 := m ((c : Thread nD τ).loc main_arg5)

/-- The weights that the kernel is given are the first group's columns. -/
theorem weights (k : Fin 2048) (j : Fin 3072) : V m c main_v32 (ix2 k j) = argW m c (ix2 k (wcol j)) := by
  rw [show V m c main_v32 = shapeCast S2048x3072 (extractStridedSlice S1x2048x3072 ![0, 0, 0]
    (shapeCast S3x2048x3072 (transpose S3x2048x3x1024 [2, 0, 1, 3] (shapeCast S2048x3x3x1024 (argW m c)
      shapeCasts_S2048x9216_S2048x3x3x1024) transposes_S2048x3x3x1024_S3x2048x3x1024_2_0_1_3)
      shapeCasts_S3x2048x3x1024_S3x2048x3072) slices_S3x2048x3072_S1x2048x3072_0_0_0) shapeCasts_S1x2048x3072_S2048x3072
    from rfl]
  pointwise []
  rfl

/-- The gains that the kernel is given. -/
theorem gains0 (n : Fin 2) (d : Fin 128) : V m c main_v34 (ix3 n 0 d) = gains (argQ m c) (argK m c)
    (n.castLE (by decide)) d := by
  rw [show V m c main_v34 = shapeCast S2x1x128 (extractStridedSlice S1x2x1x128 ![0, 0, 0, 0] (shapeCast S3x2x1x128
    (concatenate S3x2x128 1 [⟨S3x1x128, broadcastInDim S3x1x128 ![0, 2] bcast_S3x128_S3x1x128_0_2 (mulf (argQ m c)
      (broadcastInDim S3x128 ![] bcast_S_S3x128 (constant (F := Ideal) S_ .f32 0x3DB504F3#32)))⟩,
      ⟨S3x1x128, broadcastInDim S3x1x128 ![0, 2] bcast_S3x128_S3x1x128_0_2 (argK m c)⟩]
      concatenates_S3x1x128_S3x1x128_S3x2x128_d1) shapeCasts_S3x2x128_S3x2x1x128) slices_S3x2x1x128_S1x2x1x128_0_0_0_0)
      shapeCasts_S1x2x1x128_S2x1x128 from rfl]
  pointwise []
  unfold gains
  by_cases h : n.val < 1
  · exact (dif_pos h).trans (if_pos (c := (n.castLE (by decide : 2 ≤ 3)).val < 1) h).symm
  · exact (dif_neg h).trans (if_neg (c := (n.castLE (by decide : 2 ≤ 3)).val < 1) h).symm

/-- The tables of cosines and sines that the kernel is given. -/
theorem cosines (l : Fin 16384) (d : Fin 128) : V m c main_v28 (ix2 l d) = cosAt l d := by
  rw [show V m c main_v28 = concatenate S16384x128 1 [⟨S16384x64, Reference10Ideal.Read.val_main_v47 (F := Ideal)⟩,
    ⟨S16384x64, Reference10Ideal.Read.val_main_v47 (F := Ideal)⟩] concatenates_S16384x64_S16384x64_S16384x128_d1
    from rfl]
  pointwise []
  unfold cosAt
  by_cases h : d.val < 64
  · rw [dif_pos h]
    exact congrArg (fun z => Reference10Ideal.Read.val_main_v47 (F := Ideal) (ix2 l z))
      (Fin.ext (Nat.mod_eq_of_lt h).symm)
  · rw [dif_neg h]
    exact congrArg (fun z => Reference10Ideal.Read.val_main_v47 (F := Ideal) (ix2 l z))
      (Fin.ext (by simp only [half]; omega))

theorem sines (l : Fin 16384) (d : Fin 128) : V m c main_v30 (ix2 l d) = sinAt l d := by
  rw [show V m c main_v30 = concatenate S16384x128 1 [⟨S16384x64, (Host.negf (F := Ideal)
    (Reference10Ideal.Read.val_main_v49 (F := Ideal)) :
    Vec Ideal S16384x64 .f32)⟩,
    ⟨S16384x64, Reference10Ideal.Read.val_main_v49 (F := Ideal)⟩] concatenates_S16384x64_S16384x64_S16384x128_d1
    from rfl]
  pointwise []
  unfold sinAt
  by_cases h : d.val < 64
  · rw [dif_pos h, if_pos h]
    exact congrArg (fun z => -Reference10Ideal.Read.val_main_v49 (F := Ideal) (ix2 l z))
      (Fin.ext (Nat.mod_eq_of_lt h).symm)
  · rw [dif_neg h, if_neg h]
    exact congrArg (fun z => Reference10Ideal.Read.val_main_v49 (F := Ideal) (ix2 l z))
      (Fin.ext (by simp only [half]; omega))

/-- The result's column of the step's block. -/
def col (d : Fin 1024) : Fin 3072 := ⟨1024 * (t.val % 3) + d.val, by omega⟩

/-- Whether the step computes queries, keys or values. -/
def kind : Fin 3 := ⟨t.val % 3, by omega⟩

/-- The position in its sequence of the step's row `a`. -/
def pos (a : Fin 1024) : Fin 16384 := ⟨1024 * (t.val / 3 % 16) + a.val, by omega⟩

theorem col_hcol (h : Fin 8) (d : Fin 128) : col t (hcol h d) = colAt (kind t) h d :=
  Fin.ext (by simp only [col, hcol, colAt, kind]; omega)

theorem row_pos (a : Fin 1024) : rowIn (t.val / 3) a = rowOf ⟨t.val / 3 % 32 / 16, by omega⟩ (pos t a) :=
  Fin.ext (by simp only [rowIn, rowOf, pos]; omega)

/-- The step's blocks of weights, gains and angles. -/
theorem blk_weights (k : Fin 2048) (d : Fin 1024) : iblk m c 3 t (ix2 k d) = argW m c (ix2 k (wcol (col t d))) := by
  blk_simp [iblk]
  refine Eq.trans (congrArg _ ?_) (weights m c k (col t d))
  blk_ext [index3] <;> simp only [col] <;> omega

theorem blk_gains (ht : t.val % 3 ≤ 1) (d : Fin 128) : iblk m c 4 t (ix3 0 0 d) = gains (argQ m c) (argK m c) (kind t)
    d := by
  blk_simp [iblk]
  refine Eq.trans (congrArg _ ?_) (gains0 m c ⟨t.val % 3, by omega⟩ d)
  blk_ext [index4] <;> omega

theorem blk_cos (a : Fin 1024) (d : Fin 128) : iblk m c 5 t (ix2 a d) = cosAt (pos t a) d := by
  blk_simp [iblk]
  refine Eq.trans (congrArg _ ?_) (cosines m c (pos t a) d)
  blk_ext [index5] <;> simp only [pos] <;> omega

theorem blk_sin (a : Fin 1024) (d : Fin 128) : iblk m c 6 t (ix2 a d) = sinAt (pos t a) d := by
  blk_simp [iblk]
  refine Eq.trans (congrArg _ ?_) (sines m c (pos t a) d)
  blk_ext [index6] <;> simp only [pos] <;> omega

/-- The normalized rows of a step's row block, from the blocks of residual, modulation and gain. -/
theorem blk_rows : normBlk (iblk m c 0 t) (modRow 3 (iblk m c 1 t)) (modRow 4 (iblk m c 1 t)) (iblk m c 2 t)
    = normRows (argX m c) (argM m c) (argG m c) (t.val / 3) := by
  refine normBlk_eq _ _ _ _ _ _ _ (fun a k => ?_) (fun n a d => ?_) fun d => ?_
  · blk_simp [iblk]
    rw [V_main_arg0]
    refine congrArg _ ?_
    blk_ext [index0] <;> simp only [rowIn] <;> omega
  · blk_simp [iblk]
    rw [V_main_arg1]
    refine congrArg _ ?_
    blk_ext [index1] <;> simp only [rowIn, seqOf] <;> omega
  · blk_simp [iblk]
    rw [V_main_arg2]
    refine congrArg _ ?_
    blk_ext [index2] <;> omega

/-- What a step leaves in the result's block, from the buffer's contents. -/
def stepOut (H : Vec Ideal S1024x2048 .bf16) : Vec Ideal S1x1x1024x1024 .bf16 := flat fun h =>
  if t.val % 3 ≤ 1 then turn (iblk m c 4 t) (iblk m c 5 t) (iblk m c 6 t) (part h H (iblk m c 3 t))
  else part h H (iblk m c 3 t)

/-- What every step leaves in the result's block and in the buffer. -/
theorem outs (n : ℕ) (hn : n < cfg0.N) : outsAt0 m c n hn
    = (stepOut m c ⟨n, hn⟩ (normRows (argX m c) (argM m c) (argG m c) (n / 3)),
      normRows (argX m c) (argM m c) (argG m c) (n / 3)) := by
  refine stepsOut (p := 3) _ (fun H t => stepOut m c t H) (outsAt0 m c) (fun n hn h0 => ?_) (fun n hn h0 => ?_) n hn
  · have h1 : n % 3 ≤ 1 := by omega
    rw [outsAt0_A m c ⟨n, hn⟩ h0 h1, first_out, first_rows, blk_rows]
    simp only [stepOut, if_pos h1]
  · by_cases h1 : (n + 1) % 3 ≤ 1
    · rw [outsAt0_B m c ⟨n + 1, hn⟩ h0 h1, second]
      simp only [stepOut, if_pos h1]
      rfl
    · rw [outsAt0_C m c ⟨n + 1, hn⟩ h0 h1, later]
      simp only [stepOut, if_neg h1]
      rfl

/-- A head of the step's product. -/
theorem part_dot (h : Fin 8) (a : Fin 1024) (d : Fin 128) :
    part h (normRows (argX m c) (argM m c) (argG m c) (t.val / 3)) (iblk m c 3 t) (ix3 0 a d)
      = dot (argX m c) (argM m c) (argG m c) (argW m c) (rowOf ⟨t.val / 3 % 32 / 16, by omega⟩ (pos t a))
        (colAt (kind t) h d) := by
  rw [part_apply, ← row_pos, ← col_hcol]
  simp only [blk_weights]
  rfl

/-- The array after the run. -/
theorem array_qkv : (dats m 0 c).arrAt 7 cfg0.N = qkv (argX m c) (argM m c) (argG m c) (argW m c)
    (argQ m c) (argK m c) := by
  refine (dats m 0 c).arrAt_eq_of_covers 7 _ (by decide +kernel) fun t hf y => ?_
  obtain ⟨a, h, d, rfl⟩ : ∃ (a : Fin 1024) (h : Fin 8) (d : Fin 128), y = ix4 0 0 a (hcol h d) := by
    obtain ⟨a, j, e⟩ := exists_row_col (n := 1024) (k := 1024) y
    obtain ⟨h, d, rfl⟩ := exists_hcol j
    exact ⟨a, h, d, e⟩
  have e : ((View.whole main_v35).slice (win0_7.rect t)).emb (ix4 0 0 a (hcol h d))
      = ix4 ⟨t.val / 3 % 32 / 16, by omega⟩ 0 (pos t a) (colAt (kind t) h d) := by
    blk_ext [index7] <;> simp only [pos, colAt, kind, hcol] <;> omega
  blk_simp
  rw [after0_7, outs, e, qkv_apply]
  unfold stepOut entry
  dsimp only
  rw [flat_apply]
  by_cases ht : t.val % 3 ≤ 1
  · rw [if_pos ht, if_pos (show (kind t).val ≤ 1 from ht), turn_apply]
    simp only [part_dot, blk_gains m c t ht, blk_cos, blk_sin]
  · rw [if_neg ht, if_neg (show ¬(kind t).val ≤ 1 from ht), part_dot]

end Cert.Dsa

end
-- ==== Proof.Mixer.DsaRef.lean ====
module

public import proofs.«01_k».proof.Proof.Mixer.DsaSpec
public import proofs.«01_k».proof.Proof.Mixer.InRef

@[expose] public section

/-!
# The dilated mixer's queries, keys and values, as the reference computes them
-/

set_option maxRecDepth 16384

noncomputable section

namespace Cert.Dsa

open Idealize.ShloMosaic Cert.Ffn Cert.Mixer Cert.Reference10Ideal Cert.Reference10Ideal.Gen Cert.Reference10Ideal.Read

variable (X : Vec Ideal S32768x2048 .f32) (M : Vec Ideal S2x9x2048 .f32) (G : Vec Ideal S1x2048 .f32)
  (W : Vec Ideal S2048x9216 .f32) (Q K : Vec Ideal S3x128 .f32) (b : Fin 2) (l : Fin 16384)

/-- The product with the weights. -/
theorem product (j : Fin 9216) : val_main_v27 (F := Ideal) X M G W (ix3 b l j)
    = rowDot X M G (fun k j => W (ix2 k j)) (rowOf b l) j := by
  rw [val_main_v27_apply]
  refine Finset.sum_congr rfl fun k _ => ?_
  rw [show lidx_main_v27 (ix3 b l j) k = ix3 b l k from
      funext fun a => match a with | ⟨0, _⟩ => rfl | ⟨1, _⟩ => rfl | ⟨2, _⟩ => rfl,
    show ridx_main_v27 (ix3 b l j) k = ix2 k j from funext fun a => match a with | ⟨0, _⟩ => rfl | ⟨1, _⟩ => rfl]
  exact congrArg (· * _) (norm_mixer X M G b l k)

/-- The first group's part of it. -/
theorem proj (n : Fin 3) (h : Fin 8) (d : Fin 128) : val_main_v30 (F := Ideal) X M G W (ix5 b l n h d)
    = dot X M G W (rowOf b l) (colAt n h d) := by
  unfold val_main_v30 val_main_v29 val_main_v28
  pointwise []
  refine (congrArg (fun j => val_main_v27 (F := Ideal) X M G W (ix3 b l j)) (Fin.ext ?_ : _ = wcol (colAt n h d))).trans
    (product X M G W b l (wcol (colAt n h d)))
  simp only [wcol, colAt]
  omega

/-- A head before it is turned. -/
def normed (n : Fin 3) (g : Fin 128 → EReal) (h : Fin 8) (d : Fin 128) : EReal :=
  unitEntry (∑ e, dot X M G W (rowOf b l) (colAt n h e) * dot X M G W (rowOf b l) (colAt n h e))
    (dot X M G W (rowOf b l) (colAt n h d)) (g d)

/-- Queries and keys before they are turned. -/
theorem queries (h : Fin 8) (d : Fin 128) : val_main_v67 (F := Ideal) X M G W Q (ix4 b l h d)
    = normed X M G W b l 0 (fun d => Q (ix2 0 d)) h d := by
  unfold val_main_v67 val_main_v66 val_main_v65 val_main_v64 val_main_v63 val_main_v62 val_main_v61 val_main_v60
    val_main_v59 val_main_v58 val_main_v57 val_main_v56 val_main_v55 val_main_v54 val_main_v53 val_main_v52 val_main_v51
  pointwise [proj]
  rw [val_main_cst_7_apply, val_main_cst_8_apply, val_main_cst_9_apply]
  refine (congrArg (fun z => _ * Ideal.rsqrt (Ideal.div (z + _) _ + _) * _) Ideal.ofBits_zero_f32).trans ?_
  rw [zero_add]
  rfl

theorem keys (h : Fin 8) (d : Fin 128) : val_main_v99 (F := Ideal) X M G W K (ix4 b l h d)
    = normed X M G W b l 1 (fun d => K (ix2 0 d)) h d := by
  unfold val_main_v99 val_main_v98 val_main_v97 val_main_v96 val_main_v95 val_main_v94 val_main_v93 val_main_v92
    val_main_v91 val_main_v90 val_main_v89 val_main_v88 val_main_v87 val_main_v86 val_main_v85 val_main_v84 val_main_v83
  pointwise [proj]
  rw [val_main_cst_11_apply, val_main_cst_12_apply, val_main_cst_13_apply]
  refine (congrArg (fun z => _ * Ideal.rsqrt (Ideal.div (z + _) _ + _) * _) Ideal.ofBits_zero_f32).trans ?_
  rw [zero_add]
  rfl

/-- The queries' scale is a positive number. -/
theorem scale_nonneg : 0 ≤ Ideal.ofBits .f32 0x3DB504F3#32 := by
  simp [Ideal.ofBits, Ideal.ieee]
  rw [← EReal.coe_mul]
  exact EReal.coe_nonneg.mpr (by positivity)

theorem scale_ne_top : Ideal.ofBits .f32 0x3DB504F3#32 ≠ ⊤ := by
  simp [Ideal.ofBits, Ideal.ieee]
  rw [← EReal.coe_mul]
  exact EReal.coe_ne_top _

/-- A head turned by halves. -/
theorem turned (u : Fin 128 → EReal) (d : Fin 128) :
    (if h : d.val < 64 then u ⟨d.val, by omega⟩ * val_main_v47 (F := Ideal) (ix2 l ⟨d.val, h⟩)
        - u ⟨64 + d.val, by omega⟩ * val_main_v49 (F := Ideal) (ix2 l ⟨d.val, h⟩)
      else u ⟨64 + (d.val - 64), by omega⟩ * val_main_v47 (F := Ideal) (ix2 l ⟨d.val - 64, by omega⟩)
        + u ⟨d.val - 64, by omega⟩ * val_main_v49 (F := Ideal) (ix2 l ⟨d.val - 64, by omega⟩))
      = u d * cosAt l d + u (other d) * sinAt l d := by
  unfold cosAt sinAt
  by_cases h : d.val < 64
  · rw [dif_pos h, if_pos h, sub_eq_add_neg, ← mul_neg, show half d = ⟨d.val, h⟩ from Fin.ext (Nat.mod_eq_of_lt h),
      show other d = ⟨64 + d.val, by omega⟩ from Fin.ext (by simp only [other]; omega)]
  · rw [dif_neg h, if_neg h, show half d = ⟨d.val - 64, by omega⟩ from Fin.ext (by simp only [half]; omega),
      show other d = ⟨d.val - 64, by omega⟩ from Fin.ext (by simp only [other]; omega),
      show (⟨64 + (d.val - 64), by omega⟩ : Fin 128) = d from Fin.ext (by show 64 + (d.val - 64) = d.val; omega)]

/-- Queries, keys and values. -/
theorem rope_q (h : Fin 8) (d : Fin 128) : val_main_v82 (F := Ideal) X M G W Q (ix4 b l h d)
    = entry X M G W Q K b l 0 h d := by
  unfold val_main_v82 val_main_v81 val_main_v80 val_main_v79 val_main_v78 val_main_v77 val_main_v76 val_main_v75
    val_main_v74 val_main_v73 val_main_v72 val_main_v71 val_main_v70 val_main_v69 val_main_v68 val_main_v50 val_main_v48
  pointwise [queries]
  rw [val_main_cst_10_apply]
  refine (congrArg (· * _) (turned l (normed X M G W b l 0 (fun d => Q (ix2 0 d)) h) d)).trans ?_
  refine (EReal.right_distrib_of_nonneg_of_ne_top scale_nonneg scale_ne_top _ _).trans ?_
  rw [mul_right_comm _ (cosAt l d), mul_right_comm _ (sinAt l d)]
  refine Eq.trans ?_ (if_pos (by decide)).symm
  unfold turnEntry
  rw [show gains Q K 0 = fun d => Q (ix2 0 d) * Ideal.ofBits .f32 0x3DB504F3#32 from funext fun d => if_pos (by decide)]
  simp only [normed, unitEntry, mul_assoc]

theorem rope_k (h : Fin 8) (d : Fin 128) : val_main_v112 (F := Ideal) X M G W K (ix4 b l h d)
    = entry X M G W Q K b l 1 h d := by
  unfold val_main_v112 val_main_v111 val_main_v110 val_main_v109 val_main_v108 val_main_v107 val_main_v106
    val_main_v105 val_main_v104 val_main_v103 val_main_v102 val_main_v101 val_main_v100 val_main_v50 val_main_v48
  pointwise [keys]
  refine (turned l (normed X M G W b l 1 (fun d => K (ix2 0 d)) h) d).trans ?_
  exact (if_pos (by decide)).symm

theorem values (h : Fin 8) (d : Fin 128) : val_main_v114 (F := Ideal) X M G W (ix4 b l h d)
    = entry X M G W Q K b l 2 h d := by
  unfold val_main_v114 val_main_v113
  pointwise [proj]
  exact (if_neg (by decide)).symm

/-- A head's entry, before the heads are stacked. -/
theorem at_head (e : Fin 1) (h : Fin 8) (d : Fin 128) : idx_main_v115 (ix5 b l e h d) = ix4 b l h d :=
  funext fun a => match a with | ⟨0, _⟩ => rfl | ⟨1, _⟩ => rfl | ⟨2, _⟩ => rfl | ⟨3, _⟩ => rfl

/-- Queries, keys and values beside each other. -/
theorem stacked (n : Fin 3) (h : Fin 8) (d : Fin 128) : val_main_v118 (F := Ideal) X M G W Q K (ix5 b l n h d)
    = entry X M G W Q K b l n h d := by
  unfold val_main_v118
  pointwise []
  match n with
  | 0 =>
    refine (dif_pos (by decide)).trans ((val_main_v115_apply ..).trans (Eq.trans ?_ (rope_q X M G W Q K b l h d)))
    exact congrArg (val_main_v82 (F := Ideal) X M G W Q) (at_head b l _ h d)
  | 1 =>
    refine (dif_neg (by decide)).trans ((dif_pos (by decide)).trans ((val_main_v116_apply ..).trans
      (Eq.trans ?_ (rope_k X M G W Q K b l h d))))
    exact congrArg (val_main_v112 (F := Ideal) X M G W K) (at_head b l _ h d)
  | 2 =>
    refine (dif_neg (by decide)).trans ((dif_neg (by decide)).trans ((val_main_v117_apply ..).trans
      (Eq.trans ?_ (values X M G W Q K b l h d))))
    exact congrArg (val_main_v114 (F := Ideal) X M G W) (at_head b l _ h d)

/-- The result. -/
theorem ref_qkv : val_main_v121 (F := Ideal) X M G W Q K = qkv X M G W Q K := by
  funext i
  obtain ⟨b, l, j, rfl⟩ : ∃ (b : Fin 2) (l : Fin 16384) (j : Fin 3072), i = ix4 b 0 l j :=
    ⟨i 0, i 2, i 3, funext fun a => match a with
      | ⟨0, _⟩ => rfl | ⟨1, _⟩ => Subsingleton.elim (α := Fin 1) (i 1) 0 | ⟨2, _⟩ => rfl | ⟨3, _⟩ => rfl⟩
  obtain ⟨n, h, d, rfl⟩ := exists_colAt j
  rw [qkv_apply, ← stacked, val_main_v121_apply, val_main_v120_apply, val_main_v119_apply]
  refine congrArg (val_main_v118 (F := Ideal) X M G W Q K) (funext fun a => Fin.ext ?_)
  match a with
  | ⟨0, _⟩ =>
    show (((b.val * 16384 + l.val) * 1 + 0) * 3072 + (1024 * n.val + 128 * h.val + d.val)) / 50331648 = b.val
    omega
  | ⟨1, _⟩ =>
    show (((b.val * 16384 + l.val) * 1 + 0) * 3072 + (1024 * n.val + 128 * h.val + d.val)) / 3072 % 16384 = l.val
    omega
  | ⟨2, _⟩ =>
    show (((b.val * 16384 + l.val) * 1 + 0) * 3072 + (1024 * n.val + 128 * h.val + d.val)) / 1024 % 3 = n.val
    omega
  | ⟨3, _⟩ =>
    show (((b.val * 16384 + l.val) * 1 + 0) * 3072 + (1024 * n.val + 128 * h.val + d.val)) / 128 % 8 = h.val
    omega
  | ⟨4, _⟩ =>
    show (((b.val * 16384 + l.val) * 1 + 0) * 3072 + (1024 * n.val + 128 * h.val + d.val)) % 128 = d.val
    omega

end Cert.Dsa

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Attn.Array
public import proofs.«01_k».proof.Proof.Attn.Ref
public import proofs.«01_k».proof.Proof.Ffn.In
public import proofs.«01_k».proof.Proof.Ffn.InRef
public import proofs.«01_k».proof.Proof.Ffn.Out
public import proofs.«01_k».proof.Proof.Ffn.OutRef
public import proofs.«01_k».proof.Proof.Ffn.InAfter
public import proofs.«01_k».proof.Proof.Ffn.InRefAfter
public import proofs.«01_k».proof.Proof.Ffn.OutAfter
public import proofs.«01_k».proof.Proof.Ffn.OutRefAfter
public import proofs.«01_k».proof.Proof.Mixer.In
public import proofs.«01_k».proof.Proof.Mixer.Gla
public import proofs.«01_k».proof.Proof.Mixer.InRef
public import proofs.«01_k».proof.Proof.Mixer.Out
public import proofs.«01_k».proof.Proof.Mixer.OutRef
public import proofs.«01_k».proof.Proof.Mixer.GlaOut
public import proofs.«01_k».proof.Proof.Mixer.GlaOutRef
public import proofs.«01_k».proof.Proof.Mixer.Dsa
public import proofs.«01_k».proof.Proof.Mixer.DsaRef
public import Idealize.ShloMosaic.Adequacy
public import Idealize.ShloMosaic.Init

@[expose] public section

noncomputable section

namespace Cert.Proof

open Idealize.ShloMosaic Idealize.SL.Sem Cert.Kernel

/-- The reference runs, leaves its argument alone and ends with every semaphore counter at zero. -/
theorem frame_ref : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

/-- Kernel and reference end with the same attention outputs and the same logarithms of the softmax denominators. -/
theorem attn_value : Cert.algebraic_KernelIdeal_ReferenceIdeal (hKernelIdeal := Cert.KernelIdeal.Gen.facts)
    (hReferenceIdeal := Cert.ReferenceIdeal.Gen.facts) := fun m g m' g' _ hm =>
  ⟨fun c => Cert.Attn.seqOut (Cert.Attn.arg m c), fun c => Cert.Attn.seqLse (Cert.Attn.arg m c),
    (θ_run _ _ _).mono (fun _ h c => ⟨(h c).1.trans (Cert.Attn.array_out m c),
      (h c).2.1.trans (Cert.Attn.array_lse m c), (h c).2.2⟩) (Cert.KernelIdeal.Value.run_blocks m g),
    (θ_run _ _ _).mono (fun _ h c => ⟨
      ((h c).1.trans (Cert.ReferenceIdeal.Read.val_main_v48_eq m' c)).trans
        ((Cert.Attn.ref_out _).trans (congrArg Cert.Attn.seqOut (hm c))),
      ((h c).2.1.trans (Cert.ReferenceIdeal.Read.val_main_v52_eq m' c)).trans
        ((Cert.Attn.ref_lses _).trans (congrArg Cert.Attn.seqLse (hm c))),
      (h c).2.2⟩) (Cert.ReferenceIdeal.Value.run (F := Ideal) m' g')⟩

theorem frame_ref2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run (F := Ideal) m g)

theorem frame_ref3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run (F := Ideal) m g)

/-- Kernel and reference end with the same activations of the feed-forward half-step. -/
theorem ffnIn_value : Cert.algebraic_Kernel2Ideal_Reference2Ideal (hKernel2Ideal := Cert.Kernel2Ideal.Gen.facts)
    (hReference2Ideal := Cert.Reference2Ideal.Gen.facts) := fun m g m' g' _ hm =>
  ⟨fun c => Cert.Ffn.ffnIn 0 1 (Cert.FfnIn.argX m c) (Cert.FfnIn.argM m c) (Cert.FfnIn.argG m c) (Cert.FfnIn.argW m c),
    (θ_run _ _ _).mono (fun _ h c => ⟨(h c).1.trans (Cert.FfnIn.array_ffnIn m c), (h c).2⟩)
      (Cert.Kernel2Ideal.Value.run_blocks m g),
    (θ_run _ _ _).mono (fun _ h c => ⟨((h c).1.trans (Cert.Reference2Ideal.Read.val_main_v33_eq m' c)).trans (by
        rw [(hm c).1, (hm c).2.1, (hm c).2.2.1, (hm c).2.2.2]
        exact Cert.FfnIn.ref_ffnIn _ _ _ _), (h c).2⟩) (Cert.Reference2Ideal.Value.run (F := Ideal) m' g')⟩

/-- Kernel and reference end with the same result of the feed-forward half-step. -/
theorem ffnOut_value : Cert.algebraic_Kernel3Ideal_Reference3Ideal (hKernel3Ideal := Cert.Kernel3Ideal.Gen.facts)
    (hReference3Ideal := Cert.Reference3Ideal.Gen.facts) := fun m g m' g' _ hm =>
  ⟨fun c => Cert.Ffn.ffnOut 2 (Cert.Ffn.argA m c) (Cert.Ffn.argW m c) (Cert.Ffn.argX m c) (Cert.Ffn.argM m c),
    (θ_run _ _ _).mono (fun _ h c => ⟨(h c).1.trans (Cert.Ffn.array_ffnOut m c), (h c).2⟩)
      (Cert.Kernel3Ideal.Value.run_blocks m g),
    (θ_run _ _ _).mono (fun _ h c => ⟨((h c).1.trans (Cert.Reference3Ideal.Read.val_main_v12_eq _ _ _ _)).trans (by
        rw [(hm c).1, (hm c).2.1, (hm c).2.2.1, (hm c).2.2.2]
        exact Cert.Ffn.ref_ffnOut _ _ _ _), (h c).2⟩) (Cert.Reference3Ideal.Value.run (F := Ideal) m' g')⟩

theorem frame_ref4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run (F := Ideal) m g)

theorem frame_ref5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run (F := Ideal) m g)

/-- The same two for the step after the mixer. -/
theorem ffnIn_after_value : Cert.algebraic_Kernel4Ideal_Reference4Ideal (hKernel4Ideal := Cert.Kernel4Ideal.Gen.facts)
    (hReference4Ideal := Cert.Reference4Ideal.Gen.facts) := fun m g m' g' _ hm =>
  ⟨fun c => Cert.Ffn.ffnIn 6 7 (Cert.FfnIn.argX m c) (Cert.FfnIn.argM m c) (Cert.FfnIn.argG m c) (Cert.FfnIn.argW m c),
    (θ_run _ _ _).mono (fun _ h c => ⟨(h c).1.trans (Cert.InAfter.array_ffnIn m c), (h c).2⟩)
      (Cert.Kernel4Ideal.Value.run_blocks m g),
    (θ_run _ _ _).mono (fun _ h c => ⟨((h c).1.trans (Cert.Reference4Ideal.Read.val_main_v33_eq m' c)).trans (by
        rw [(hm c).1, (hm c).2.1, (hm c).2.2.1, (hm c).2.2.2]
        exact Cert.InAfter.ref_ffnIn _ _ _ _), (h c).2⟩) (Cert.Reference4Ideal.Value.run (F := Ideal) m' g')⟩

theorem ffnOut_after_value : Cert.algebraic_Kernel5Ideal_Reference5Ideal (hKernel5Ideal := Cert.Kernel5Ideal.Gen.facts)
    (hReference5Ideal := Cert.Reference5Ideal.Gen.facts) := fun m g m' g' _ hm =>
  ⟨fun c => Cert.Ffn.ffnOut 8 (Cert.Ffn.argA m c) (Cert.Ffn.argW m c) (Cert.Ffn.argX m c) (Cert.Ffn.argM m c),
    (θ_run _ _ _).mono (fun _ h c => ⟨(h c).1.trans (Cert.OutAfter.array_ffnOut m c), (h c).2⟩)
      (Cert.Kernel5Ideal.Value.run_blocks m g),
    (θ_run _ _ _).mono (fun _ h c => ⟨((h c).1.trans (Cert.Reference5Ideal.Read.val_main_v12_eq _ _ _ _)).trans (by
        rw [(hm c).1, (hm c).2.1, (hm c).2.2.1, (hm c).2.2.2]
        exact Cert.OutAfter.ref_ffnOut _ _ _ _), (h c).2⟩) (Cert.Reference5Ideal.Value.run (F := Ideal) m' g')⟩

theorem frame_ref6 : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run (F := Ideal) m g)

theorem frame_ref7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run (F := Ideal) m g)

theorem frame_ref8 : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run (F := Ideal) m g)

/-- Kernel and reference end with the same result of the S5 mixer's input product. -/
theorem s5In_value : Cert.algebraic_Kernel6Ideal_Reference6Ideal (hKernel6Ideal := Cert.Kernel6Ideal.Gen.facts)
    (hReference6Ideal := Cert.Reference6Ideal.Gen.facts) := fun m g m' g' _ hm =>
  ⟨fun c => Cert.Mixer.s5In (Cert.S5In.argX m c) (Cert.S5In.argM m c) (Cert.S5In.argG m c) (Cert.S5In.argW m c),
    (θ_run _ _ _).mono (fun _ h c => ⟨(h c).1.trans (Cert.S5In.array_s5In m c), (h c).2⟩)
      (Cert.Kernel6Ideal.Value.run_blocks m g),
    (θ_run _ _ _).mono (fun _ h c => ⟨((h c).1.trans (Cert.Reference6Ideal.Read.val_main_v28_eq _ _ _ _)).trans (by
        rw [(hm c).1, (hm c).2.1, (hm c).2.2.1, (hm c).2.2.2]
        exact Cert.Mixer.ref_s5In _ _ _ _), (h c).2⟩) (Cert.Reference6Ideal.Value.run (F := Ideal) m' g')⟩

/-- Kernel and reference end with the same result of the S5 mixer. -/
theorem s5Out_value : Cert.algebraic_Kernel7Ideal_Reference7Ideal (hKernel7Ideal := Cert.Kernel7Ideal.Gen.facts)
    (hReference7Ideal := Cert.Reference7Ideal.Gen.facts) := fun m g m' g' _ hm =>
  ⟨fun c => Cert.Mixer.s5Out (Cert.S5Out.argY m c) (Cert.S5Out.argW m c) (Cert.S5Out.argX m c) (Cert.S5Out.argM m c),
    (θ_run _ _ _).mono (fun _ h c => ⟨(h c).1.trans (Cert.S5Out.array_s5Out m c), (h c).2⟩)
      (Cert.Kernel7Ideal.Value.run_blocks m g),
    (θ_run _ _ _).mono (fun _ h c => ⟨((h c).1.trans (Cert.Reference7Ideal.Read.val_main_v31_eq _ _ _ _)).trans (by
        rw [(hm c).1, (hm c).2.1, (hm c).2.2.1, (hm c).2.2.2]
        exact Cert.S5Out.ref_s5Out _ _ _ _), (h c).2⟩) (Cert.Reference7Ideal.Value.run (F := Ideal) m' g')⟩

/-- Kernel and reference end with the same result of the GLA mixer's input product. -/
theorem glaIn_value : Cert.algebraic_Kernel8Ideal_Reference8Ideal (hKernel8Ideal := Cert.Kernel8Ideal.Gen.facts)
    (hReference8Ideal := Cert.Reference8Ideal.Gen.facts) := fun m g m' g' _ hm =>
  ⟨fun c => Cert.Mixer.glaIn (Cert.GlaIn.argX m c) (Cert.GlaIn.argM m c) (Cert.GlaIn.argG m c) (Cert.GlaIn.argW m c),
    (θ_run _ _ _).mono (fun _ h c => ⟨(h c).1.trans (Cert.GlaIn.array_glaIn m c), (h c).2⟩)
      (Cert.Kernel8Ideal.Value.run_blocks m g),
    (θ_run _ _ _).mono (fun _ h c => ⟨((h c).1.trans (Cert.Reference8Ideal.Read.val_main_v30_eq _ _ _ _)).trans (by
        rw [(hm c).1, (hm c).2.1, (hm c).2.2.1, (hm c).2.2.2]
        exact Cert.Mixer.ref_glaIn _ _ _ _), (h c).2⟩) (Cert.Reference8Ideal.Value.run (F := Ideal) m' g')⟩

theorem frame_ref9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run (F := Ideal) m g)

/-- Kernel and reference end with the same result of the GLA mixer. -/
theorem glaOut_value : Cert.algebraic_Kernel9Ideal_Reference9Ideal (hKernel9Ideal := Cert.Kernel9Ideal.Gen.facts)
    (hReference9Ideal := Cert.Reference9Ideal.Gen.facts) := fun m g m' g' _ hm =>
  ⟨fun c => Cert.GlaOut.glaOut (Cert.GlaOut.argA m c) (Cert.GlaOut.argB m c) (Cert.GlaOut.argP m c) (Cert.GlaOut.argG m c)
      (Cert.GlaOut.argW m c) (Cert.GlaOut.argX m c) (Cert.GlaOut.argM m c),
    (θ_run _ _ _).mono (fun _ h c => ⟨(h c).1.trans (Cert.GlaOut.array_glaOut m c), (h c).2⟩)
      (Cert.Kernel9Ideal.Value.run_blocks m g),
    (θ_run _ _ _).mono (fun _ h c => ⟨((h c).1.trans (Cert.Reference9Ideal.Read.val_main_v30_eq _ _ _ _ _ _ _)).trans (by
        rw [(hm c).1, (hm c).2.1, (hm c).2.2.1, (hm c).2.2.2.1, (hm c).2.2.2.2.1, (hm c).2.2.2.2.2.1, (hm c).2.2.2.2.2.2]
        exact Cert.GlaOut.ref_glaOut _ _ _ _ _ _ _), (h c).2⟩) (Cert.Reference9Ideal.Value.run (F := Ideal) m' g')⟩

theorem frame_ref10 : Cert.quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run (F := Ideal) m g)

/-- Kernel and reference end with the same queries, keys and values of the dilated mixer's first group. -/
theorem qkv_value : Cert.algebraic_Kernel10Ideal_Reference10Ideal (hKernel10Ideal := Cert.Kernel10Ideal.Gen.facts)
    (hReference10Ideal := Cert.Reference10Ideal.Gen.facts) := fun m g m' g' _ hm =>
  ⟨fun c => Cert.Dsa.qkv (Cert.Dsa.argX m c) (Cert.Dsa.argM m c) (Cert.Dsa.argG m c) (Cert.Dsa.argW m c) (Cert.Dsa.argQ m c)
      (Cert.Dsa.argK m c),
    (θ_run _ _ _).mono (fun _ h c => ⟨(h c).1.trans (Cert.Dsa.array_qkv m c), (h c).2⟩)
      (Cert.Kernel10Ideal.Value.run_blocks m g),
    (θ_run _ _ _).mono (fun _ h c => ⟨((h c).1.trans (Cert.Reference10Ideal.Read.val_main_v121_eq _ _)).trans (by
        rw [(hm c).1, (hm c).2.1, (hm c).2.2.1, (hm c).2.2.2.1, (hm c).2.2.2.2.1, (hm c).2.2.2.2.2]
        exact Cert.Dsa.ref_qkv _ _ _ _ _ _), (h c).2⟩) (Cert.Reference10Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  fun m g _ => Cert.Kernel.Gen.frame m g, fun m g _ => Cert.KernelIdeal.Gen.frame m g, frame_ref,
  fun m g _ => Cert.Kernel2.Gen.frame m g, fun m g _ => Cert.Kernel2Ideal.Gen.frame m g, frame_ref2,
  fun m g _ => Cert.Kernel3.Gen.frame m g, fun m g _ => Cert.Kernel3Ideal.Gen.frame m g, frame_ref3,
  fun m g _ => Cert.Kernel4.Gen.frame m g, fun m g _ => Cert.Kernel4Ideal.Gen.frame m g, frame_ref4,
  fun m g _ => Cert.Kernel5.Gen.frame m g, fun m g _ => Cert.Kernel5Ideal.Gen.frame m g, frame_ref5,
  fun m g _ => Cert.Kernel6.Gen.frame m g, fun m g _ => Cert.Kernel6Ideal.Gen.frame m g, frame_ref6,
  fun m g _ => Cert.Kernel7.Gen.frame m g, fun m g _ => Cert.Kernel7Ideal.Gen.frame m g, frame_ref7,
  fun m g _ => Cert.Kernel8.Gen.frame m g, fun m g _ => Cert.Kernel8Ideal.Gen.frame m g, frame_ref8,
  fun m g _ => Cert.Kernel9.Gen.frame m g, fun m g _ => Cert.Kernel9Ideal.Gen.frame m g, frame_ref9,
  fun m g _ => Cert.Kernel10.Gen.frame m g, fun m g _ => Cert.Kernel10Ideal.Gen.frame m g, frame_ref10,
  IdealRules.named_const.statement Cert.KernelIdeal.κ "mask" .f32 0xF149F2CA#32 ⊥ rfl, attn_value,
  trivial, ffnIn_value, trivial, ffnOut_value, trivial, ffnIn_after_value, trivial, ffnOut_after_value,
  trivial, s5In_value, trivial, s5Out_value, trivial, glaIn_value, trivial, glaOut_value, trivial, qkv_value⟩

end Cert.Proof

end
